-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v138) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)) (v5 : (c : Dev Cert.Kernel3Ideal.nD) → Buf (Elt Ideal) ((c.tc : Thread Cert.Kernel3Ideal.nD Cert.Kernel3Ideal.τ).loc Cert.Kernel3Ideal.main_v8_5)) (v6 : (c : Dev Cert.Kernel3Ideal.nD) → Buf (Elt Ideal) ((c.tc : Thread Cert.Kernel3Ideal.nD Cert.Kernel3Ideal.τ).loc Cert.Kernel3Ideal.main_v8_6)) (v7 : (c : Dev Cert.Kernel3Ideal.nD) → Buf (Elt Ideal) ((c.tc : Thread Cert.Kernel3Ideal.nD Cert.Kernel3Ideal.τ).loc Cert.Kernel3Ideal.main_v8_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_v8_5) = v5 c
          ∧ r.2.mem ((c.tc : Thread Cert.Kernel3Ideal.nD Cert.Kernel3Ideal.τ).loc Cert.Kernel3Ideal.main_v8_6) = v6 c
          ∧ r.2.mem ((c.tc : Thread Cert.Kernel3Ideal.nD Cert.Kernel3Ideal.τ).loc Cert.Kernel3Ideal.main_v8_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_v48) = v3 c
          ∧ r.2.mem ((c.tc : Thread Cert.Reference3Ideal.nD Cert.Reference3Ideal.τ).loc Cert.Reference3Ideal.main_v50) = v4 c
          ∧ r.2.mem ((c.tc : Thread Cert.Reference3Ideal.nD Cert.Reference3Ideal.τ).loc Cert.Reference3Ideal.main_v52) = v5 c
          ∧ r.2.mem ((c.tc : Thread Cert.Reference3Ideal.nD Cert.Reference3Ideal.τ).loc Cert.Reference3Ideal.main_v54) = v6 c
          ∧ r.2.mem ((c.tc : Thread Cert.Reference3Ideal.nD Cert.Reference3Ideal.τ).loc Cert.Reference3Ideal.main_v56) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S32768x256 : Shape := ⟨2, ![32768, 256]⟩
abbrev S32768x128 : Shape := ⟨2, ![32768, 128]⟩
abbrev S16x128 : Shape := ⟨2, ![16, 128]⟩
abbrev S128 : Shape := ⟨1, ![128]⟩
abbrev S_ : Shape := ⟨0, ![]⟩

class Facts : Prop where
  bitsLt_bf16_f32 : FTy.bits .bf16 < FTy.bits .f32
  bcast_S_S32768x256 : S_.BroadcastsInDim S32768x256 (![] : Fin 0 → Fin S32768x256.rank)
  reducesTo_S32768x256_S_d0_1 : S32768x256.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S32768x256 .bf16) (main_arg1 : FVec F S32768x256 .bf16) (main_arg2 : FVec F S32768x256 .bf16) (main_arg3 : FVec F S32768x128 .bf16) (main_arg4 : FVec F S16x128 .f32) (main_arg5 : FVec F S128 .f32) : IVec S_ 1 :=
  let main_v0 : FVec F S32768x256 .f32 := (extf .f32 · bitsLt_bf16_f32) main_arg0
  let main_v1 : FVec F S32768x256 .f32 := Host.absf main_v0
  let main_cst : FVec F S_ .f32 := constant S_ .f32 0x7F800000#32
  let main_v2 : FVec F S32768x256 .f32 := broadcastInDim S32768x256 ![] bcast_S_S32768x256 main_cst
  let main_v3 : IVec S32768x256 1 := cmpf .olt main_v1 main_v2
  let main_c : IVec S_ 1 := constantI S_ 1 1#1
  let main_v4 : IVec S_ 1 := (fun x v => Host.reduce IntOp.andi x v reducesTo_S32768x256_S_d0_1 h_S_) main_v3 main_c
  let main_v5 : FVec F S32768x256 .f32 := (extf .f32 · bitsLt_bf16_f32) main_arg1
  let main_v6 : FVec F S32768x256 .f32 := Host.absf main_v5
  let main_cst_0 : FVec F S_ .f32 := constant S_ .f32 0x7F800000#32
  let main_v7 : FVec F S32768x256 .f32 := broadcastInDim S32768x256 ![] bcast_S_S32768x256 main_cst_0
  let main_v8 : IVec S32768x256 1 := cmpf .olt main_v6 main_v7
  let main_c_1 : IVec S_ 1 := constantI S_ 1 1#1
  let main_v9 : IVec S_ 1 := (fun x v => Host.reduce IntOp.andi x v reducesTo_S32768x256_S_d0_1 h_S_) main_v8 main_c_1
  let main_v10 : IVec S_ 1 := andi main_v4 main_v9
  let main_v11 : FVec F S16x128 .f32 := Host.absf main_arg4
  let main_cst_2 : FVec F S_ .f32 := constant S_ .f32 0x7F800000#32
  let main_v12 : FVec F S16x128 .f32 := broadcastInDim S16x128 ![] bcast_S_S16x128 main_cst_2
  let main_v13 : IVec S16x128 1 := cmpf .olt main_v11 main_v12
  let main_c_3 : IVec S_ 1 := constantI S_ 1 1#1
  let main_v14 : IVec S_ 1 := (fun x v => Host.reduce IntOp.andi x v reducesTo_S16x128_S_d0_1 h_S_) main_v13 main_c_3
  let main_v15 : IVec S_ 1 := andi main_v10 main_v14
  main_v15
-- ==== Pre_finite4.lean ====
abbrev S32768x512 : Shape := ⟨2, ![32768, 512]⟩
abbrev S4x128x128 : Shape := ⟨3, ![4, 128, 128]⟩
abbrev S4x128 : Shape := ⟨2, ![4, 128]⟩
abbrev S32768x256 : Shape := ⟨2, ![32768, 256]⟩
abbrev S_ : Shape := ⟨0, ![]⟩

class Facts : Prop where
  slices_S32768x512_S32768x256_0_256 : S32768x512.Slices ![0, 256] S32768x256
  bitsLt_bf16_f32 : FTy.bits .bf16 < FTy.bits .f32
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x512 .bf16) (main_arg1 : FVec F S4x128x128 .f32) (main_arg2 : FVec F S4x128 .f32) : IVec S_ 1 :=
  let main_v0 : FVec F S32768x256 .bf16 := (extractStridedSlice S32768x256 ![0, 256] · slices_S32768x512_S32768x256_0_256) main_arg0
  let main_v1 : FVec F S32768x256 .f32 := (extf .f32 · bitsLt_bf16_f32) main_v0
  let main_v2 : FVec F S32768x256 .f32 := Host.absf main_v1
  let main_cst : FVec F S_ .f32 := constant S_ .f32 0x7F800000#32
  let main_v3 : FVec F S32768x256 .f32 := broadcastInDim S32768x256 ![] bcast_S_S32768x256 main_cst
  let main_v4 : IVec S32768x256 1 := cmpf .olt main_v2 main_v3
  let main_c : IVec S_ 1 := constantI S_ 1 1#1
  let main_v5 : IVec S_ 1 := (fun x v => Host.reduce IntOp.andi x v reducesTo_S32768x256_S_d0_1 h_S_) main_v4 main_c
  main_v5
-- ==== Kernel.lean ====
abbrev S32768x256 : Shape := ⟨2, ![32768, 256]⟩
abbrev S32768x128 : Shape := ⟨2, ![32768, 128]⟩
abbrev S16x128 : Shape := ⟨2, ![16, 128]⟩
abbrev S128 : Shape := ⟨1, ![128]⟩
abbrev S_ : Shape := ⟨0, ![]⟩
abbrev S128x128 : Shape := ⟨2, ![128, 128]⟩
abbrev S1 : Shape := ⟨1, ![1]⟩
abbrev S1x128 : Shape := ⟨2, ![1, 128]⟩
abbrev S1024x256 : Shape := ⟨2, ![1024, 256]⟩
abbrev S1024x128 : Shape := ⟨2, ![1024, 128]⟩
abbrev S128x256 : Shape := ⟨2, ![128, 256]⟩
abbrev S64x64 : Shape := ⟨2, ![64, 64]⟩
abbrev S64x128 : Shape := ⟨2, ![64, 128]⟩
abbrev S64x256 : Shape := ⟨2, ![64, 256]⟩
abbrev S256x64 : Shape := ⟨2, ![256, 64]⟩
abbrev S256x128 : Shape := ⟨2, ![256, 128]⟩
abbrev S128x64 : Shape := ⟨2, ![128, 64]⟩
abbrev S8x128 : Shape := ⟨2, ![8, 128]⟩
abbrev S128x8 : Shape := ⟨2, ![128, 8]⟩
abbrev S128x1 : Shape := ⟨2, ![128, 1]⟩
abbrev S256x256 : Shape := ⟨2, ![256, 256]⟩

abbrev nBuf : Space → Nat
  | .hbm => 13
  | .vmem => 13
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S32768x128, .bf16⟩
  | .hbm, ⟨4, _⟩ => ⟨S16x128, .f32⟩
  | .hbm, ⟨5, _⟩ => ⟨S128, .f32⟩
  | .hbm, ⟨6, _⟩ => ⟨S_, .f32⟩
  | .hbm, ⟨7, _⟩ => ⟨S128x128, .f32⟩
  | .hbm, ⟨8, _⟩ => ⟨S_, .i32⟩
  | .hbm, ⟨9, _⟩ => ⟨S1, .i32⟩
  | .hbm, ⟨10, _⟩ => ⟨S128x128, .f32⟩
  | .hbm, ⟨11, _⟩ => ⟨S1x128, .f32⟩
  | .hbm, ⟨12, _⟩ => ⟨S32768x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .bf16⟩
  | .local _ .vmem, ⟨7, _⟩ => ⟨S1024x128, .bf16⟩
  | .local _ .vmem, ⟨8, _⟩ => ⟨S128x128, .f32⟩
  | .local _ .vmem, ⟨9, _⟩ => ⟨S1x128, .f32⟩
  | .local _ .vmem, ⟨10, _⟩ => ⟨S1024x256, .bf16⟩
  | .local _ .vmem, ⟨11, _⟩ => ⟨S1024x256, .bf16⟩
  | .local _ .vmem, ⟨12, _⟩ => ⟨S128x256, .f32⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x256 : Shape := ⟨2, ![32768, 256]⟩
abbrev S32768x128 : Shape := ⟨2, ![32768, 128]⟩
abbrev S16x128 : Shape := ⟨2, ![16, 128]⟩
abbrev S128 : Shape := ⟨1, ![128]⟩
abbrev S8x4096x256 : Shape := ⟨3, ![8, 4096, 256]⟩
abbrev S8x4096x128 : Shape := ⟨3, ![8, 4096, 128]⟩
abbrev S8x4096x16 : Shape := ⟨3, ![8, 4096, 16]⟩
abbrev S1x1x128 : Shape := ⟨3, ![1, 1, 128]⟩
abbrev S_ : Shape := ⟨0, ![]⟩
abbrev S64x64 : Shape := ⟨2, ![64, 64]⟩
abbrev S8x4x32x64 : Shape := ⟨4, ![8, 4, 32, 64]⟩
abbrev S8x64x64x4x32 : Shape := ⟨5, ![8, 64, 64, 4, 32]⟩
abbrev S64x8x4x64x32 : Shape := ⟨5, ![64, 8, 4, 64, 32]⟩
abbrev S8x64x64x4x64 : Shape := ⟨5, ![8, 64, 64, 4, 64]⟩
abbrev S64x8x4x64x64 : Shape := ⟨5, ![64, 8, 4, 64, 64]⟩
abbrev S1x8x4x64x32 : Shape := ⟨5, ![1, 8, 4, 64, 32]⟩
abbrev S8x4x64x32 : Shape := ⟨4, ![8, 4, 64, 32]⟩
abbrev S1x8x4x64x64 : Shape := ⟨5, ![1, 8, 4, 64, 64]⟩
abbrev S8x4x64x64 : Shape := ⟨4, ![8, 4, 64, 64]⟩
abbrev S8x4x1x32 : Shape := ⟨4, ![8, 4, 1, 32]⟩
abbrev S8x4x32 : Shape := ⟨3, ![8, 4, 32]⟩
abbrev S8x4x32x1 : Shape := ⟨4, ![8, 4, 32, 1]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩

abbrev nBuf : Space → Nat
  | .hbm => 167
  | .vmem => 0
  | .smem => 0
  | _ => 0

abbrev hbmTy0_0 (i : Nat) : BufTy := match i % 128 with
  | 0 => ⟨S32768x256, .bf16⟩
  | 1 => ⟨S32768x256, .bf16⟩
  | 2 => ⟨S32768x256, .bf16⟩
  | 3 => ⟨S32768x128, .bf16⟩
  | 4 => ⟨S16x128, .f32⟩
  | 5 => ⟨S128, .f32⟩
  | 6 => ⟨S32768x256, .f32⟩
  | 7 => ⟨S8x4096x256, .f32⟩
  | 8 => ⟨S8x4096x128, .f32⟩
  | 9 => ⟨S32768x256, .f32⟩
  | 10 => ⟨S8x4096x256, .f32⟩
  | 11 => ⟨S8x4096x128, .f32⟩
  | 12 => ⟨S32768x256, .f32⟩
  | 13 => ⟨S8x4096x256, .f32⟩
  | 14 => ⟨S32768x128, .f32⟩
  | 15 => ⟨S8x4096x128, .f32⟩
  | 16 => ⟨S8x4096x16, .f32⟩
  | 17 => ⟨S8x4096x128, .f32⟩
  | 18 => ⟨S1x1x128, .f32⟩
  | 19 => ⟨S8x4096x128, .f32⟩
  | 20 => ⟨S8x4096x128, .f32⟩
  | 21 => ⟨S8x4096x128, .f32⟩
  | 22 => ⟨S_, .f32⟩
  | 23 => ⟨S8x4096x128, .f32⟩
  | 24 => ⟨S8x4096x128, .f32⟩
  | 25 => ⟨S8x4096x128, .f32⟩
  | 26 => ⟨S8x4096x128, .f32⟩
  | 27 => ⟨S8x4096x128, .f32⟩
  | 28 => ⟨S8x4096x128, .f32⟩
  | 29 => ⟨S8x4096x128, .f32⟩
  | 30 => ⟨S8x4096x128, .f32⟩
  | 31 => ⟨S_, .f32⟩
  | 32 => ⟨S8x4096x128, .f32⟩
  | 33 => ⟨S8x4096x128, .f32⟩
  | 34 => ⟨S_, .i1⟩
  | 35 => ⟨S64x64, .i1⟩
  | 36 => ⟨S64x64, .i32⟩
  | 37 => ⟨S_, .i32⟩
  | 38 => ⟨S64x64, .i32⟩
  | 39 => ⟨S64x64, .i32⟩
  | 40 => ⟨S64x64, .i32⟩
  | 41 => ⟨S64x64, .i1⟩
  | 42 => ⟨S_, .i1⟩
  | 43 => ⟨S64x64, .i1⟩
  | 44 => ⟨S64x64, .i1⟩
  | 45 => ⟨S_, .f32⟩
  | 46 => ⟨S8x4x32x64, .f32⟩
  | 47 => ⟨S8x64x64x4x32, .f32⟩
  | 48 => ⟨S64x8x4x64x32, .f32⟩
  | 49 => ⟨S_, .f32⟩
  | 50 => ⟨S64x8x4x64x32, .f32⟩
  | 51 => ⟨S64x8x4x64x32, .f32⟩
  | 52 => ⟨S8x64x64x4x32, .f32⟩
  | 53 => ⟨S64x8x4x64x32, .f32⟩
  | 54 => ⟨S8x64x64x4x64, .f32⟩
  | 55 => ⟨S64x8x4x64x64, .f32⟩
  | 56 => ⟨S8x64x64x4x32, .f32⟩
  | 57 => ⟨S64x8x4x64x32, .f32⟩
  | 58 => ⟨S_, .f32⟩
  | 59 => ⟨S64x8x4x64x64, .f32⟩
  | 60 => ⟨S_, .i32⟩
  | 61 => ⟨S64x8x4x64x32, .f32⟩
  | 62 => ⟨S64x8x4x64x32, .f32⟩
  | 63 => ⟨S64x8x4x64x64, .f32⟩
  | 64 => ⟨S64x8x4x64x32, .f32⟩
  | 65 => ⟨S64x64, .i1⟩
  | 66 => ⟨S_, .i32⟩
  | 67 => ⟨S8x4x32x64, .f32⟩
  | 68 => ⟨S64x8x4x64x64, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S1x8x4x64x32, .f32⟩
  | 76 => ⟨S8x4x64x32, .f32⟩
  | 77 => ⟨S_, .i32⟩
  | 78 => ⟨S_, .i32⟩
  | 79 => ⟨S_, .i32⟩
  | 80 => ⟨S_, .i32⟩
  | 81 => ⟨S1x8x4x64x32, .f32⟩
  | 82 => ⟨S8x4x64x32, .f32⟩
  | 83 => ⟨S_, .i32⟩
  | 84 => ⟨S_, .i32⟩
  | 85 => ⟨S_, .i32⟩
  | 86 => ⟨S_, .i32⟩
  | 87 => ⟨S1x8x4x64x64, .f32⟩
  | 88 => ⟨S8x4x64x64, .f32⟩
  | 89 => ⟨S_, .i32⟩
  | 90 => ⟨S_, .i32⟩
  | 91 => ⟨S_, .i32⟩
  | 92 => ⟨S_, .i32⟩
  | 93 => ⟨S1x8x4x64x32, .f32⟩
  | 94 => ⟨S8x4x64x32, .f32⟩
  | 95 => ⟨S_, .f32⟩
  | 96 => ⟨S_, .f32⟩
  | 97 => ⟨S8x4x64x32, .f32⟩
  | 98 => ⟨S8x4x1x32, .f32⟩
  | 99 => ⟨S8x4x1x32, .f32⟩
  | 100 => ⟨S8x4x64x32, .f32⟩
  | 101 => ⟨S8x4x64x32, .f32⟩
  | 102 => ⟨S8x4x64x32, .f32⟩
  | 103 => ⟨S8x4x64x32, .f32⟩
  | 104 => ⟨S8x4x64x32, .f32⟩
  | 105 => ⟨S8x4x64x32, .f32⟩
  | 106 => ⟨S8x4x64x32, .f32⟩
  | 107 => ⟨S8x4x64x32, .f32⟩
  | 108 => ⟨S8x4x64x64, .f32⟩
  | 109 => ⟨S_, .f32⟩
  | 110 => ⟨S8x4x64x64, .f32⟩
  | 111 => ⟨S8x4x64x64, .i1⟩
  | 112 => ⟨S8x4x64x64, .f32⟩
  | 113 => ⟨S8x4x64x64, .f32⟩
  | 114 => ⟨S8x4x64x32, .f32⟩
  | 115 => ⟨S8x4x64x32, .f32⟩
  | 116 => ⟨S8x4x64x64, .f32⟩
  | 117 => ⟨S8x4x64x32, .f32⟩
  | 118 => ⟨S8x4x64x32, .f32⟩
  | 119 => ⟨S8x4x64x32, .f32⟩
  | 120 => ⟨S8x4x64x32, .f32⟩
  | 121 => ⟨S8x4x32x64, .f32⟩
  | 122 => ⟨S8x4x32, .f32⟩
  | 123 => ⟨S8x4x32, .f32⟩
  | 124 => ⟨S8x4x32x1, .f32⟩
  | 125 => ⟨S8x4x32x64, .f32⟩
  | 126 => ⟨S8x4x32x64, .f32⟩
  | 127 => ⟨S8x4x32x64, .f32⟩
  | _ => ⟨S32768x256, .bf16⟩

abbrev hbmTy0_1 (i : Nat) : BufTy := match i % 128 with
  | 0 => ⟨S8x4x64x64, .f32⟩
  | 1 => ⟨S1x8x4x64x64, .f32⟩
  | 2 => ⟨S_, .i32⟩
  | 3 => ⟨S_, .i32⟩
  | 4 => ⟨S_, .i32⟩
  | 5 => ⟨S_, .i32⟩
  | 6 => ⟨S64x8x4x64x64, .f32⟩
  | 7 => ⟨S_, .i32⟩
  | 8 => ⟨S_, .i32⟩
  | 9 => ⟨S8x64x64x4x64, .f32⟩
  | 10 => ⟨S8x4096x4x64, .f32⟩
  | 11 => ⟨S32768x256, .f32⟩
  | 12 => ⟨S8x4096x256, .f32⟩
  | 13 => ⟨S8x4096x256, .f32⟩
  | 14 => ⟨S8x4096x256, .f32⟩
  | 15 => ⟨S_, .f32⟩
  | 16 => ⟨S8x4096x256, .f32⟩
  | 17 => ⟨S8x4096x256, .f32⟩
  | 18 => ⟨S_, .f32⟩
  | 19 => ⟨S8x4096x256, .f32⟩
  | 20 => ⟨S8x4096x256, .f32⟩
  | 21 => ⟨S8x4096x256, .f32⟩
  | 22 => ⟨S8x4096x4x64, .f32⟩
  | 23 => ⟨S8x4096x4x64, .f32⟩
  | 24 => ⟨S_, .f32⟩
  | 25 => ⟨S8x4096x4, .f32⟩
  | 26 => ⟨S8x4096x4x1, .f32⟩
  | 27 => ⟨S_, .f32⟩
  | 28 => ⟨S8x4096x4x1, .f32⟩
  | 29 => ⟨S8x4096x4x1, .f32⟩
  | 30 => ⟨S_, .f32⟩
  | 31 => ⟨S8x4096x4x1, .f32⟩
  | 32 => ⟨S8x4096x4x1, .f32⟩
  | 33 => ⟨S8x4096x4x1, .f32⟩
  | 34 => ⟨S8x4096x4x64, .f32⟩
  | 35 => ⟨S8x4096x4x64, .f32⟩
  | 36 => ⟨S8x4096x4x64, .f32⟩
  | 37 => ⟨S32768x256, .f32⟩
  | 38 => ⟨S32768x256, .bf16⟩
  | _ => ⟨S32768x256, .bf16⟩

abbrev hbmTy (i : Nat) : BufTy := match i / 128 with
  | 0 => hbmTy0_0 i
  | 1 => hbmTy0_1 i
  | _ => ⟨S32768x256, .bf16⟩

abbrev bufTy : (tb : Table) → Fin (tcTables nBuf tb) → BufTy
  | .hbm, ⟨i, _⟩ => hbmTy i
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_0 : Ref sig .tc := ⟨.hbm, 42, rfl⟩
abbrev main_call0_v5 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_c_4 : Ref sig .tc := ⟨.hbm, 60, rfl⟩
abbrev main_v40_0 : Ref sig .tc := ⟨.hbm, 61, rfl⟩
abbrev main_v40_1 : Ref sig .tc := ⟨.hbm, 62, rfl⟩
abbrev main_v40_2 : Ref sig .tc := ⟨.hbm, 63, rfl⟩
abbrev main_v40_3 : Ref sig .tc := ⟨.hbm, 64, rfl⟩
abbrev main_v40_4 : Ref sig .tc := ⟨.hbm, 65, rfl⟩
abbrev main_v40_5 : Ref sig .tc := ⟨.hbm, 66, rfl⟩
abbrev main_v40_6 : Ref sig .tc := ⟨.hbm, 67, rfl⟩
abbrev main_v40_7 : Ref sig .tc := ⟨.hbm, 68, rfl⟩
abbrev main_while0c_c_15 : Ref sig .tc := ⟨.hbm, 69, rfl⟩
abbrev main_while0c_v60 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_c_2 : Ref sig .tc := ⟨.hbm, 74, rfl⟩
abbrev main_while0b_call1_v0 : Ref sig .tc := ⟨.hbm, 75, rfl⟩
abbrev main_while0b_v60 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v61 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v62 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_c_2 : Ref sig .tc := ⟨.hbm, 92, rfl⟩
abbrev main_while0b_call4_v0 : Ref sig .tc := ⟨.hbm, 93, rfl⟩
abbrev main_while0b_v63 : Ref sig .tc := ⟨.hbm, 94, rfl⟩
abbrev main_while0b_call5_call0_cst : Ref sig .tc := ⟨.hbm, 95, rfl⟩
abbrev main_while0b_call5_call0_v0 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_cst_15 : Ref sig .tc := ⟨.hbm, 109, rfl⟩
abbrev main_while0b_v76 : Ref sig .tc := ⟨.hbm, 110, rfl⟩
abbrev main_while0b_call6_v0 : Ref sig .tc := ⟨.hbm, 111, rfl⟩
abbrev main_while0b_v77 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_v89 : Ref sig .tc := ⟨.hbm, 124, rfl⟩
abbrev main_while0b_v90 : Ref sig .tc := ⟨.hbm, 125, rfl⟩
abbrev main_while0b_v91 : Ref sig .tc := ⟨.hbm, 126, rfl⟩
abbrev main_while0b_v92 : Ref sig .tc := ⟨.hbm, 127, rfl⟩
abbrev main_while0b_v93 : Ref sig .tc := ⟨.hbm, 128, rfl⟩
abbrev main_while0b_call7_v0 : Ref sig .tc := ⟨.hbm, 129, rfl⟩
abbrev main_while0b_call7_c : Ref sig .tc := ⟨.hbm, 130, rfl⟩
abbrev main_while0b_call7_c_0 : Ref sig .tc := ⟨.hbm, 131, rfl⟩
abbrev main_while0b_call7_c_1 : Ref sig .tc := ⟨.hbm, 132, rfl⟩
abbrev main_while0b_call7_c_2 : Ref sig .tc := ⟨.hbm, 133, rfl⟩
abbrev main_while0b_v94 : Ref sig .tc := ⟨.hbm, 134, rfl⟩
abbrev main_while0b_c_16 : Ref sig .tc := ⟨.hbm, 135, rfl⟩
abbrev main_while0b_v95 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_call8_v0 : Ref sig .tc := ⟨.hbm, 141, rfl⟩
abbrev main_call8_v1 : Ref sig .tc := ⟨.hbm, 142, rfl⟩
abbrev main_call8_cst : Ref sig .tc := ⟨.hbm, 143, rfl⟩
abbrev main_call8_v2 : Ref sig .tc := ⟨.hbm, 144, rfl⟩
abbrev main_call8_v3 : Ref sig .tc := ⟨.hbm, 145, rfl⟩
abbrev main_call8_cst_0 : Ref sig .tc := ⟨.hbm, 146, rfl⟩
abbrev main_call8_v4 : Ref sig .tc := ⟨.hbm, 147, rfl⟩
abbrev main_call8_v5 : Ref sig .tc := ⟨.hbm, 148, rfl⟩
abbrev main_v45 : Ref sig .tc := ⟨.hbm, 149, rfl⟩
abbrev main_v46 : Ref sig .tc := ⟨.hbm, 150, rfl⟩
abbrev main_v47 : Ref sig .tc := ⟨.hbm, 151, rfl⟩
abbrev main_cst_5 : Ref sig .tc := ⟨.hbm, 152, rfl⟩
abbrev main_v48 : Ref sig .tc := ⟨.hbm, 153, rfl⟩
abbrev main_v49 : Ref sig .tc := ⟨.hbm, 154, rfl⟩
abbrev main_cst_6 : Ref sig .tc := ⟨.hbm, 155, rfl⟩
abbrev main_v50 : Ref sig .tc := ⟨.hbm, 156, rfl⟩
abbrev main_v51 : Ref sig .tc := ⟨.hbm, 157, rfl⟩
abbrev main_cst_7 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S32768x768 : Shape := ⟨2, ![32768, 768]⟩
abbrev S32768x256 : Shape := ⟨2, ![32768, 256]⟩
abbrev S3x256 : Shape := ⟨2, ![3, 256]⟩
abbrev S1024 : Shape := ⟨1, ![1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S32768x1024 : Shape := ⟨2, ![32768, 1024]⟩
abbrev S8x6x1024 : Shape := ⟨3, ![8, 6, 1024]⟩
abbrev S4x1024 : Shape := ⟨2, ![4, 1024]⟩
abbrev S4x256 : Shape := ⟨2, ![4, 256]⟩
abbrev S512x768 : Shape := ⟨2, ![512, 768]⟩
abbrev S16x768 : Shape := ⟨2, ![16, 768]⟩
abbrev S512x256 : Shape := ⟨2, ![512, 256]⟩
abbrev S1x1024x1024 : Shape := ⟨3, ![1, 1024, 1024]⟩
abbrev S512x1024 : Shape := ⟨2, ![512, 1024]⟩
abbrev S1x6x1024 : Shape := ⟨3, ![1, 6, 1024]⟩
abbrev S1x1024x4096 : Shape := ⟨3, ![1, 1024, 4096]⟩
abbrev S1x4096x1024 : Shape := ⟨3, ![1, 4096, 1024]⟩
abbrev S16x256 : Shape := ⟨2, ![16, 256]⟩
abbrev S1x256 : Shape := ⟨2, ![1, 256]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1x1x1024 : Shape := ⟨3, ![1, 1, 1024]⟩
abbrev S1x1024 : Shape := ⟨2, ![1, 1024]⟩
abbrev S1024x1024 : Shape := ⟨2, ![1024, 1024]⟩

abbrev nBuf : Space → Nat
  | .hbm => 14
  | .vmem => 22
  | .smem => 0
  | _ => 0

abbrev bufTy : (tb : Table) → Fin (tcTables nBuf tb) → BufTy
  | .hbm, ⟨0, _⟩ => ⟨S32768x768, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S3x256, .f32⟩
  | .hbm, ⟨5, _⟩ => ⟨S1024, .f32⟩
  | .hbm, ⟨6, _⟩ => ⟨S4x1024x1024, .bf16⟩
  | .hbm, ⟨7, _⟩ => ⟨S4x1024x4096, .bf16⟩
  | .hbm, ⟨8, _⟩ => ⟨S4x4096x1024, .bf16⟩
  | .hbm, ⟨9, _⟩ => ⟨S32768x1024, .f32⟩
  | .hbm, ⟨10, _⟩ => ⟨S8x6x1024, .f32⟩
  | .hbm, ⟨11, _⟩ => ⟨S4x1024, .f32⟩
  | .hbm, ⟨12, _⟩ => ⟨S4x256, .f32⟩
  | .hbm, ⟨13, _⟩ => ⟨S32768x1024, .f32⟩
  | .local _ .vmem, ⟨0, _⟩ => ⟨S512x768, .bf16⟩
  | .local _ .vmem, ⟨1, _⟩ => ⟨S512x768, .bf16⟩
  | .local _ .vmem, ⟨2, _⟩ => ⟨S16x768, .bf16⟩
  | .local _ .vmem, ⟨3, _⟩ => ⟨S16x768, .bf16⟩
  | .local _ .vmem, ⟨4, _⟩ => ⟨S3x256, .f32⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S4x256, .f32⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S1x6x1024, .f32⟩
  | .local _ .vmem, ⟨16, _⟩ => ⟨S1x6x1024, .f32⟩
  | .local _ .vmem, ⟨17, _⟩ => ⟨S4x1024, .f32⟩
  | .local _ .vmem, ⟨18, _⟩ => ⟨S1x1024x4096, .bf16⟩
  | .local _ .vmem, ⟨19, _⟩ => ⟨S1x4096x1024, .bf16⟩
  | .local _ .vmem, ⟨20, _⟩ => ⟨S512x1024, .f32⟩
  | .local _ .vmem, ⟨21, _⟩ => ⟨S512x1024, .f32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x768 : Shape := ⟨2, ![32768, 768]⟩
abbrev S32768x256 : Shape := ⟨2, ![32768, 256]⟩
abbrev S3x256 : Shape := ⟨2, ![3, 256]⟩
abbrev S1024 : Shape := ⟨1, ![1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S32768x1024 : Shape := ⟨2, ![32768, 1024]⟩
abbrev S8x6x1024 : Shape := ⟨3, ![8, 6, 1024]⟩
abbrev S4x1024 : Shape := ⟨2, ![4, 1024]⟩
abbrev S8x4096x768 : Shape := ⟨3, ![8, 4096, 768]⟩
abbrev S8x4096x256 : Shape := ⟨3, ![8, 4096, 256]⟩
abbrev S_ : Shape := ⟨0, ![]⟩
abbrev S8x4098x256 : Shape := ⟨3, ![8, 4098, 256]⟩
abbrev S1x256 : Shape := ⟨2, ![1, 256]⟩
abbrev S256 : Shape := ⟨1, ![256]⟩
abbrev S1x1x256 : Shape := ⟨3, ![1, 1, 256]⟩
abbrev S8x4096x1x256 : Shape := ⟨4, ![8, 4096, 1, 256]⟩
abbrev S8x4096x4x256 : Shape := ⟨4, ![8, 4096, 4, 256]⟩
abbrev S4x256 : Shape := ⟨2, ![4, 256]⟩
abbrev S8x4096x4 : Shape := ⟨3, ![8, 4096, 4]⟩
abbrev S8x4096x4x1 : Shape := ⟨4, ![8, 4096, 4, 1]⟩
abbrev S1x1x4x256 : Shape := ⟨4, ![1, 1, 4, 256]⟩
abbrev S8x4096x1024 : Shape := ⟨3, ![8, 4096, 1024]⟩
abbrev S1x1024x1024 : Shape := ⟨3, ![1, 1024, 1024]⟩
abbrev S1024x1024 : Shape := ⟨2, ![1024, 1024]⟩
abbrev S8x1x1024 : Shape := ⟨3, ![8, 1, 1024]⟩
abbrev S8x1024 : Shape := ⟨2, ![8, 1024]⟩
abbrev S1x1024 : Shape := ⟨2, ![1, 1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩

abbrev nBuf : Space → Nat
  | .hbm => 168
  | .vmem => 0
  | .smem => 0
  | _ => 0

abbrev hbmTy0_0 (i : Nat) : BufTy := match i % 128 with
  | 0 => ⟨S32768x768, .bf16⟩
  | 1 => ⟨S32768x256, .bf16⟩
  | 2 => ⟨S32768x256, .bf16⟩
  | 3 => ⟨S32768x256, .bf16⟩
  | 4 => ⟨S3x256, .f32⟩
  | 5 => ⟨S1024, .f32⟩
  | 6 => ⟨S4x1024x1024, .bf16⟩
  | 7 => ⟨S4x1024x4096, .bf16⟩
  | 8 => ⟨S4x4096x1024, .bf16⟩
  | 9 => ⟨S32768x1024, .f32⟩
  | 10 => ⟨S8x6x1024, .f32⟩
  | 11 => ⟨S4x1024, .f32⟩
  | 12 => ⟨S32768x768, .f32⟩
  | 13 => ⟨S8x4096x768, .f32⟩
  | 14 => ⟨S8x4096x256, .f32⟩
  | 15 => ⟨S8x4096x256, .f32⟩
  | 16 => ⟨S8x4096x256, .f32⟩
  | 17 => ⟨S8x4096x256, .f32⟩
  | 18 => ⟨S_, .i32⟩
  | 19 => ⟨S_, .f32⟩
  | 20 => ⟨S8x4098x256, .f32⟩
  | 21 => ⟨S1x256, .f32⟩
  | 22 => ⟨S256, .f32⟩
  | 23 => ⟨S8x4096x256, .f32⟩
  | 24 => ⟨S1x1x256, .f32⟩
  | 25 => ⟨S8x4096x256, .f32⟩
  | 26 => ⟨S8x4096x256, .f32⟩
  | 27 => ⟨S1x256, .f32⟩
  | 28 => ⟨S256, .f32⟩
  | 29 => ⟨S8x4096x256, .f32⟩
  | 30 => ⟨S1x1x256, .f32⟩
  | 31 => ⟨S8x4096x256, .f32⟩
  | 32 => ⟨S8x4096x256, .f32⟩
  | 33 => ⟨S8x4096x256, .f32⟩
  | 34 => ⟨S1x256, .f32⟩
  | 35 => ⟨S256, .f32⟩
  | 36 => ⟨S8x4096x256, .f32⟩
  | 37 => ⟨S1x1x256, .f32⟩
  | 38 => ⟨S8x4096x256, .f32⟩
  | 39 => ⟨S8x4096x256, .f32⟩
  | 40 => ⟨S8x4096x256, .f32⟩
  | 41 => ⟨S8x4096x256, .f32⟩
  | 42 => ⟨S32768x256, .f32⟩
  | 43 => ⟨S8x4096x256, .f32⟩
  | 44 => ⟨S32768x256, .f32⟩
  | 45 => ⟨S8x4096x256, .f32⟩
  | 46 => ⟨S32768x256, .f32⟩
  | 47 => ⟨S8x4096x256, .f32⟩
  | 48 => ⟨S8x4096x1x256, .f32⟩
  | 49 => ⟨S8x4096x1x256, .f32⟩
  | 50 => ⟨S8x4096x1x256, .f32⟩
  | 51 => ⟨S8x4096x1x256, .f32⟩
  | 52 => ⟨S8x4096x4x256, .f32⟩
  | 53 => ⟨S4x256, .f32⟩
  | 54 => ⟨S8x4096x4x256, .f32⟩
  | 55 => ⟨S_, .f32⟩
  | 56 => ⟨S8x4096x4, .f32⟩
  | 57 => ⟨S8x4096x4x1, .f32⟩
  | 58 => ⟨S_, .f32⟩
  | 59 => ⟨S8x4096x4x1, .f32⟩
  | 60 => ⟨S8x4096x4x1, .f32⟩
  | 61 => ⟨S_, .f32⟩
  | 62 => ⟨S8x4096x4x1, .f32⟩
  | 63 => ⟨S8x4096x4x1, .f32⟩
  | 64 => ⟨S8x4096x4x1, .f32⟩
  | 65 => ⟨S8x4096x4x256, .f32⟩
  | 66 => ⟨S8x4096x4x256, .f32⟩
  | 67 => ⟨S1x1x4x256, .f32⟩
  | 68 => ⟨S8x4096x4x256, .f32⟩
  | 69 => ⟨S8x4096x4x256, .f32⟩
  | 70 => ⟨S8x4096x1024, .f32⟩
  | 71 => ⟨S1x1024x1024, .bf16⟩
  | 72 => ⟨S1024x1024, .bf16⟩
  | 73 => ⟨S1024x1024, .f32⟩
  | 74 => ⟨S8x4096x1024, .f32⟩
  | 75 => ⟨S8x1x1024, .f32⟩
  | 76 => ⟨S8x1024, .f32⟩
  | 77 => ⟨S8x1x1024, .f32⟩
  | 78 => ⟨S8x1x1024, .f32⟩
  | 79 => ⟨S8x1024, .f32⟩
  | 80 => ⟨S8x1x1024, .f32⟩
  | 81 => ⟨S8x1x1024, .f32⟩
  | 82 => ⟨S8x1024, .f32⟩
  | 83 => ⟨S8x1x1024, .f32⟩
  | 84 => ⟨S8x1x1024, .f32⟩
  | 85 => ⟨S8x1024, .f32⟩
  | 86 => ⟨S8x1x1024, .f32⟩
  | 87 => ⟨S8x4096x1024, .f32⟩
  | 88 => ⟨S1x1024, .f32⟩
  | 89 => ⟨S1024, .f32⟩
  | 90 => ⟨S8x4096x1024, .f32⟩
  | 91 => ⟨S_, .f32⟩
  | 92 => ⟨S8x4096, .f32⟩
  | 93 => ⟨S8x4096x1, .f32⟩
  | 94 => ⟨S_, .f32⟩
  | 95 => ⟨S8x4096x1, .f32⟩
  | 96 => ⟨S8x4096x1, .f32⟩
  | 97 => ⟨S_, .f32⟩
  | 98 => ⟨S8x4096x1, .f32⟩
  | 99 => ⟨S8x4096x1, .f32⟩
  | 100 => ⟨S8x4096x1, .f32⟩
  | 101 => ⟨S8x4096x1024, .f32⟩
  | 102 => ⟨S8x4096x1024, .f32⟩
  | 103 => ⟨S1x1x1024, .f32⟩
  | 104 => ⟨S8x4096x1024, .f32⟩
  | 105 => ⟨S8x4096x1024, .f32⟩
  | 106 => ⟨S8x4096x1024, .f32⟩
  | 107 => ⟨S8x4096x1024, .f32⟩
  | 108 => ⟨S8x4096x1024, .f32⟩
  | 109 => ⟨S1x1024, .f32⟩
  | 110 => ⟨S1024, .f32⟩
  | 111 => ⟨S8x4096x1024, .f32⟩
  | 112 => ⟨S_, .f32⟩
  | 113 => ⟨S8x4096, .f32⟩
  | 114 => ⟨S8x4096x1, .f32⟩
  | 115 => ⟨S_, .f32⟩
  | 116 => ⟨S8x4096x1, .f32⟩
  | 117 => ⟨S8x4096x1, .f32⟩
  | 118 => ⟨S_, .f32⟩
  | 119 => ⟨S8x4096x1, .f32⟩
  | 120 => ⟨S8x4096x1, .f32⟩
  | 121 => ⟨S8x4096x1, .f32⟩
  | 122 => ⟨S8x4096x1024, .f32⟩
  | 123 => ⟨S8x4096x1024, .f32⟩
  | 124 => ⟨S1x1x1024, .f32⟩
  | 125 => ⟨S8x4096x1024, .f32⟩
  | 126 => ⟨S8x4096x1024, .f32⟩
  | 127 => ⟨S_, .f32⟩
  | _ => ⟨S32768x768, .bf16⟩

abbrev hbmTy0_1 (i : Nat) : BufTy := match i % 128 with
  | 0 => ⟨S8x1x1024, .f32⟩
  | 1 => ⟨S8x1x1024, .f32⟩
  | 2 => ⟨S8x4096x1024, .f32⟩
  | 3 => ⟨S8x4096x1024, .f32⟩
  | 4 => ⟨S8x4096x1024, .f32⟩
  | 5 => ⟨S8x4096x1024, .f32⟩
  | 6 => ⟨S1x1024x4096, .bf16⟩
  | 7 => ⟨S1024x4096, .bf16⟩
  | 8 => ⟨S1024x4096, .f32⟩
  | 9 => ⟨S8x4096x4096, .f32⟩
  | 10 => ⟨S_, .f32⟩
  | 11 => ⟨S8x4096x4096, .f32⟩
  | 12 => ⟨S8x4096x4096, .f32⟩
  | 13 => ⟨S8x4096x4096, .f32⟩
  | 14 => ⟨S1x4096x1024, .bf16⟩
  | 15 => ⟨S4096x1024, .bf16⟩
  | 16 => ⟨S4096x1024, .f32⟩
  | 17 => ⟨S8x4096x1024, .f32⟩
  | 18 => ⟨S1x1024, .f32⟩
  | 19 => ⟨S1024, .f32⟩
  | 20 => ⟨S8x4096x1024, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S_, .f32⟩
  | 28 => ⟨S8x4096x1, .f32⟩
  | 29 => ⟨S8x4096x1, .f32⟩
  | 30 => ⟨S8x4096x1, .f32⟩
  | 31 => ⟨S8x4096x1024, .f32⟩
  | 32 => ⟨S8x4096x1024, .f32⟩
  | 33 => ⟨S1x1x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S32768x1024, .f32⟩
  | _ => ⟨S32768x768, .bf16⟩

abbrev hbmTy (i : Nat) : BufTy := match i / 128 with
  | 0 => hbmTy0_0 i
  | 1 => hbmTy0_1 i
  | _ => ⟨S32768x768, .bf16⟩

abbrev bufTy : (tb : Table) → Fin (tcTables nBuf tb) → BufTy
  | .hbm, ⟨i, _⟩ => hbmTy i
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst : Ref sig .tc := ⟨.hbm, 55, rfl⟩
abbrev main_v41 : Ref sig .tc := ⟨.hbm, 56, rfl⟩
abbrev main_v42 : Ref sig .tc := ⟨.hbm, 57, rfl⟩
abbrev main_cst_0 : Ref sig .tc := ⟨.hbm, 58, rfl⟩
abbrev main_v43 : Ref sig .tc := ⟨.hbm, 59, rfl⟩
abbrev main_v44 : Ref sig .tc := ⟨.hbm, 60, rfl⟩
abbrev main_cst_1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_2 : Ref sig .tc := ⟨.hbm, 91, rfl⟩
abbrev main_v74 : Ref sig .tc := ⟨.hbm, 92, rfl⟩
abbrev main_v75 : Ref sig .tc := ⟨.hbm, 93, rfl⟩
abbrev main_cst_3 : Ref sig .tc := ⟨.hbm, 94, rfl⟩
abbrev main_v76 : Ref sig .tc := ⟨.hbm, 95, rfl⟩
abbrev main_v77 : Ref sig .tc := ⟨.hbm, 96, rfl⟩
abbrev main_cst_4 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_5 : Ref sig .tc := ⟨.hbm, 112, rfl⟩
abbrev main_v92 : Ref sig .tc := ⟨.hbm, 113, rfl⟩
abbrev main_v93 : Ref sig .tc := ⟨.hbm, 114, rfl⟩
abbrev main_cst_6 : Ref sig .tc := ⟨.hbm, 115, rfl⟩
abbrev main_v94 : Ref sig .tc := ⟨.hbm, 116, rfl⟩
abbrev main_v95 : Ref sig .tc := ⟨.hbm, 117, rfl⟩
abbrev main_cst_7 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_8 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_call1_cst : Ref sig .tc := ⟨.hbm, 138, rfl⟩
abbrev main_call1_v0 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_9 : Ref sig .tc := ⟨.hbm, 149, rfl⟩
abbrev main_v123 : Ref sig .tc := ⟨.hbm, 150, rfl⟩
abbrev main_v124 : Ref sig .tc := ⟨.hbm, 151, rfl⟩
abbrev main_cst_10 : Ref sig .tc := ⟨.hbm, 152, rfl⟩
abbrev main_v125 : Ref sig .tc := ⟨.hbm, 153, rfl⟩
abbrev main_v126 : Ref sig .tc := ⟨.hbm, 154, rfl⟩
abbrev main_cst_11 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩

abbrev nD : Nat := 1
abbrev τ : Topo := Topo.v7x

variable {F : FTy → Type} [FloatOps F]
-- ==== Kernel3.lean ====
abbrev S32768x1024 : Shape := ⟨2, ![32768, 1024]⟩
abbrev S8x6x1024 : Shape := ⟨3, ![8, 6, 1024]⟩
abbrev S4x1024 : Shape := ⟨2, ![4, 1024]⟩
abbrev S4x1024x2716 : Shape := ⟨3, ![4, 1024, 2716]⟩
abbrev S_ : Shape := ⟨0, ![]⟩
abbrev S4x1024x100 : Shape := ⟨3, ![4, 1024, 100]⟩
abbrev S4x1024x1408 : Shape := ⟨3, ![4, 1024, 1408]⟩
abbrev S4x1024x12 : Shape := ⟨3, ![4, 1024, 12]⟩
abbrev S4x1024x16 : Shape := ⟨3, ![4, 1024, 16]⟩
abbrev S4x1024x768 : Shape := ⟨3, ![4, 1024, 768]⟩
abbrev S4x1024x512 : Shape := ⟨3, ![4, 1024, 512]⟩
abbrev S4x1024x2816 : Shape := ⟨3, ![4, 1024, 2816]⟩
abbrev S32768x768 : Shape := ⟨2, ![32768, 768]⟩
abbrev S32768x256 : Shape := ⟨2, ![32768, 256]⟩
abbrev S32768x384 : Shape := ⟨2, ![32768, 384]⟩
abbrev S32768x128 : Shape := ⟨2, ![32768, 128]⟩
abbrev S32768x512 : Shape := ⟨2, ![32768, 512]⟩
abbrev S512x1024 : Shape := ⟨2, ![512, 1024]⟩
abbrev S1x6x1024 : Shape := ⟨3, ![1, 6, 1024]⟩
abbrev S1x1024x2816 : Shape := ⟨3, ![1, 1024, 2816]⟩
abbrev S512x768 : Shape := ⟨2, ![512, 768]⟩
abbrev S512x256 : Shape := ⟨2, ![512, 256]⟩
abbrev S512x384 : Shape := ⟨2, ![512, 384]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x1024 : Shape := ⟨2, ![1, 1024]⟩
abbrev S1x1x1024 : Shape := ⟨3, ![1, 1, 1024]⟩
abbrev S1x1024x768 : Shape := ⟨3, ![1, 1024, 768]⟩
abbrev S1024x768 : Shape := ⟨2, ![1024, 768]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩

abbrev nBuf : Space → Nat
  | .hbm => 21
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S4x1024, .f32⟩
  | .hbm, ⟨3, _⟩ => ⟨S4x1024x2716, .f32⟩
  | .hbm, ⟨4, _⟩ => ⟨S_, .f32⟩
  | .hbm, ⟨5, _⟩ => ⟨S4x1024x100, .f32⟩
  | .hbm, ⟨6, _⟩ => ⟨S4x1024x1408, .f32⟩
  | .hbm, ⟨7, _⟩ => ⟨S4x1024x12, .f32⟩
  | .hbm, ⟨8, _⟩ => ⟨S4x1024x16, .f32⟩
  | .hbm, ⟨9, _⟩ => ⟨S4x1024x768, .f32⟩
  | .hbm, ⟨10, _⟩ => ⟨S4x1024x512, .f32⟩
  | .hbm, ⟨11, _⟩ => ⟨S4x1024x2816, .f32⟩
  | .hbm, ⟨12, _⟩ => ⟨S4x1024x2816, .bf16⟩
  | .hbm, ⟨13, _⟩ => ⟨S32768x768, .bf16⟩
  | .hbm, ⟨14, _⟩ => ⟨S32768x256, .bf16⟩
  | .hbm, ⟨15, _⟩ => ⟨S32768x384, .f32⟩
  | .hbm, ⟨16, _⟩ => ⟨S32768x128, .bf16⟩
  | .hbm, ⟨17, _⟩ => ⟨S32768x256, .bf16⟩
  | .hbm, ⟨18, _⟩ => ⟨S32768x256, .bf16⟩
  | .hbm, ⟨19, _⟩ => ⟨S32768x256, .bf16⟩
  | .hbm, ⟨20, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1x1024x2816, .bf16⟩
  | .local _ .vmem, ⟨6, _⟩ => ⟨S512x768, .bf16⟩
  | .local _ .vmem, ⟨7, _⟩ => ⟨S512x768, .bf16⟩
  | .local _ .vmem, ⟨8, _⟩ => ⟨S512x256, .bf16⟩
  | .local _ .vmem, ⟨9, _⟩ => ⟨S512x256, .bf16⟩
  | .local _ .vmem, ⟨10, _⟩ => ⟨S512x384, .f32⟩
  | .local _ .vmem, ⟨11, _⟩ => ⟨S512x384, .f32⟩
  | .local _ .vmem, ⟨12, _⟩ => ⟨S512x128, .bf16⟩
  | .local _ .vmem, ⟨13, _⟩ => ⟨S512x128, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x512, .bf16⟩
  | .local _ .vmem, ⟨21, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v8_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S8x6x1024 : Shape := ⟨3, ![8, 6, 1024]⟩
abbrev S4x1024 : Shape := ⟨2, ![4, 1024]⟩
abbrev S4x1024x2716 : Shape := ⟨3, ![4, 1024, 2716]⟩
abbrev S8x4096x1024 : Shape := ⟨3, ![8, 4096, 1024]⟩
abbrev S8x1x1024 : Shape := ⟨3, ![8, 1, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2716 : Shape := ⟨3, ![1, 1024, 2716]⟩
abbrev S1024x2716 : Shape := ⟨2, ![1024, 2716]⟩
abbrev S8x4096x2716 : Shape := ⟨3, ![8, 4096, 2716]⟩
abbrev S8x4096x768 : Shape := ⟨3, ![8, 4096, 768]⟩
abbrev S8x4096x256 : Shape := ⟨3, ![8, 4096, 256]⟩
abbrev S8x4096x384 : Shape := ⟨3, ![8, 4096, 384]⟩
abbrev S8x4096x12 : Shape := ⟨3, ![8, 4096, 12]⟩
abbrev S8x4096x16 : Shape := ⟨3, ![8, 4096, 16]⟩
abbrev S8x4096x512 : Shape := ⟨3, ![8, 4096, 512]⟩
abbrev S8x4096x100 : Shape := ⟨3, ![8, 4096, 100]⟩
abbrev S8x4096x128 : Shape := ⟨3, ![8, 4096, 128]⟩
abbrev S32768x768 : Shape := ⟨2, ![32768, 768]⟩
abbrev S32768x256 : Shape := ⟨2, ![32768, 256]⟩
abbrev S32768x384 : Shape := ⟨2, ![32768, 384]⟩
abbrev S32768x128 : Shape := ⟨2, ![32768, 128]⟩
abbrev S32768x512 : Shape := ⟨2, ![32768, 512]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S4x1024, .f32⟩
  | .hbm, ⟨3, _⟩ => ⟨S4x1024x2716, .f32⟩
  | .hbm, ⟨4, _⟩ => ⟨S8x4096x1024, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S1x1024, .f32⟩
  | .hbm, ⟨12, _⟩ => ⟨S1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S1x1024x2716, .f32⟩
  | .hbm, ⟨37, _⟩ => ⟨S1024x2716, .f32⟩
  | .hbm, ⟨38, _⟩ => ⟨S8x4096x2716, .f32⟩
  | .hbm, ⟨39, _⟩ => ⟨S8x4096x768, .f32⟩
  | .hbm, ⟨40, _⟩ => ⟨S8x4096x256, .f32⟩
  | .hbm, ⟨41, _⟩ => ⟨S8x4096x384, .f32⟩
  | .hbm, ⟨42, _⟩ => ⟨S8x4096x12, .f32⟩
  | .hbm, ⟨43, _⟩ => ⟨S8x4096x256, .f32⟩
  | .hbm, ⟨44, _⟩ => ⟨S8x4096x256, .f32⟩
  | .hbm, ⟨45, _⟩ => ⟨S8x4096x256, .f32⟩
  | .hbm, ⟨46, _⟩ => ⟨S8x4096x16, .f32⟩
  | .hbm, ⟨47, _⟩ => ⟨S8x4096x512, .f32⟩
  | .hbm, ⟨48, _⟩ => ⟨S_, .f32⟩
  | .hbm, ⟨49, _⟩ => ⟨S8x4096x100, .f32⟩
  | .hbm, ⟨50, _⟩ => ⟨S8x4096x128, .f32⟩
  | .hbm, ⟨51, _⟩ => ⟨S32768x768, .f32⟩
  | .hbm, ⟨52, _⟩ => ⟨S32768x768, .bf16⟩
  | .hbm, ⟨53, _⟩ => ⟨S32768x256, .f32⟩
  | .hbm, ⟨54, _⟩ => ⟨S32768x256, .bf16⟩
  | .hbm, ⟨55, _⟩ => ⟨S32768x384, .f32⟩
  | .hbm, ⟨56, _⟩ => ⟨S32768x128, .f32⟩
  | .hbm, ⟨57, _⟩ => ⟨S32768x128, .bf16⟩
  | .hbm, ⟨58, _⟩ => ⟨S32768x256, .f32⟩
  | .hbm, ⟨59, _⟩ => ⟨S32768x256, .bf16⟩
  | .hbm, ⟨60, _⟩ => ⟨S32768x256, .f32⟩
  | .hbm, ⟨61, _⟩ => ⟨S32768x256, .bf16⟩
  | .hbm, ⟨62, _⟩ => ⟨S32768x256, .f32⟩
  | .hbm, ⟨63, _⟩ => ⟨S32768x256, .bf16⟩
  | .hbm, ⟨64, _⟩ => ⟨S32768x512, .f32⟩
  | .hbm, ⟨65, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩

abbrev nD : Nat := 1
abbrev τ : Topo := Topo.v7x

variable {F : FTy → Type} [FloatOps F]
-- ==== Kernel4.lean ====
abbrev S32768x512 : Shape := ⟨2, ![32768, 512]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S32768x256 : Shape := ⟨2, ![32768, 256]⟩
abbrev S1024x512 : Shape := ⟨2, ![1024, 512]⟩
abbrev S1024x256 : Shape := ⟨2, ![1024, 256]⟩
abbrev S256x256 : Shape := ⟨2, ![256, 256]⟩
abbrev S128x128 : Shape := ⟨2, ![128, 128]⟩
abbrev S1x128x128 : Shape := ⟨3, ![1, 128, 128]⟩

abbrev nBuf : Space → Nat
  | .hbm => 7
  | .vmem => 6
  | .smem => 0
  | _ => 0

abbrev bufTy : (tb : Table) → Fin (tcTables nBuf tb) → BufTy
  | .hbm, ⟨0, _⟩ => ⟨S32768x512, .bf16⟩
  | .hbm, ⟨1, _⟩ => ⟨S4x128x128, .f32⟩
  | .hbm, ⟨2, _⟩ => ⟨S4x128, .f32⟩
  | .hbm, ⟨3, _⟩ => ⟨S128x4, .f32⟩
  | .hbm, ⟨4, _⟩ => ⟨S128x4x64, .f32⟩
  | .hbm, ⟨5, _⟩ => ⟨S128x256, .f32⟩
  | .hbm, ⟨6, _⟩ => ⟨S32768x256, .bf16⟩
  | .local _ .vmem, ⟨0, _⟩ => ⟨S1024x512, .bf16⟩
  | .local _ .vmem, ⟨1, _⟩ => ⟨S1024x512, .bf16⟩
  | .local _ .vmem, ⟨2, _⟩ => ⟨S4x128x128, .f32⟩
  | .local _ .vmem, ⟨3, _⟩ => ⟨S128x256, .f32⟩
  | .local _ .vmem, ⟨4, _⟩ => ⟨S1024x256, .bf16⟩
  | .local _ .vmem, ⟨5, _⟩ => ⟨S1024x256, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x512 : Shape := ⟨2, ![32768, 512]⟩
abbrev S4x128x128 : Shape := ⟨3, ![4, 128, 128]⟩
abbrev S4x128 : Shape := ⟨2, ![4, 128]⟩
abbrev S8x4096x512 : Shape := ⟨3, ![8, 4096, 512]⟩
abbrev S8x4096x256 : Shape := ⟨3, ![8, 4096, 256]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S8x32x128x4x64 : Shape := ⟨5, ![8, 32, 128, 4, 64]⟩
abbrev S128x128 : Shape := ⟨2, ![128, 128]⟩
abbrev S4x8x32x64x128 : Shape := ⟨5, ![4, 8, 32, 64, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S32768x256 : Shape := ⟨2, ![32768, 256]⟩

abbrev nBuf : Space → Nat
  | .hbm => 58
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S4x128x128, .f32⟩
  | .hbm, ⟨2, _⟩ => ⟨S4x128, .f32⟩
  | .hbm, ⟨3, _⟩ => ⟨S32768x512, .f32⟩
  | .hbm, ⟨4, _⟩ => ⟨S8x4096x512, .f32⟩
  | .hbm, ⟨5, _⟩ => ⟨S8x4096x256, .f32⟩
  | .hbm, ⟨6, _⟩ => ⟨S8x4096x256, .f32⟩
  | .hbm, ⟨7, _⟩ => ⟨S8x4096x4x64, .f32⟩
  | .hbm, ⟨8, _⟩ => ⟨S_, .f32⟩
  | .hbm, ⟨9, _⟩ => ⟨S8x4096x4, .f32⟩
  | .hbm, ⟨10, _⟩ => ⟨S8x4096x4x1, .f32⟩
  | .hbm, ⟨11, _⟩ => ⟨S_, .f32⟩
  | .hbm, ⟨12, _⟩ => ⟨S8x4096x4x1, .f32⟩
  | .hbm, ⟨13, _⟩ => ⟨S8x4096x4x1, .f32⟩
  | .hbm, ⟨14, _⟩ => ⟨S8x4096x4x64, .f32⟩
  | .hbm, ⟨15, _⟩ => ⟨S8x4096x4x64, .f32⟩
  | .hbm, ⟨16, _⟩ => ⟨S8x4096x4x64, .f32⟩
  | .hbm, ⟨17, _⟩ => ⟨S_, .f32⟩
  | .hbm, ⟨18, _⟩ => ⟨S8x4096x4, .f32⟩
  | .hbm, ⟨19, _⟩ => ⟨S8x4096x4x1, .f32⟩
  | .hbm, ⟨20, _⟩ => ⟨S_, .f32⟩
  | .hbm, ⟨21, _⟩ => ⟨S8x4096x4x1, .f32⟩
  | .hbm, ⟨22, _⟩ => ⟨S8x4096x4x1, .f32⟩
  | .hbm, ⟨23, _⟩ => ⟨S8x4096x4x64, .f32⟩
  | .hbm, ⟨24, _⟩ => ⟨S8x4096x4x64, .f32⟩
  | .hbm, ⟨25, _⟩ => ⟨S_, .f32⟩
  | .hbm, ⟨26, _⟩ => ⟨S8x4096x4x1, .f32⟩
  | .hbm, ⟨27, _⟩ => ⟨S8x4096x4x1, .f32⟩
  | .hbm, ⟨28, _⟩ => ⟨S8x4096x4x1, .f32⟩
  | .hbm, ⟨29, _⟩ => ⟨S8x4096x4x64, .f32⟩
  | .hbm, ⟨30, _⟩ => ⟨S8x4096x4x64, .f32⟩
  | .hbm, ⟨31, _⟩ => ⟨S8x32x128x4x64, .f32⟩
  | .hbm, ⟨32, _⟩ => ⟨S_, .i1⟩
  | .hbm, ⟨33, _⟩ => ⟨S128x128, .i1⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S_, .i1⟩
  | .hbm, ⟨41, _⟩ => ⟨S128x128, .i1⟩
  | .hbm, ⟨42, _⟩ => ⟨S128x128, .i1⟩
  | .hbm, ⟨43, _⟩ => ⟨S_, .f32⟩
  | .hbm, ⟨44, _⟩ => ⟨S4x128x128, .f32⟩
  | .hbm, ⟨45, _⟩ => ⟨S4x128x128, .i1⟩
  | .hbm, ⟨46, _⟩ => ⟨S4x128x128, .f32⟩
  | .hbm, ⟨47, _⟩ => ⟨S4x8x32x64x128, .f32⟩
  | .hbm, ⟨48, _⟩ => ⟨S8x32x128x4x64, .f32⟩
  | .hbm, ⟨49, _⟩ => ⟨S128x4, .f32⟩
  | .hbm, ⟨50, _⟩ => ⟨S128x4x1, .f32⟩
  | .hbm, ⟨51, _⟩ => ⟨S1x1x128x4x1, .f32⟩
  | .hbm, ⟨52, _⟩ => ⟨S8x32x128x4x64, .f32⟩
  | .hbm, ⟨53, _⟩ => ⟨S8x32x128x4x64, .f32⟩
  | .hbm, ⟨54, _⟩ => ⟨S8x32x128x4x64, .f32⟩
  | .hbm, ⟨55, _⟩ => ⟨S8x32x128x4x64, .f32⟩
  | .hbm, ⟨56, _⟩ => ⟨S32768x256, .f32⟩
  | .hbm, ⟨57, _⟩ => ⟨S32768x256, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_0 : Ref sig .tc := ⟨.hbm, 40, rfl⟩
abbrev main_call0_v5 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel5.lean ====
abbrev S32768x384 : Shape := ⟨2, ![32768, 384]⟩
abbrev S2x32x64 : Shape := ⟨3, ![2, 32, 64]⟩
abbrev S2x2048x128 : Shape := ⟨3, ![2, 2048, 128]⟩
abbrev S2x128x64 : Shape := ⟨3, ![2, 128, 64]⟩
abbrev S8x256x64 : Shape := ⟨3, ![8, 256, 64]⟩
abbrev S8x64x256 : Shape := ⟨3, ![8, 64, 256]⟩
abbrev S4096x128 : Shape := ⟨2, ![4096, 128]⟩
abbrev S1x256x64 : Shape := ⟨3, ![1, 256, 64]⟩
abbrev S1x64x256 : Shape := ⟨3, ![1, 64, 256]⟩
abbrev S256x128 : Shape := ⟨2, ![256, 128]⟩
abbrev S256x64 : Shape := ⟨2, ![256, 64]⟩
abbrev S1x1x64 : Shape := ⟨3, ![1, 1, 64]⟩
abbrev S1x64 : Shape := ⟨2, ![1, 64]⟩
abbrev S1x64x128 : Shape := ⟨3, ![1, 64, 128]⟩
abbrev S64x128 : Shape := ⟨2, ![64, 128]⟩
abbrev S1x128x64 : Shape := ⟨3, ![1, 128, 64]⟩
abbrev S128x64 : Shape := ⟨2, ![128, 64]⟩
abbrev S128x256 : Shape := ⟨2, ![128, 256]⟩
abbrev S64x256 : Shape := ⟨2, ![64, 256]⟩

abbrev nBuf : Space → Nat
  | .hbm => 6
  | .vmem => 9
  | .smem => 0
  | _ => 0

abbrev bufTy : (tb : Table) → Fin (tcTables nBuf tb) → BufTy
  | .hbm, ⟨0, _⟩ => ⟨S32768x384, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S8x256x64, .bf16⟩
  | .hbm, ⟨5, _⟩ => ⟨S8x64x256, .bf16⟩
  | .local _ .vmem, ⟨0, _⟩ => ⟨S4096x128, .f32⟩
  | .local _ .vmem, ⟨1, _⟩ => ⟨S4096x128, .f32⟩
  | .local _ .vmem, ⟨2, _⟩ => ⟨S2x32x64, .f32⟩
  | .local _ .vmem, ⟨3, _⟩ => ⟨S2x2048x128, .f32⟩
  | .local _ .vmem, ⟨4, _⟩ => ⟨S2x128x64, .f32⟩
  | .local _ .vmem, ⟨5, _⟩ => ⟨S1x256x64, .bf16⟩
  | .local _ .vmem, ⟨6, _⟩ => ⟨S1x256x64, .bf16⟩
  | .local _ .vmem, ⟨7, _⟩ => ⟨S1x64x256, .bf16⟩
  | .local _ .vmem, ⟨8, _⟩ => ⟨S1x64x256, .bf16⟩
  | _, _ => ⟨S32768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S32768x384 : Shape := ⟨2, ![32768, 384]⟩
abbrev S2x32x64 : Shape := ⟨3, ![2, 32, 64]⟩
abbrev S2x2048x128 : Shape := ⟨3, ![2, 2048, 128]⟩
abbrev S2x128x64 : Shape := ⟨3, ![2, 128, 64]⟩
abbrev S8x256x16x384 : Shape := ⟨4, ![8, 256, 16, 384]⟩
abbrev S8x255x16x384 : Shape := ⟨4, ![8, 255, 16, 384]⟩
abbrev S8x255x32x384 : Shape := ⟨4, ![8, 255, 32, 384]⟩
abbrev S8x255x32x64 : Shape := ⟨4, ![8, 255, 32, 64]⟩
abbrev S1x32x64 : Shape := ⟨3, ![1, 32, 64]⟩
abbrev S32x64 : Shape := ⟨2, ![32, 64]⟩
abbrev S1x1x32x64 : Shape := ⟨4, ![1, 1, 32, 64]⟩
abbrev S8x255x2048 : Shape := ⟨3, ![8, 255, 2048]⟩
abbrev S1x2048x128 : Shape := ⟨3, ![1, 2048, 128]⟩
abbrev S2048x128 : Shape := ⟨2, ![2048, 128]⟩
abbrev S8x255x128 : Shape := ⟨3, ![8, 255, 128]⟩
abbrev S_ : Shape := ⟨0, ![]⟩
abbrev S1x128x64 : Shape := ⟨3, ![1, 128, 64]⟩
abbrev S128x64 : Shape := ⟨2, ![128, 64]⟩
abbrev S8x255x64 : Shape := ⟨3, ![8, 255, 64]⟩
abbrev S8x256x64 : Shape := ⟨3, ![8, 256, 64]⟩
abbrev S8x64x256 : Shape := ⟨3, ![8, 64, 256]⟩

abbrev nBuf : Space → Nat
  | .hbm => 61
  | .vmem => 0
  | .smem => 0
  | _ => 0

abbrev bufTy : (tb : Table) → Fin (tcTables nBuf tb) → BufTy
  | .hbm, ⟨0, _⟩ => ⟨S32768x384, .f32⟩
  | .hbm, ⟨1, _⟩ => ⟨S2x32x64, .f32⟩
  | .hbm, ⟨2, _⟩ => ⟨S2x2048x128, .f32⟩
  | .hbm, ⟨3, _⟩ => ⟨S2x128x64, .f32⟩
  | .hbm, ⟨4, _⟩ => ⟨S8x256x16x384, .f32⟩
  | .hbm, ⟨5, _⟩ => ⟨S8x255x16x384, .f32⟩
  | .hbm, ⟨6, _⟩ => ⟨S8x255x16x384, .f32⟩
  | .hbm, ⟨7, _⟩ => ⟨S8x255x32x384, .f32⟩
  | .hbm, ⟨8, _⟩ => ⟨S8x255x32x64, .f32⟩
  | .hbm, ⟨9, _⟩ => ⟨S1x32x64, .f32⟩
  | .hbm, ⟨10, _⟩ => ⟨S32x64, .f32⟩
  | .hbm, ⟨11, _⟩ => ⟨S1x1x32x64, .f32⟩
  | .hbm, ⟨12, _⟩ => ⟨S8x255x32x64, .f32⟩
  | .hbm, ⟨13, _⟩ => ⟨S8x255x32x64, .f32⟩
  | .hbm, ⟨14, _⟩ => ⟨S8x255x2048, .f32⟩
  | .hbm, ⟨15, _⟩ => ⟨S1x2048x128, .f32⟩
  | .hbm, ⟨16, _⟩ => ⟨S2048x128, .f32⟩
  | .hbm, ⟨17, _⟩ => ⟨S8x255x128, .f32⟩
  | .hbm, ⟨18, _⟩ => ⟨S8x255x128, .f32⟩
  | .hbm, ⟨19, _⟩ => ⟨S8x255x128, .f32⟩
  | .hbm, ⟨20, _⟩ => ⟨S_, .f32⟩
  | .hbm, ⟨21, _⟩ => ⟨S8x255x128, .f32⟩
  | .hbm, ⟨22, _⟩ => ⟨S8x255x128, .f32⟩
  | .hbm, ⟨23, _⟩ => ⟨S_, .f32⟩
  | .hbm, ⟨24, _⟩ => ⟨S8x255x128, .f32⟩
  | .hbm, ⟨25, _⟩ => ⟨S8x255x128, .f32⟩
  | .hbm, ⟨26, _⟩ => ⟨S8x255x128, .f32⟩
  | .hbm, ⟨27, _⟩ => ⟨S1x128x64, .f32⟩
  | .hbm, ⟨28, _⟩ => ⟨S128x64, .f32⟩
  | .hbm, ⟨29, _⟩ => ⟨S8x255x64, .f32⟩
  | .hbm, ⟨30, _⟩ => ⟨S_, .i32⟩
  | .hbm, ⟨31, _⟩ => ⟨S_, .f32⟩
  | .hbm, ⟨32, _⟩ => ⟨S8x256x64, .f32⟩
  | .hbm, ⟨33, _⟩ => ⟨S8x256x64, .bf16⟩
  | .hbm, ⟨34, _⟩ => ⟨S8x255x32x64, .f32⟩
  | .hbm, ⟨35, _⟩ => ⟨S1x32x64, .f32⟩
  | .hbm, ⟨36, _⟩ => ⟨S32x64, .f32⟩
  | .hbm, ⟨37, _⟩ => ⟨S1x1x32x64, .f32⟩
  | .hbm, ⟨38, _⟩ => ⟨S8x255x32x64, .f32⟩
  | .hbm, ⟨39, _⟩ => ⟨S8x255x32x64, .f32⟩
  | .hbm, ⟨40, _⟩ => ⟨S8x255x2048, .f32⟩
  | .hbm, ⟨41, _⟩ => ⟨S1x2048x128, .f32⟩
  | .hbm, ⟨42, _⟩ => ⟨S2048x128, .f32⟩
  | .hbm, ⟨43, _⟩ => ⟨S8x255x128, .f32⟩
  | .hbm, ⟨44, _⟩ => ⟨S8x255x128, .f32⟩
  | .hbm, ⟨45, _⟩ => ⟨S8x255x128, .f32⟩
  | .hbm, ⟨46, _⟩ => ⟨S_, .f32⟩
  | .hbm, ⟨47, _⟩ => ⟨S8x255x128, .f32⟩
  | .hbm, ⟨48, _⟩ => ⟨S8x255x128, .f32⟩
  | .hbm, ⟨49, _⟩ => ⟨S_, .f32⟩
  | .hbm, ⟨50, _⟩ => ⟨S8x255x128, .f32⟩
  | .hbm, ⟨51, _⟩ => ⟨S8x255x128, .f32⟩
  | .hbm, ⟨52, _⟩ => ⟨S8x255x128, .f32⟩
  | .hbm, ⟨53, _⟩ => ⟨S1x128x64, .f32⟩
  | .hbm, ⟨54, _⟩ => ⟨S128x64, .f32⟩
  | .hbm, ⟨55, _⟩ => ⟨S8x255x64, .f32⟩
  | .hbm, ⟨56, _⟩ => ⟨S_, .i32⟩
  | .hbm, ⟨57, _⟩ => ⟨S_, .f32⟩
  | .hbm, ⟨58, _⟩ => ⟨S8x256x64, .f32⟩
  | .hbm, ⟨59, _⟩ => ⟨S8x256x64, .bf16⟩
  | .hbm, ⟨60, _⟩ => ⟨S8x64x256, .bf16⟩
  | _, _ => ⟨S32768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_0 : Ref sig .tc := ⟨.hbm, 56, rfl⟩
abbrev main_call3_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== Proof.Tail.Spec.lean ====
module
public import Idealize.ShloMosaic.Lib.Pointwise
@[expose] public section
noncomputable section
/-! The layer tail for one token, as plain functions of that token's rows, over the extended reals. -/
namespace Cert.Tail
open Idealize.ShloMosaic

/-- A row divided by its root mean square: `c` encodes the row's length. -/
def rmsE {n : ℕ} (c : BitVec 32) (x : Fin n → EReal) (j : Fin n) : EReal :=
  x j * Ideal.rsqrt (Ideal.div (∑ k, x k * x k) (Ideal.ofBits .f32 c) + Ideal.ofBits .f32 897988541#32)

/-- One group of the mixers' output, normalised and scaled. -/
def grpE (o g : Fin 256 → EReal) (c : Fin 256) : EReal := rmsE 1132462080#32 o c * g c

/-- The output projection: the four normalised groups against their row ranges of the weight. -/
def projE (o g : Fin 4 → Fin 256 → EReal) (w : Fin 4 → Fin 256 → Fin 1024 → EReal) (j : Fin 1024) : EReal :=
  ∑ c, grpE (o 0) (g 0) c * w 0 c j + ∑ c, grpE (o 1) (g 1) c * w 1 c j
    + ∑ c, grpE (o 2) (g 2) c * w 2 c j + ∑ c, grpE (o 3) (g 3) c * w 3 c j

/-- A gated residual: the normalised branch scaled by its gain and gate, added to the stream. -/
def resE (x gt g y : Fin 1024 → EReal) (j : Fin 1024) : EReal := x j + gt j * (rmsE 1149239296#32 y j * g j)

/-- The modulated input of the MLP. -/
def modE (x g sc sh : Fin 1024 → EReal) (j : Fin 1024) : EReal :=
  rmsE 1149239296#32 x j * g j * (1 + sc j) + sh j

/-- The squared rectifier of one hidden unit. -/
def upE (h w : Fin 1024 → EReal) : EReal := max (∑ k, h k * w k) 0 * max (∑ k, h k * w k) 0

/-- The MLP: the hidden units in four ranges of 1024. -/
def mlpE (h : Fin 1024 → EReal) (wu : Fin 4 → Fin 1024 → Fin 1024 → EReal)
    (wd : Fin 4 → Fin 1024 → Fin 1024 → EReal) (j : Fin 1024) : EReal :=
  ∑ f, upE h (fun k => wu 0 k f) * wd 0 f j + ∑ f, upE h (fun k => wu 1 k f) * wd 1 f j
    + ∑ f, upE h (fun k => wu 2 k f) * wd 2 f j + ∑ f, upE h (fun k => wu 3 k f) * wd 3 f j

/-- The stream after the mixers' residual. -/
def midE (o g : Fin 4 → Fin 256 → EReal) (w : Fin 4 → Fin 256 → Fin 1024 → EReal) (x : Fin 1024 → EReal)
    (md : Fin 6 → Fin 1024 → EReal) (ng : Fin 4 → Fin 1024 → EReal) : Fin 1024 → EReal :=
  resE x (md 2) (ng 1) (projE o g w)

/-- The whole tail for one token, from the stream after the mixers' residual. -/
def tailE (xm : Fin 1024 → EReal) (md : Fin 6 → Fin 1024 → EReal) (ng : Fin 4 → Fin 1024 → EReal)
    (wu wd : Fin 4 → Fin 1024 → Fin 1024 → EReal) : Fin 1024 → EReal :=
  resE xm (md 5) (ng 3) (mlpE (modE xm (ng 2) (md 4) (md 3)) wu wd)

end Cert.Tail
-- ==== Proof.Tail.Kern.lean ====
module
public import proofs.«01_k».proof.Proof.Gen.Kernel2Ideal.Frame
public import proofs.«01_k».proof.Proof.Tail.Spec
public import Idealize.ShloMosaic.Lib.Pipeline.ValueKit
@[expose] public section
set_option maxRecDepth 16384
noncomputable section
/-! What the tail kernel stores, row by row, in the words of `Spec`. -/
namespace Cert.Tail
open Idealize.ShloMosaic Cert.Kernel2Ideal Cert.Kernel2Ideal.Gen

section half
variable (i : grid0.Coords) (x0 : FVec Ideal S512x768 .bf16) (x1 : FVec Ideal S16x768 .bf16)
  (x2 : FVec Ideal S3x256 .f32) (x3 x4 x5 : FVec Ideal S512x256 .bf16) (x6 : FVec Ideal S4x256 .f32)
  (x7 : FVec Ideal S1x1024x1024 .bf16) (x8 : FVec Ideal S512x1024 .f32) (x9 : FVec Ideal S1x6x1024 .f32)
  (x10 : FVec Ideal S4x1024 .f32) (x11 : FVec Ideal S1x1024x4096 .bf16) (x12 : FVec Ideal S1x4096x1024 .bf16)

/-- The kernel's convolution output for a block. -/
def convK : FVec Ideal S512x256 .f32 :=
  k0_pay7 (k0_pay38 (F := Ideal) i x0 x1 x2 x3 x4 x5 x6 x7 x8 x9 x10 x11 x12) (k0_pay39 (F := Ideal) i x0 x1 x2 x3 x4 x5 x6 x7 x8 x9 x10 x11 x12)
    (k0_pay37 (F := Ideal) i x0 x1 x2 x3 x4 x5 x6 x7 x8 x9 x10 x11 x12) (k0_pay40 (F := Ideal) i x0 x1 x2 x3 x4 x5 x6 x7 x8 x9 x10 x11 x12)
    (k0_pay41 (F := Ideal) i x0 x1 x2 x3 x4 x5 x6 x7 x8 x9 x10 x11 x12) (View.ld x2 r0_6) (View.ld x0 r0_7)

/-- The four mixers' rows for the block's row `r`. -/
def rowsK (cv : FVec Ideal S512x256 .f32) (r : Fin 512) (k : Fin 4) (c : Fin 256) : EReal :=
  match k with
  | 0 => cv (ix2 r c) | 1 => x3 (ix2 r c) | 2 => x4 (ix2 r c) | 3 => x5 (ix2 r c)

/-- The projection weight as four ranges of 256 rows. -/
def woK (k : Fin 4) (c : Fin 256) (j : Fin 1024) : EReal := x7 (ix3 0 ⟨k.val * 256 + c.val, by omega⟩ j)
/-- The first MLP weight as four ranges of 1024 columns. -/
def wuK (k : Fin 4) (c : Fin 1024) (f : Fin 1024) : EReal := x11 (ix3 0 c ⟨k.val * 1024 + f.val, by omega⟩)
/-- The second MLP weight as four ranges of 1024 rows. -/
def wdK (k : Fin 4) (f : Fin 1024) (j : Fin 1024) : EReal := x12 (ix3 0 ⟨k.val * 1024 + f.val, by omega⟩ j)

/-- The kernel's stream after the mixers' residual, at the block's row `r`. -/
def midK (r : Fin 512) : Fin 1024 → EReal :=
  midE (rowsK x3 x4 x5 (convK i x0 x1 x2 x3 x4 x5 x6 x7 x8 x9 x10 x11 x12) r) (fun k c => x6 (ix2 k c)) (woK x7)
    (fun j => x8 (ix2 r j)) (fun k j => x9 (ix3 0 k j)) (fun k j => x10 (ix2 k j))

/-- The first half of the block after the mixers' residual. -/
theorem pay42_apply (r : Fin 256) (j : Fin 1024) :
    k0_pay42 (F := Ideal) i x0 x1 x2 x3 x4 x5 x6 x7 x8 x9 x10 x11 x12 (ix2 r j)
      = midK i x0 x1 x2 x3 x4 x5 x6 x7 x8 x9 x10 x11 x12 ⟨r.val, by omega⟩ j := by
  have h : ∀ c : Fin 256, k0_pay9 (k0_pay38 (F := Ideal) i x0 x1 x2 x3 x4 x5 x6 x7 x8 x9 x10 x11 x12) (k0_pay39 (F := Ideal) i x0 x1 x2 x3 x4 x5 x6 x7 x8 x9 x10 x11 x12)
    (k0_pay37 (F := Ideal) i x0 x1 x2 x3 x4 x5 x6 x7 x8 x9 x10 x11 x12) (k0_pay40 (F := Ideal) i x0 x1 x2 x3 x4 x5 x6 x7 x8 x9 x10 x11 x12)
    (k0_pay41 (F := Ideal) i x0 x1 x2 x3 x4 x5 x6 x7 x8 x9 x10 x11 x12) (View.ld x2 r0_6) (View.ld x0 r0_7) (View.ld x6 r0_9) (ix2 r c)
     = grpE (fun c => convK i x0 x1 x2 x3 x4 x5 x6 x7 x8 x9 x10 x11 x12 (ix2 ⟨r.val, by omega⟩ c)) (fun c => x6 (ix2 0 c)) c := by
    intro c
    pointwise [k0_pay9]
    rfl
  pointwise [k0_pay42, k0_pay15, k0_pay12, k0_pay13, k0_pay10, k0_pay8, k0_pay11, k0_pay14]
  simp only [h]
  rfl

/-- The second half of the block after the mixers' residual. -/
theorem pay43_apply (r : Fin 256) (j : Fin 1024) :
    k0_pay43 (F := Ideal) i x0 x1 x2 x3 x4 x5 x6 x7 x8 x9 x10 x11 x12 (ix2 r j)
      = midK i x0 x1 x2 x3 x4 x5 x6 x7 x8 x9 x10 x11 x12 ⟨256 + r.val, by omega⟩ j := by
  have h : ∀ j : Fin 1024, k0_pay16 (k0_pay7 (k0_pay38 (F := Ideal) i x0 x1 x2 x3 x4 x5 x6 x7 x8 x9 x10 x11 x12) (k0_pay39 (F := Ideal) i x0 x1 x2 x3 x4 x5 x6 x7 x8 x9 x10 x11 x12)
    (k0_pay37 (F := Ideal) i x0 x1 x2 x3 x4 x5 x6 x7 x8 x9 x10 x11 x12) (k0_pay40 (F := Ideal) i x0 x1 x2 x3 x4 x5 x6 x7 x8 x9 x10 x11 x12)
    (k0_pay41 (F := Ideal) i x0 x1 x2 x3 x4 x5 x6 x7 x8 x9 x10 x11 x12) (View.ld x2 r0_6) (View.ld x0 r0_7)) (View.ld x6 r0_9) (View.ld x7 r0_10) (ix2 r j)
     = ∑ c, grpE (fun c => convK i x0 x1 x2 x3 x4 x5 x6 x7 x8 x9 x10 x11 x12 (ix2 ⟨256 + r.val, by omega⟩ c)) (fun c => x6 (ix2 0 c)) c * woK x7 0 c j := by
    intro c
    pointwise [k0_pay16, grpE, rmsE, woK, convK]
  pointwise [k0_pay43, k0_pay17, k0_pay18, k0_pay19, k0_pay20, k0_pay21]
  simp only [h, midK, midE, resE, projE, grpE, rmsE, rowsK, woK]
  blk_point []

/-- The modulated input of the MLP, first half. -/
theorem pay44_apply (r : Fin 256) (j : Fin 1024) :
    k0_pay44 (F := Ideal) i x0 x1 x2 x3 x4 x5 x6 x7 x8 x9 x10 x11 x12 (ix2 r j)
      = modE (midK i x0 x1 x2 x3 x4 x5 x6 x7 x8 x9 x10 x11 x12 ⟨r.val, by omega⟩) (fun j => x10 (ix2 2 j)) (fun j => x9 (ix3 0 4 j)) (fun j => x9 (ix3 0 3 j)) j := by
  pointwise [k0_pay44, k0_pay22, k0_pay23]
  simp only [pay42_apply]
  rfl

/-- The modulated input of the MLP, second half. -/
theorem pay45_apply (r : Fin 256) (j : Fin 1024) :
    k0_pay45 (F := Ideal) i x0 x1 x2 x3 x4 x5 x6 x7 x8 x9 x10 x11 x12 (ix2 r j)
      = modE (midK i x0 x1 x2 x3 x4 x5 x6 x7 x8 x9 x10 x11 x12 ⟨256 + r.val, by omega⟩) (fun j => x10 (ix2 2 j)) (fun j => x9 (ix3 0 4 j)) (fun j => x9 (ix3 0 3 j)) j := by
  pointwise [k0_pay45, k0_pay24]
  simp only [pay43_apply]
  rfl

/-- The MLP of the first half, normalised and scaled. -/
theorem mlp0_apply (h : FVec Ideal S256x1024 .bf16) (r : Fin 256) (j : Fin 1024) :
    k0_pay35 h (k0_pay32 h (k0_pay27 h (k0_pay25 (F := Ideal)) (View.ld x11 r0_25) (View.ld x12 r0_26)) (k0_pay30 h (View.ld x11 r0_27)) (k0_pay31 (View.ld x12 r0_28)) (View.ld x11 r0_29) (View.ld x12 r0_30)) (View.ld x11 r0_31) (View.ld x12 r0_32) (View.ld x10 r0_34) (ix2 r j)
      = rmsE 1149239296#32 (mlpE (fun k => h (ix2 r k)) (wuK x11) (wdK x12)) j * x10 (ix2 3 j) := by
  pointwise [k0_pay35, k0_pay32, k0_pay27, k0_pay25, k0_pay30, k0_pay31, mlpE, rmsE, upE, wuK, wdK]

/-- The MLP of the second half. -/
theorem mlp1_apply (h : FVec Ideal S256x1024 .bf16) (r : Fin 256) (j : Fin 1024) :
    k0_pay34 h (k0_pay33 h (k0_pay28 h (k0_pay26 (F := Ideal)) (View.ld x11 r0_25) (View.ld x12 r0_26)) (k0_pay29 h (View.ld x11 r0_27)) (View.ld x12 r0_28) (View.ld x11 r0_29) (View.ld x12 r0_30)) (View.ld x11 r0_31) (View.ld x12 r0_32) (ix2 r j)
      = mlpE (fun k => h (ix2 r k)) (wuK x11) (wdK x12) j := by
  pointwise [k0_pay34, k0_pay33, k0_pay28, k0_pay26, k0_pay29, mlpE, rmsE, upE, wuK, wdK]

/-- The kernel's result at the block's row `r`. -/
def tailK (r : Fin 512) : Fin 1024 → EReal :=
  tailE (midK i x0 x1 x2 x3 x4 x5 x6 x7 x8 x9 x10 x11 x12 r) (fun k j => x9 (ix3 0 k j)) (fun k j => x10 (ix2 k j)) (wuK x11) (wdK x12)

/-- What the kernel leaves in its output block, row by row. -/
theorem out_apply (r : Fin 512) (j : Fin 1024) :
    out0_13 (F := Ideal) i x0 x1 x2 x3 x4 x5 x6 x7 x8 x9 x10 x11 x12 (ix2 r j) = tailK i x0 x1 x2 x3 x4 x5 x6 x7 x8 x9 x10 x11 x12 r j := by
  canon_tiles x h
  · obtain ⟨r', j', rfl⟩ : ∃ (a : Fin 256) (b : Fin 1024), x = ix2 a b := ⟨x 0, x 1, eq_ix2 x⟩
    obtain rfl : r = ⟨256 + r'.val, by clear h0 h1 x0_lt x1_lt; omega⟩ := Fin.ext (by simpa using h0)
    obtain rfl : j = j' := Fin.ext (by simpa using h1)
    pointwise [k0_pay2]
    simp only [mlp1_apply, pay43_apply, pay45_apply]
    rfl
  · obtain ⟨r', j', rfl⟩ : ∃ (a : Fin 256) (b : Fin 1024), x = ix2 a b := ⟨x 0, x 1, eq_ix2 x⟩
    obtain rfl : r = ⟨r'.val, by clear h0 h1 x0_lt x1_lt; omega⟩ := Fin.ext (by simpa using h0)
    obtain rfl : j = j' := Fin.ext (by simpa using h1)
    pointwise [k0_pay1, k0_pay36]
    simp only [mlp0_apply, pay42_apply, pay44_apply]
    rfl
end half
end Cert.Tail
-- ==== Proof.Tail.Conv.lean ====
module
public import proofs.«01_k».proof.Proof.Tail.Kern
@[expose] public section
set_option maxRecDepth 16384
noncomputable section
/-! The kernel's convolution block, read off the block and the sixteen rows before it. -/
namespace Cert.Tail
open Idealize.ShloMosaic Cert.Kernel2Ideal Cert.Kernel2Ideal.Gen

/-- The product the convolution runs over, at a row of the block. -/
def zK (x0 : FVec Ideal S512x768 .bf16) (r : Fin 512) (c : Fin 256) : EReal :=
  x0 (ix2 r ⟨512 + c.val, by omega⟩) * x0 (ix2 r ⟨c.val, by omega⟩)

/-- The same at a row of the sixteen rows before the block: zero where a sequence begins. -/
def haloK (t : ℕ) (x1 : FVec Ideal S16x768 .bf16) (r : Fin 16) (c : Fin 256) : EReal :=
  if t % 8 = 0 then 0 else x1 (ix2 r ⟨512 + c.val, by omega⟩) * x1 (ix2 r ⟨c.val, by omega⟩)

/-- A choice on a word's equality with a small constant is a choice on the numbers. -/
theorem sel_eq (n k : ℕ) (hn : n < 2 ^ 32) (hk : k < 2 ^ 32) (a b : EReal) :
    Scalar.select (IntOp.cmpi .eq (BitVec.ofNat 32 n) (BitVec.ofNat 32 k)) a b = if n = k then a else b := by
  have h : (BitVec.ofNat 32 n = BitVec.ofNat 32 k) ↔ n = k := by
    rw [← BitVec.toNat_inj, BitVec.toNat_ofNat, BitVec.toNat_ofNat, Nat.mod_eq_of_lt hn, Nat.mod_eq_of_lt hk]
  by_cases e : n = k
  · subst e; simp [Scalar.select, IntOp.cmpi]
  · have : ¬ BitVec.ofNat 32 n = BitVec.ofNat 32 k := fun q => e (h.1 q)
    have hb : (BitVec.ofNat 32 n == BitVec.ofNat 32 k) = false := beq_eq_false_iff_ne.2 this
    simp [Scalar.select, IntOp.cmpi, e, hb]

/-- The printed remainder test, decided at every grid point. -/
theorem halo_bit : ∀ n : Fin 64, Scalar.cmpi .eq (Scalar.select (Scalar.andi (Scalar.xori
      (Scalar.cmpi .slt (Scalar.remsi (BitVec.ofNat 32 n.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 n.val) (Scalar.select (Scalar.cmpi .eq 8#32 0#32) 1#32 8#32)) 0#32))
      (Scalar.addi (Scalar.remsi (BitVec.ofNat 32 n.val) (Scalar.select (Scalar.cmpi .eq 8#32 0#32) 1#32 8#32))
        (Scalar.select (Scalar.cmpi .eq 8#32 0#32) 1#32 8#32))
      (Scalar.remsi (BitVec.ofNat 32 n.val) (Scalar.select (Scalar.cmpi .eq 8#32 0#32) 1#32 8#32))) 0#32
    = if n.val % 8 = 0 then 1#1 else 0#1 := by decide +kernel

/-- The rows before the block, masked where a sequence begins. -/
theorem pay4_apply (i : grid0.Coords) (x1 : FVec Ideal S16x768 .bf16) (r : Fin 16) (c : Fin 256) :
    k0_pay4 (F := Ideal) i (View.ld x1 r0_2) (View.ld x1 r0_3) (ix2 r c) = haloK (i 0).val x1 r c := by
  pointwise [k0_pay4]
  have h := halo_bit (i 0)
  rw [h]
  unfold haloK
  split <;> rfl

/-- The convolution block, row by row. -/
theorem conv_apply (i : grid0.Coords) (x0 : FVec Ideal S512x768 .bf16) (x1 : FVec Ideal S16x768 .bf16)
  (x2 : FVec Ideal S3x256 .f32) (x3 x4 x5 : FVec Ideal S512x256 .bf16) (x6 : FVec Ideal S4x256 .f32)
  (x7 : FVec Ideal S1x1024x1024 .bf16) (x8 : FVec Ideal S512x1024 .f32) (x9 : FVec Ideal S1x6x1024 .f32)
  (x10 : FVec Ideal S4x1024 .f32) (x11 : FVec Ideal S1x1024x4096 .bf16) (x12 : FVec Ideal S1x4096x1024 .bf16)
   (r : Fin 512) (c : Fin 256) :
    convK i x0 x1 x2 x3 x4 x5 x6 x7 x8 x9 x10 x11 x12 (ix2 r c)
      = x0 (ix2 r ⟨256 + c.val, by omega⟩) * (x2 (ix2 2 c) * zK x0 r c
        + x2 (ix2 1 c) * (if r.val = 0 then haloK (i 0).val x1 15 c else zK x0 ⟨r.val - 1, by omega⟩ c)
        + x2 (ix2 0 c) * (if r.val = 0 then haloK (i 0).val x1 14 c else if r.val = 1 then haloK (i 0).val x1 15 c else zK x0 ⟨r.val - 2, by omega⟩ c)) := by
  unfold convK
  pointwise [k0_pay7, k0_pay37, k0_pay38, k0_pay39, k0_pay40, k0_pay41, k0_pay3, k0_pay5, k0_pay6]
  simp only [pay4_apply]
  rw [sel_eq r.val 0 (by omega) (by omega), sel_eq r.val 1 (by omega) (by omega), sel_eq r.val 0 (by omega) (by omega)]
  unfold zK
  rcases Nat.lt_or_ge r.val 2 with hr | hr
  · rcases Nat.lt_or_ge r.val 1 with hr1 | hr1
    · have : r.val = 0 := by omega
      simp [this]
    · have : r.val = 1 := by omega
      simp [this]
  · have h1 : (⟨(r.val + 512 - 1) % 512, by omega⟩ : Fin 512) = ⟨r.val - 1, by omega⟩ := Fin.ext (by simp only []; omega)
    have h2 : (⟨(r.val + 512 - 2) % 512, by omega⟩ : Fin 512) = ⟨r.val - 2, by omega⟩ := Fin.ext (by simp only []; omega)
    rw [if_neg (by omega), if_neg (by omega), if_neg (by omega), if_neg (by omega), if_neg (by omega), if_neg (by omega), h1, h2]
end Cert.Tail
-- ==== Proof.Tail.Ref.lean ====
module
public import proofs.«01_k».proof.Proof.Gen.Reference2Ideal.Read
public import proofs.«01_k».proof.Proof.Tail.Spec
public import Idealize.ShloMosaic.Lib.Pipeline.ValueKit
@[expose] public section
set_option maxRecDepth 16384
noncomputable section
/-! What the tail reference computes, token by token, in the words of `Spec`. -/
namespace Cert.Tail
open Idealize.ShloMosaic Cert.Reference2Ideal Cert.Reference2Ideal.Gen Cert.Reference2Ideal.Read

/-- The row of token `s` of sequence `b` in a flat array. -/
def tok (b : Fin 8) (s : Fin 4096) : Fin 32768 := ⟨b.val * 4096 + s.val, by omega⟩

section stages
variable (x0 : FVec Ideal S32768x768 .bf16) (x1 x2 x3 : FVec Ideal S32768x256 .bf16)
  (x4 : FVec Ideal S3x256 .f32) (x5 : FVec Ideal S1024 .f32) (x6 : FVec Ideal S4x1024x1024 .bf16)
  (x7 : FVec Ideal S4x1024x4096 .bf16) (x8 : FVec Ideal S4x4096x1024 .bf16) (x9 : FVec Ideal S32768x1024 .f32)
  (x10 : FVec Ideal S8x6x1024 .f32) (x11 : FVec Ideal S4x1024 .f32)

/-- The product the convolution runs over. -/
def zR (b : Fin 8) (s : Fin 4096) (c : Fin 256) : EReal :=
  x0 (ix2 (tok b s) ⟨512 + c.val, by omega⟩) * x0 (ix2 (tok b s) ⟨c.val, by omega⟩)

/-- The same `d` tokens earlier, zero before the sequence begins. -/
def prvR (d : ℕ) (b : Fin 8) (s : Fin 4096) (c : Fin 256) : EReal :=
  if s.val < d then 0 else zR x0 b ⟨s.val - d, by omega⟩ c

/-- The gated short convolution. -/
def convR (b : Fin 8) (s : Fin 4096) (c : Fin 256) : EReal :=
  x0 (ix2 (tok b s) ⟨256 + c.val, by omega⟩)
    * (x4 (ix2 2 c) * zR x0 b s c + x4 (ix2 1 c) * prvR x0 1 b s c + x4 (ix2 0 c) * prvR x0 2 b s c)

/-- The four mixers' rows for one token. -/
def rowsR (b : Fin 8) (s : Fin 4096) (k : Fin 4) (c : Fin 256) : EReal :=
  match k with
  | 0 => convR x0 x4 b s c | 1 => x1 (ix2 (tok b s) c) | 2 => x2 (ix2 (tok b s) c) | 3 => x3 (ix2 (tok b s) c)

/-- The gain as four ranges. -/
def gainR (k : Fin 4) (c : Fin 256) : EReal := x5 (ix1 ⟨k.val * 256 + c.val, by omega⟩)
/-- The projection weight of the first layer as four ranges of 256 rows. -/
def woR (k : Fin 4) (c : Fin 256) (j : Fin 1024) : EReal := x6 (ix3 0 ⟨k.val * 256 + c.val, by omega⟩ j)
/-- The first MLP weight of the first layer as four ranges of 1024 columns. -/
def wuR (k : Fin 4) (c : Fin 1024) (f : Fin 1024) : EReal := x7 (ix3 0 c ⟨k.val * 1024 + f.val, by omega⟩)
/-- The second MLP weight of the first layer as four ranges of 1024 rows. -/
def wdR (k : Fin 4) (f : Fin 1024) (j : Fin 1024) : EReal := x8 (ix3 0 ⟨k.val * 1024 + f.val, by omega⟩ j)

/-- The stream after the mixers' residual, for one token. -/
def midR (b : Fin 8) (s : Fin 4096) : Fin 1024 → EReal :=
  midE (rowsR x0 x1 x2 x3 x4 b s) (gainR x5) (woR x6) (fun j => x9 (ix2 (tok b s) j)) (fun k j => x10 (ix3 b k j))
    (fun k j => x11 (ix2 k j))

/-- The tail's result for one token. -/
def tailR (b : Fin 8) (s : Fin 4096) : Fin 1024 → EReal :=
  tailE (midR x0 x1 x2 x3 x4 x5 x6 x9 x10 x11 b s) (fun k j => x10 (ix3 b k j)) (fun k j => x11 (ix2 k j)) (wuR x7) (wdR x8)

/-- The convolved product. -/
theorem v5_apply (b : Fin 8) (s : Fin 4096) (c : Fin 256) :
    val_main_v5 (F := Ideal) x0 (ix3 b s c) = zR x0 b s c := by
  pointwise [val_main_v5, val_main_v4, val_main_v2, val_main_v1, val_main_v0, zR, tok]

/-- The padding value is zero. -/
theorem pad_zero : val_main_call0_v0 (F := Ideal) (Shape.Idx.first h_S_) = (0 : EReal) := by
  show ((((0#32 : BitVec 32).toInt : ℤ) : ℝ) : EReal) = 0
  simp

/-- The gated short convolution of the reference. -/
theorem v27_apply (b : Fin 8) (s : Fin 4096) (c : Fin 256) :
    val_main_v27 (F := Ideal) x0 x4 (ix3 b s c) = convR x0 x4 b s c := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v3, val_main_v1, val_main_v0]
  have h0 : (if h : 2 ≤ s.val ∧ s.val - 2 < 4096 then val_main_v5 (F := Ideal) x0 (ix3 b ⟨s.val - 2, h.2⟩ c)
      else val_main_call0_v0 (Shape.Idx.first h_S_)) = prvR x0 2 b s c := by
    unfold prvR
    rcases lt_or_ge s.val 2 with hs | hs
    · rw [dif_neg (by omega), if_pos hs, pad_zero]
    · rw [dif_pos (by omega), if_neg (by omega), v5_apply]
  have h1 : (if h : 2 ≤ 1 + s.val ∧ 1 + s.val - 2 < 4096 then val_main_v5 (F := Ideal) x0 (ix3 b ⟨1 + s.val - 2, h.2⟩ c)
      else val_main_call0_v0 (Shape.Idx.first h_S_)) = prvR x0 1 b s c := by
    unfold prvR
    rcases lt_or_ge s.val 1 with hs | hs
    · rw [dif_neg (by omega), if_pos hs, pad_zero]
    · rw [dif_pos (by omega), if_neg (by omega), v5_apply]
      congr 1; exact Fin.ext (by simp only []; omega)
  rw [h0, h1, v5_apply]
  unfold convR tok
  rw [add_comm (x4 (ix2 0 c) * _), add_comm _ (x4 (ix2 2 c) * _), ← add_assoc]

/-- The four groups side by side. -/
theorem v38_apply (b : Fin 8) (s : Fin 4096) (k : Fin 4) (c : Fin 256) :
    val_main_v38 (F := Ideal) x0 x1 x2 x3 x4 (ix4 b s k c) = rowsR x0 x1 x2 x3 x4 b s k c := by
  pointwise [val_main_v38, val_main_v37, val_main_v36, val_main_v35, val_main_v34, val_main_v33, val_main_v32, val_main_v31, val_main_v30, val_main_v29, val_main_v28]
  rw [v27_apply]
  fin_cases k <;> rfl

/-- The normalised groups. -/
theorem v53_apply (b : Fin 8) (s : Fin 4096) (k : Fin 4) (c : Fin 256) :
    val_main_v53 (F := Ideal) x0 x1 x2 x3 x4 x5 (ix3 b s ⟨k.val * 256 + c.val, by omega⟩)
      = grpE (rowsR x0 x1 x2 x3 x4 b s k) (gainR x5 k) c := by
  have h1 : (⟨(k.val * 256 + c.val) / 256, by omega⟩ : Fin 4) = k := Fin.ext (by simp only []; omega)
  have h2 : (⟨(k.val * 256 + c.val) % 256, by omega⟩ : Fin 256) = c := Fin.ext (by simp only []; omega)
  pointwise [val_main_v53, val_main_v52, val_main_v51, val_main_v50, val_main_v49, val_main_v48, val_main_v47, val_main_v46, val_main_v45, val_main_v44, val_main_v43, val_main_v42, val_main_v41, val_main_v40, val_main_v39, val_main_cst, val_main_cst_0, val_main_cst_1]
  simp only [h1, h2, v38_apply, grpE, rmsE, gainR]

/-- One term of the projection. -/
theorem v57_term (b : Fin 8) (s : Fin 4096) (j : Fin 1024) (k : Fin 4) (c : Fin 256) :
    (val_main_v53 (F := Ideal) x0 x1 x2 x3 x4 x5 (ix3 b s ⟨k.val * 256 + c.val, by omega⟩) * x6 (ix3 0 ⟨k.val * 256 + c.val, by omega⟩ j) : EReal)
        = grpE (rowsR x0 x1 x2 x3 x4 b s k) (gainR x5 k) c * woR x6 k c j := by rw [v53_apply, woR]

/-- The output projection of the reference. -/
theorem v57_apply (b : Fin 8) (s : Fin 4096) (j : Fin 1024) :
    val_main_v57 (F := Ideal) x0 x1 x2 x3 x4 x5 x6 (ix3 b s j)
      = projE (rowsR x0 x1 x2 x3 x4 b s) (gainR x5) (woR x6) j := by
  pointwise [val_main_v57, val_main_v56, val_main_v55, val_main_v54]
  rw [← Fin.sum_mul_add_fin 4 256]
  refine (Finset.sum_congr rfl fun k _ => Finset.sum_congr rfl fun c _ =>
    v57_term x0 x1 x2 x3 x4 x5 x6 b s j k c).trans ?_
  rw [Fin.sum_univ_four, projE]

/-- The projected row, normalised and scaled, from any projection. -/
theorem res1 (y : FVec Ideal S8x4096x1024 .f32) (b : Fin 8) (s : Fin 4096) (j : Fin 1024) :
    addf (val_main_v70 (F := Ideal) x9) (mulf (val_main_v86 (F := Ideal) x10) (mulf (mulf y (broadcastInDim S8x4096x1024 ![0, 1, 2] bcast_S8x4096x1_S8x4096x1024_0_1_2
      (Host.rsqrt (addf (Host.divf (broadcastInDim S8x4096x1 ![0, 1] bcast_S8x4096_S8x4096x1_0_1
        (Host.reduceAdd (mulf y y) (val_main_cst_2 (F := Ideal)) reducesTo_S8x4096x1024_S8x4096_d2 h_S_)) (val_main_v76 (F := Ideal))) (val_main_v78 (F := Ideal)))))) (val_main_v84 (F := Ideal) x11))) (ix3 b s j)
    = resE (fun j => x9 (ix2 (tok b s) j)) (fun j => x10 (ix3 b 2 j)) (fun j => x11 (ix2 1 j)) (fun j => y (ix3 b s j)) j := by
  pointwise [val_main_v70, val_main_v86, val_main_v60, val_main_v59, val_main_v58, val_main_v76, val_main_v78, val_main_v84, val_main_v83, val_main_v72, val_main_v71, val_main_cst_2, val_main_cst_3, val_main_cst_4]
  simp only [resE, rmsE, tok]

/-- The stream after the mixers' residual. -/
theorem v88_apply (b : Fin 8) (s : Fin 4096) (j : Fin 1024) :
    val_main_v88 (F := Ideal) x0 x1 x2 x3 x4 x5 x6 x9 x10 x11 (ix3 b s j)
      = midR x0 x1 x2 x3 x4 x5 x6 x9 x10 x11 b s j := by
  refine (res1 x9 x10 x11 (val_main_v57 (F := Ideal) x0 x1 x2 x3 x4 x5 x6) b s j).trans ?_
  rw [midR, midE]
  simp only [v57_apply]

/-- The modulated input of the MLP. -/
theorem v109_apply (b : Fin 8) (s : Fin 4096) (j : Fin 1024) :
    val_main_v109 (F := Ideal) x0 x1 x2 x3 x4 x5 x6 x9 x10 x11 (ix3 b s j)
      = modE (midR x0 x1 x2 x3 x4 x5 x6 x9 x10 x11 b s) (fun j => x11 (ix2 2 j)) (fun j => x10 (ix3 b 4 j)) (fun j => x10 (ix3 b 3 j)) j := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_cst_5, val_main_cst_6, val_main_cst_7, val_main_cst_8, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75]
  simp only [v88_apply, modE, rmsE]

/-- One hidden unit. -/
theorem v115_apply (b : Fin 8) (s : Fin 4096) (f : Fin 4096) :
    val_main_v115 (F := Ideal) x0 x1 x2 x3 x4 x5 x6 x7 x9 x10 x11 (ix3 b s f)
      = upE (modE (midR x0 x1 x2 x3 x4 x5 x6 x9 x10 x11 b s) (fun j => x11 (ix2 2 j)) (fun j => x10 (ix3 b 4 j)) (fun j => x10 (ix3 b 3 j))) (fun k => x7 (ix3 0 k f)) := by
  pointwise [val_main_v115, val_main_v114, val_main_v113, val_main_v112, val_main_v111, val_main_v110, val_main_call1_v0, val_main_call1_cst]
  simp only [v109_apply, upE]

/-- One term of the MLP's second product. -/
theorem v119_term (b : Fin 8) (s : Fin 4096) (j : Fin 1024) (k : Fin 4) (f : Fin 1024) :
    (val_main_v115 (F := Ideal) x0 x1 x2 x3 x4 x5 x6 x7 x9 x10 x11 (ix3 b s ⟨k.val * 1024 + f.val, by omega⟩) * x8 (ix3 0 ⟨k.val * 1024 + f.val, by omega⟩ j) : EReal)
        = upE (modE (midR x0 x1 x2 x3 x4 x5 x6 x9 x10 x11 b s) (fun j => x11 (ix2 2 j)) (fun j => x10 (ix3 b 4 j)) (fun j => x10 (ix3 b 3 j))) (fun q => wuR x7 k q f) * wdR x8 k f j := by
  rw [v115_apply, wdR]; simp only [wuR]

/-- The MLP. -/
theorem v119_apply (b : Fin 8) (s : Fin 4096) (j : Fin 1024) :
    val_main_v119 (F := Ideal) x0 x1 x2 x3 x4 x5 x6 x7 x8 x9 x10 x11 (ix3 b s j)
      = mlpE (modE (midR x0 x1 x2 x3 x4 x5 x6 x9 x10 x11 b s) (fun j => x11 (ix2 2 j)) (fun j => x10 (ix3 b 4 j)) (fun j => x10 (ix3 b 3 j))) (wuR x7) (wdR x8) j := by
  pointwise [val_main_v119, val_main_v118, val_main_v117, val_main_v116]
  rw [← Fin.sum_mul_add_fin 4 1024]
  refine (Finset.sum_congr rfl fun k _ => Finset.sum_congr rfl fun f _ =>
    v119_term x0 x1 x2 x3 x4 x5 x6 x7 x8 x9 x10 x11 b s j k f).trans ?_
  rw [Fin.sum_univ_four, mlpE]

/-- The reference's result, token by token. -/
theorem v138_apply (b : Fin 8) (s : Fin 4096) (j : Fin 1024) :
    val_main_v138 (F := Ideal) x0 x1 x2 x3 x4 x5 x6 x7 x8 x9 x10 x11 (ix2 (tok b s) j)
      = tailR x0 x1 x2 x3 x4 x5 x6 x7 x8 x9 x10 x11 b s j := by
  have h1 : (⟨(tok b s).val / 4096, by omega⟩ : Fin 8) = b := Fin.ext (by simp only [tok]; omega)
  have h2 : (⟨(tok b s).val % 4096, by omega⟩ : Fin 4096) = s := Fin.ext (by simp only [tok]; omega)
  pointwise [val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_cst_9, val_main_cst_10, val_main_cst_11, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75]
  simp only [h1, h2, v88_apply, v119_apply, tailR, tailE, resE, rmsE]
end stages
end Cert.Tail
-- ==== Proof.Tail.Final.lean ====
module
public import proofs.«01_k».proof.Proof.Gen.Kernel2Ideal.Value
public import proofs.«01_k».proof.Proof.Tail.Conv
public import proofs.«01_k».proof.Proof.Tail.Ref
@[expose] public section
set_option maxRecDepth 16384
noncomputable section
/-! The tail kernel's blocks are the reference's tokens. -/
namespace Cert.Tail
open Idealize.ShloMosaic Idealize.ShloMosaic.TcCoe Idealize.SL.Sem Cert.Kernel2Ideal Cert.Kernel2Ideal.Gen

/-- Where every window stands at a grid point. -/
theorem idx : ∀ t : Fin cfg0.N, win0_0.index t = ![t.val, 0] ∧ win0_1.index t = ![32 * t.val - 1, 0] ∧ win0_2.index t = ![0, 0]
    ∧ win0_3.index t = ![t.val, 0] ∧ win0_4.index t = ![t.val, 0] ∧ win0_5.index t = ![t.val, 0] ∧ win0_6.index t = ![0, 0]
    ∧ win0_7.index t = ![0, 0, 0] ∧ win0_8.index t = ![t.val, 0] ∧ win0_9.index t = ![t.val / 8, 0, 0] ∧ win0_10.index t = ![0, 0]
    ∧ win0_11.index t = ![0, 0, 0] ∧ win0_12.index t = ![0, 0, 0] ∧ win0_13.index t = ![t.val, 0] ∧ (grid0.coords t 0).val = t.val :=
  (by decide +kernel : ∀ t : Fin grid0.N, _)

/-- The sequence of a block. -/
def bOf (t : Fin cfg0.N) : Fin 8 := ⟨t.val / 8, by have : t.val < 64 := t.isLt; omega⟩
/-- The place of a block's row in its sequence. -/
def sOf (t : Fin cfg0.N) (r : Fin 512) : Fin 4096 := ⟨t.val % 8 * 512 + r.val, by omega⟩

/-- A block's row is its token. -/
theorem tok_val (t : Fin cfg0.N) (r : Fin 512) : (tok (bOf t) (sOf t r)).val = t.val * 512 + r.val := by
  simp only [tok, bOf, sOf]; omega

variable (m : (ℓ : Loc nD τ sig) → Buf (Elt Ideal) ℓ) (c : Dev nD) (t : Fin cfg0.N) (r : Fin 512)

/-- The blocks, read at their tokens. -/
theorem blk0 (q : Fin 768) : (iblk m c 0 t : FVec Ideal S512x768 .bf16) (ix2 r q) = (m ((c : Thread nD τ).loc main_arg0) : FVec Ideal S32768x768 .bf16) (ix2 (tok (bOf t) (sOf t r)) q) := by
  have h := tok_val t r
  blk_ext! [iblk, V, idx t]

/-- A mixer's block. -/
theorem blk3 (q : Fin 256) : (iblk m c 3 t : FVec Ideal S512x256 .bf16) (ix2 r q) = (m ((c : Thread nD τ).loc main_arg1) : FVec Ideal S32768x256 .bf16) (ix2 (tok (bOf t) (sOf t r)) q) := by
  have h := tok_val t r
  blk_ext! [iblk, V, idx t]

/-- A mixer's block. -/
theorem blk4 (q : Fin 256) : (iblk m c 4 t : FVec Ideal S512x256 .bf16) (ix2 r q) = (m ((c : Thread nD τ).loc main_arg2) : FVec Ideal S32768x256 .bf16) (ix2 (tok (bOf t) (sOf t r)) q) := by
  have h := tok_val t r
  blk_ext! [iblk, V, idx t]

/-- A mixer's block. -/
theorem blk5 (q : Fin 256) : (iblk m c 5 t : FVec Ideal S512x256 .bf16) (ix2 r q) = (m ((c : Thread nD τ).loc main_arg3) : FVec Ideal S32768x256 .bf16) (ix2 (tok (bOf t) (sOf t r)) q) := by
  have h := tok_val t r
  blk_ext! [iblk, V, idx t]

/-- The stream's block. -/
theorem blk8 (q : Fin 1024) : (iblk m c 8 t : FVec Ideal S512x1024 .f32) (ix2 r q) = (m ((c : Thread nD τ).loc main_arg9) : FVec Ideal S32768x1024 .f32) (ix2 (tok (bOf t) (sOf t r)) q) := by
  have h := tok_val t r
  blk_ext! [iblk, V, idx t]

/-- The modulation's block. -/
theorem blk9 (k : Fin 6) (q : Fin 1024) : (iblk m c 9 t : FVec Ideal S1x6x1024 .f32) (ix3 0 k q) = (m ((c : Thread nD τ).loc main_arg10) : FVec Ideal S8x6x1024 .f32) (ix3 (bOf t) k q) := by
  have h : (bOf t).val = t.val / 8 := rfl
  blk_ext! [iblk, V, idx t]

/-- An operand every block sees alike. -/
theorem blk2 (k : Fin 3) (q : Fin 256) : (iblk m c 2 t : FVec Ideal S3x256 .f32) (ix2 k q) = (m ((c : Thread nD τ).loc main_arg4) : FVec Ideal S3x256 .f32) (ix2 k q) := by
  blk_ext! [iblk, V, idx t]

/-- An operand every block sees alike. -/
theorem blk10 (k : Fin 4) (q : Fin 1024) : (iblk m c 10 t : FVec Ideal S4x1024 .f32) (ix2 k q) = (m ((c : Thread nD τ).loc main_arg11) : FVec Ideal S4x1024 .f32) (ix2 k q) := by
  blk_ext! [iblk, V, idx t]

/-- An operand every block sees alike. -/
theorem blk7 (k : Fin 1024) (q : Fin 1024) : (iblk m c 7 t : FVec Ideal S1x1024x1024 .bf16) (ix3 0 k q) = (m ((c : Thread nD τ).loc main_arg6) : FVec Ideal S4x1024x1024 .bf16) (ix3 0 k q) := by
  blk_ext! [iblk, V, idx t]

/-- An operand every block sees alike. -/
theorem blk11 (k : Fin 1024) (q : Fin 4096) : (iblk m c 11 t : FVec Ideal S1x1024x4096 .bf16) (ix3 0 k q) = (m ((c : Thread nD τ).loc main_arg7) : FVec Ideal S4x1024x4096 .bf16) (ix3 0 k q) := by
  blk_ext! [iblk, V, idx t]

/-- An operand every block sees alike. -/
theorem blk12 (k : Fin 4096) (q : Fin 1024) : (iblk m c 12 t : FVec Ideal S1x4096x1024 .bf16) (ix3 0 k q) = (m ((c : Thread nD τ).loc main_arg8) : FVec Ideal S4x4096x1024 .bf16) (ix3 0 k q) := by
  blk_ext! [iblk, V, idx t]

/-- The gain, which the host reshapes. -/
theorem blk6 (k : Fin 4) (q : Fin 256) : (iblk m c 6 t : FVec Ideal S4x256 .f32) (ix2 k q) = (m ((c : Thread nD τ).loc main_arg5) : FVec Ideal S1024 .f32) (ix1 ⟨k.val * 256 + q.val, by omega⟩) := by
  blk_point [iblk, V, idx t]

/-- The sixteen rows before the block. -/
theorem blk1 (ht : ¬ t.val % 8 = 0) (d : Fin 16) (q : Fin 768) : (iblk m c 1 t : FVec Ideal S16x768 .bf16) (ix2 d q)
    = (m ((c : Thread nD τ).loc main_arg0) : FVec Ideal S32768x768 .bf16) (ix2 ⟨t.val * 512 - 16 + d.val, by have : t.val < 64 := t.isLt; omega⟩ q) := by
  blk_ext! [iblk, V, idx t]

/-- The product of the convolution, at a block's row. -/
theorem z_eq (q : Fin 256) : zK (iblk m c 0 t) r q = zR (m ((c : Thread nD τ).loc main_arg0)) (bOf t) (sOf t r) q := by
  unfold zK zR
  rw [blk0, blk0]

/-- The product in the rows before the block, away from a sequence's beginning. -/
theorem halo_eq (d e : ℕ) (hd : d < 16) (he : d + e = 16 + r.val) (h1 : 0 < e) (hr : r.val < e) (h2 : e < 512) (q : Fin 256) :
    haloK t.val (iblk m c 1 t) ⟨d, hd⟩ q = prvR (m ((c : Thread nD τ).loc main_arg0)) e (bOf t) (sOf t r) q := by
  have hN : t.val < 64 := t.isLt
  unfold haloK prvR
  have hs : (sOf t r).val = t.val % 8 * 512 + r.val := rfl
  by_cases ht : t.val % 8 = 0
  · rw [if_pos ht, if_pos (by omega)]
  · rw [if_neg ht, if_neg (by omega), blk1 m c t ht, blk1 m c t ht]
    have hrow : (⟨t.val * 512 - 16 + d, by omega⟩ : Fin 32768) = tok (bOf t) ⟨(sOf t r).val - e, by omega⟩ :=
      Fin.ext (by simp only [tok, bOf, sOf]; omega)
    unfold zR
    rw [hrow]

/-- The convolution of a block's row is the reference's at its token. -/
theorem conv_eq (q : Fin 256) :
    convK (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r q)
      = convR (m ((c : Thread nD τ).loc main_arg0)) (m ((c : Thread nD τ).loc main_arg4)) (bOf t) (sOf t r) q := by
  have hN : t.val < 64 := t.isLt
  have ht : (grid0.coords t 0).val = t.val := (idx t).2.2.2.2.2.2.2.2.2.2.2.2.2.2
  have hs : (sOf t r).val = t.val % 8 * 512 + r.val := rfl
  have e1 : (if r.val = 0 then haloK t.val (iblk m c 1 t) 15 q else zK (iblk m c 0 t) ⟨r.val - 1, by omega⟩ q)
      = prvR (m ((c : Thread nD τ).loc main_arg0)) 1 (bOf t) (sOf t r) q := by
    by_cases h : r.val = 0
    · rw [if_pos h]; exact halo_eq m c t r 15 1 (by omega) (by omega) (by omega) (by omega) (by omega) q
    · rw [if_neg h, z_eq, prvR, if_neg (by omega)]
      congr 1; exact Fin.ext (by simp only [sOf]; omega)
  have e2 : (if r.val = 0 then haloK t.val (iblk m c 1 t) 14 q else if r.val = 1 then haloK t.val (iblk m c 1 t) 15 q
      else zK (iblk m c 0 t) ⟨r.val - 2, by omega⟩ q) = prvR (m ((c : Thread nD τ).loc main_arg0)) 2 (bOf t) (sOf t r) q := by
    by_cases h : r.val = 0
    · rw [if_pos h]; exact halo_eq m c t r 14 2 (by omega) (by omega) (by omega) (by omega) (by omega) q
    · rw [if_neg h]
      by_cases h' : r.val = 1
      · rw [if_pos h']; exact halo_eq m c t r 15 2 (by omega) (by omega) (by omega) (by omega) (by omega) q
      · rw [if_neg h', z_eq, prvR, if_neg (by omega)]
        congr 1; exact Fin.ext (by simp only [sOf]; omega)
  rw [conv_apply, ht, e1, e2, z_eq, blk0, blk2, blk2, blk2, convR]

/-- The stream after the mixers' residual, at a block's row. -/
theorem mid_eq : midK (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r
    = midR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (bOf t) (sOf t r) := by
  have e1 : rowsK (iblk m c 3 t) (iblk m c 4 t) (iblk m c 5 t) (convK (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) r
      = rowsR (m ((c : Thread nD τ).loc main_arg0)) (m ((c : Thread nD τ).loc main_arg1)) (m ((c : Thread nD τ).loc main_arg2)) (m ((c : Thread nD τ).loc main_arg3)) (m ((c : Thread nD τ).loc main_arg4)) (bOf t) (sOf t r) := by
    funext k q
    match k with
    | 0 => exact conv_eq m c t r q
    | 1 => exact blk3 m c t r q
    | 2 => exact blk4 m c t r q
    | 3 => exact blk5 m c t r q
  have e2 : (fun k q => (iblk m c 6 t : FVec Ideal S4x256 .f32) (ix2 k q)) = gainR (m ((c : Thread nD τ).loc main_arg5)) := by
    funext k q; exact blk6 m c t k q
  have e3 : woK (iblk m c 7 t) = woR (m ((c : Thread nD τ).loc main_arg6)) := by
    funext k q j; exact blk7 m c t _ j
  unfold midK midR
  rw [e1, e2, e3]
  simp only [blk8, blk9, blk10]

/-- The block's row is the reference's token. -/
theorem tail_eq : tailK (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r
    = tailR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (bOf t) (sOf t r) := by
  have e4 : wuK (iblk m c 11 t) = wuR (m ((c : Thread nD τ).loc main_arg7)) := by
    funext k q j; exact blk11 m c t q _
  have e5 : wdK (iblk m c 12 t) = wdR (m ((c : Thread nD τ).loc main_arg8)) := by
    funext k q j; exact blk12 m c t _ j
  unfold tailK tailR
  rw [mid_eq, e4, e5]
  simp only [blk9, blk10]

/-- The output array after the run is the reference's result. -/
theorem final (m : (ℓ : Loc nD τ sig) → Buf (Elt Ideal) ℓ) (c : Dev nD) : (dats m 0 c).arrAt 13 cfg0.N
    = Cert.Reference2Ideal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ (by decide +kernel) fun t _ y => ?_
  blk_simp
  rw [after0_13]
  obtain ⟨r, j, rfl⟩ : ∃ (a : Fin 512) (b : Fin 1024), y = ix2 a b := ⟨y 0, y 1, eq_ix2 y⟩
  refine (out_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j).trans ?_
  rw [tail_eq]
  refine (v138_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (bOf t) (sOf t r) j).symm.trans ?_
  have h := tok_val t r
  generalize Cert.Reference2Ideal.Read.val_main_v138 (F := Ideal) _ _ _ _ _ _ _ _ _ _ _ _ = z
  blk_ext [idx t]

end Cert.Tail
-- ==== Proof.InProj.Kern.lean ====
module
public import proofs.«01_k».proof.Proof.Gen.Kernel3Ideal.Frame
public import proofs.«01_k».proof.Proof.Tail.Spec
public import Idealize.ShloMosaic.Lib.Pipeline.ValueKit
@[expose] public section
set_option maxRecDepth 16384
noncomputable section
/-! What the input projection's kernel stores in its eight blocks, row by row. -/
namespace Cert.InProj
open Idealize.ShloMosaic Cert.Kernel3Ideal Cert.Kernel3Ideal.Gen Cert.Tail

section block
variable (x0 : FVec Ideal S512x1024 .f32) (x1 : FVec Ideal S1x6x1024 .f32) (x2 : FVec Ideal S4x1024 .f32)
  (x3 : FVec Ideal S1x1024x2816 .bf16)

/-- The modulated, normalised row of a block. -/
def rowK (r : Fin 512) : Fin 1024 → EReal :=
  modE (fun q => x0 (ix2 r q)) (fun q => x2 (ix2 0 q)) (fun q => x1 (ix3 0 1 q)) (fun q => x1 (ix3 0 0 q))

/-- One column of the packed projection, at a row of a block. -/
def colK (r : Fin 512) (p : Fin 2816) : EReal := ∑ q, rowK x0 x1 x2 r q * x3 (ix3 0 q p)

/-- The row that every product of the body reads. -/
theorem row_apply (r : Fin 512) (q : Fin 1024) :
    k0_pay2 (F := Ideal) (View.ld x0 r0_0) (View.ld x2 r0_1) (View.ld x1 r0_2) (View.ld x1 r0_3) (ix2 r q)
      = rowK x0 x1 x2 r q := by
  pointwise [k0_pay2, rowK, modE, rmsE]

/-- The same row, under the name the later products read it by. -/
theorem row_apply' (r : Fin 512) (q : Fin 1024) : k0_pay11 (F := Ideal) x0 x1 x2 x3 (ix2 r q) = rowK x0 x1 x2 r q :=
  row_apply x0 x1 x2 r q

/-- The convolution's three parts. -/
theorem out4_apply (r : Fin 512) (j : Fin 768) :
    out0_4 (F := Ideal) x0 x1 x2 x3 (ix2 r j) = colK x0 x1 x2 x3 r ⟨0 + j.val, by omega⟩ := by
  canon_tiles x h
  obtain ⟨r', j', rfl⟩ : ∃ (a : Fin 512) (b : Fin 768), x = ix2 a b := ⟨x 0, x 1, eq_ix2 x⟩
  obtain rfl : r = r' := Fin.ext (by simpa using h0)
  obtain rfl : j = j' := Fin.ext (by simpa using h1)
  pointwise [k0_pay3, colK]
  simp only [row_apply]

/-- The queries of the sparse attention. -/
theorem out5_apply (r : Fin 512) (j : Fin 256) :
    out0_5 (F := Ideal) x0 x1 x2 x3 (ix2 r j) = colK x0 x1 x2 x3 r ⟨768 + j.val, by omega⟩ := by
  canon_tiles x h
  obtain ⟨r', j', rfl⟩ : ∃ (a : Fin 512) (b : Fin 256), x = ix2 a b := ⟨x 0, x 1, eq_ix2 x⟩
  obtain rfl : r = r' := Fin.ext (by simpa using h0)
  obtain rfl : j = j' := Fin.ext (by simpa using h1)
  pointwise [k0_pay4, colK]
  simp only [row_apply]

/-- Its keys and values. -/
theorem out6_apply (r : Fin 512) (j : Fin 384) :
    out0_6 (F := Ideal) x0 x1 x2 x3 (ix2 r j) = colK x0 x1 x2 x3 r ⟨1024 + j.val, by omega⟩ := by
  canon_tiles x h
  obtain ⟨r', j', rfl⟩ : ∃ (a : Fin 512) (b : Fin 384), x = ix2 a b := ⟨x 0, x 1, eq_ix2 x⟩
  obtain rfl : r = r' := Fin.ext (by simpa using h0)
  obtain rfl : j = j' := Fin.ext (by simpa using h1)
  pointwise [k0_pay6, k0_pay5, colK]
  simp only [row_apply']

/-- The two narrow parts, padded to 128 columns. -/
theorem out7_apply (r : Fin 512) (j : Fin 128) :
    out0_7 (F := Ideal) x0 x1 x2 x3 (ix2 r j) = colK x0 x1 x2 x3 r ⟨1024 + (384 + j.val), by omega⟩ := by
  canon_tiles x h
  obtain ⟨r', j', rfl⟩ : ∃ (a : Fin 512) (b : Fin 128), x = ix2 a b := ⟨x 0, x 1, eq_ix2 x⟩
  obtain rfl : r = r' := Fin.ext (by simpa using h0)
  obtain rfl : j = j' := Fin.ext (by simpa using h1)
  pointwise [k0_pay7, k0_pay5, colK]
  simp only [row_apply']

/-- The queries and keys of the linear attention. -/
theorem out8_apply (r : Fin 512) (j : Fin 256) :
    out0_8 (F := Ideal) x0 x1 x2 x3 (ix2 r j) = colK x0 x1 x2 x3 r ⟨1536 + j.val, by omega⟩ := by
  canon_tiles x h
  obtain ⟨r', j', rfl⟩ : ∃ (a : Fin 512) (b : Fin 256), x = ix2 a b := ⟨x 0, x 1, eq_ix2 x⟩
  obtain rfl : r = r' := Fin.ext (by simpa using h0)
  obtain rfl : j = j' := Fin.ext (by simpa using h1)
  pointwise [k0_pay8, colK]
  simp only [row_apply']

/-- Its values. -/
theorem out9_apply (r : Fin 512) (j : Fin 256) :
    out0_9 (F := Ideal) x0 x1 x2 x3 (ix2 r j) = colK x0 x1 x2 x3 r ⟨1792 + j.val, by omega⟩ := by
  canon_tiles x h
  obtain ⟨r', j', rfl⟩ : ∃ (a : Fin 512) (b : Fin 256), x = ix2 a b := ⟨x 0, x 1, eq_ix2 x⟩
  obtain rfl : r = r' := Fin.ext (by simpa using h0)
  obtain rfl : j = j' := Fin.ext (by simpa using h1)
  pointwise [k0_pay9, colK]
  simp only [row_apply']

/-- Its output gate. -/
theorem out10_apply (r : Fin 512) (j : Fin 256) :
    out0_10 (F := Ideal) x0 x1 x2 x3 (ix2 r j) = colK x0 x1 x2 x3 r ⟨2048 + j.val, by omega⟩ := by
  canon_tiles x h
  obtain ⟨r', j', rfl⟩ : ∃ (a : Fin 512) (b : Fin 256), x = ix2 a b := ⟨x 0, x 1, eq_ix2 x⟩
  obtain rfl : r = r' := Fin.ext (by simpa using h0)
  obtain rfl : j = j' := Fin.ext (by simpa using h1)
  pointwise [k0_pay10, colK]
  simp only [row_apply']

/-- The two halves of the gated MLP over the sequence. -/
theorem out11_apply (r : Fin 512) (j : Fin 512) :
    out0_11 (F := Ideal) x0 x1 x2 x3 (ix2 r j) = colK x0 x1 x2 x3 r ⟨2304 + j.val, by omega⟩ := by
  canon_tiles x h
  obtain ⟨r', j', rfl⟩ : ∃ (a : Fin 512) (b : Fin 512), x = ix2 a b := ⟨x 0, x 1, eq_ix2 x⟩
  obtain rfl : r = r' := Fin.ext (by simpa using h0)
  obtain rfl : j = j' := Fin.ext (by simpa using h1)
  pointwise [k0_pay1, colK]
  simp only [row_apply']

end block
end Cert.InProj
-- ==== Proof.InProj.Ref.lean ====
module
public import proofs.«01_k».proof.Proof.Gen.Reference3Ideal.Read
public import proofs.«01_k».proof.Proof.Tail.Spec
public import Idealize.ShloMosaic.Lib.Pipeline.ValueKit
@[expose] public section
set_option maxRecDepth 16384
noncomputable section
/-! What the input projection's reference computes, token by token. -/
namespace Cert.InProj
open Idealize.ShloMosaic Cert.Reference3Ideal Cert.Reference3Ideal.Gen Cert.Reference3Ideal.Read Cert.Tail

/-- The sequence a token belongs to. -/
def seqOf (n : Fin 32768) : Fin 8 := ⟨n.val / 4096, by omega⟩

section stages
variable (x0 : FVec Ideal S32768x1024 .f32) (x1 : FVec Ideal S8x6x1024 .f32) (x2 : FVec Ideal S4x1024 .f32)
  (x3 : FVec Ideal S4x1024x2716 .f32)

/-- The modulated, normalised row of a token. -/
def rowR (n : Fin 32768) : Fin 1024 → EReal :=
  modE (fun q => x0 (ix2 n q)) (fun q => x2 (ix2 0 q)) (fun q => x1 (ix3 (seqOf n) 1 q)) (fun q => x1 (ix3 (seqOf n) 0 q))

/-- One column of the first layer's projection, for a token. -/
def colR (n : Fin 32768) (p : Fin 2716) : EReal := ∑ q, rowR x0 x1 x2 n q * x3 (ix3 0 q p)

/-- The row that the projection reads. -/
theorem v27_apply (n : Fin 32768) (q : Fin 1024) :
    val_main_v27 (F := Ideal) x0 x1 x2 (ix3 (seqOf n) ⟨n.val % 4096, by omega⟩ q) = rowR x0 x1 x2 n q := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, seqOf, rowR, modE, rmsE]

/-- A column of the projection. -/
theorem v30_apply (n : Fin 32768) (p : Fin 2716) :
    val_main_v30 (F := Ideal) x0 x1 x2 x3 (ix3 (seqOf n) ⟨n.val % 4096, by omega⟩ p) = colR x0 x1 x2 x3 n p := by
  pointwise [val_main_v30, val_main_v29, val_main_v28]
  simp only [v27_apply, colR]

/-- The convolution's three parts. -/
theorem v43_apply (n : Fin 32768) (j : Fin 768) :
    val_main_v43 (F := Ideal) x0 x1 x2 x3 (ix2 n j) = colR x0 x1 x2 x3 n ⟨0 + j.val, by omega⟩ := by
  rw [← v30_apply]
  pointwise [val_main_v43, val_main_v42, val_main_v31, seqOf]

/-- The queries of the sparse attention. -/
theorem v45_apply (n : Fin 32768) (j : Fin 256) :
    val_main_v45 (F := Ideal) x0 x1 x2 x3 (ix2 n j) = colR x0 x1 x2 x3 n ⟨768 + j.val, by omega⟩ := by
  rw [← v30_apply]
  pointwise [val_main_v45, val_main_v44, val_main_v32, seqOf]

/-- Its keys and values. -/
theorem v46_apply (n : Fin 32768) (j : Fin 384) :
    val_main_v46 (F := Ideal) x0 x1 x2 x3 (ix2 n j) = colR x0 x1 x2 x3 n ⟨1024 + j.val, by omega⟩ := by
  rw [← v30_apply]
  pointwise [val_main_v46, val_main_v33, seqOf]

/-- The two narrow parts, padded to 128 columns. -/
theorem v48_apply (n : Fin 32768) (j : Fin 128) :
    val_main_v48 (F := Ideal) x0 x1 x2 x3 (ix2 n j)
      = if h : j.val < 12 then colR x0 x1 x2 x3 n ⟨1408 + j.val, by omega⟩
        else if h' : j.val - 12 < 16 then colR x0 x1 x2 x3 n ⟨2188 + (j.val - 12), by omega⟩ else 0 := by
  simp only [← v30_apply]
  pointwise [val_main_v48, val_main_v47, val_main_v41, val_main_v40, val_main_v38, val_main_v34, val_main_cst_3, seqOf]

/-- The queries and keys of the linear attention. -/
theorem v50_apply (n : Fin 32768) (j : Fin 256) :
    val_main_v50 (F := Ideal) x0 x1 x2 x3 (ix2 n j) = colR x0 x1 x2 x3 n ⟨1420 + j.val, by omega⟩ := by
  rw [← v30_apply]
  pointwise [val_main_v50, val_main_v49, val_main_v35, seqOf]

/-- Its values. -/
theorem v52_apply (n : Fin 32768) (j : Fin 256) :
    val_main_v52 (F := Ideal) x0 x1 x2 x3 (ix2 n j) = colR x0 x1 x2 x3 n ⟨1676 + j.val, by omega⟩ := by
  rw [← v30_apply]
  pointwise [val_main_v52, val_main_v51, val_main_v36, seqOf]

/-- Its output gate. -/
theorem v54_apply (n : Fin 32768) (j : Fin 256) :
    val_main_v54 (F := Ideal) x0 x1 x2 x3 (ix2 n j) = colR x0 x1 x2 x3 n ⟨1932 + j.val, by omega⟩ := by
  rw [← v30_apply]
  pointwise [val_main_v54, val_main_v53, val_main_v37, seqOf]

/-- The two halves of the gated MLP over the sequence. -/
theorem v56_apply (n : Fin 32768) (j : Fin 512) :
    val_main_v56 (F := Ideal) x0 x1 x2 x3 (ix2 n j) = colR x0 x1 x2 x3 n ⟨2204 + j.val, by omega⟩ := by
  rw [← v30_apply]
  pointwise [val_main_v56, val_main_v55, val_main_v39, seqOf]

end stages
end Cert.InProj
-- ==== Proof.InProj.Final.lean ====
module
public import proofs.«01_k».proof.Proof.Gen.Kernel3Ideal.Value
public import proofs.«01_k».proof.Proof.InProj.Kern
public import proofs.«01_k».proof.Proof.InProj.Ref
@[expose] public section
set_option maxRecDepth 16384
noncomputable section
/-! The input projection's eight arrays are the reference's. -/
namespace Cert.InProj
open Idealize.ShloMosaic Idealize.ShloMosaic.TcCoe Idealize.SL.Sem Cert.Kernel3Ideal Cert.Kernel3Ideal.Gen

/-- Where every window stands at a grid point. -/
theorem idx : ∀ t : Fin cfg0.N, win0_0.index t = ![t.val, 0] ∧ win0_1.index t = ![t.val / 8, 0, 0] ∧ win0_2.index t = ![0, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The token at a block's row. -/
def tokOf (t : Fin cfg0.N) (r : Fin 512) : Fin 32768 := ⟨t.val * 512 + r.val, by have : t.val < 64 := t.isLt; omega⟩

variable (m : (ℓ : Loc nD τ sig) → Buf (Elt Ideal) ℓ) (c : Dev nD) (t : Fin cfg0.N) (r : Fin 512)

/-- The stream's block. -/
theorem blk0 (q : Fin 1024) : (iblk m c 0 t : FVec Ideal S512x1024 .f32) (ix2 r q) = (m ((c : Thread nD τ).loc main_arg0) : FVec Ideal S32768x1024 .f32) (ix2 (tokOf t r) q) := by
  have h : (tokOf t r).val = t.val * 512 + r.val := rfl
  blk_ext! [iblk, V, idx t]

/-- The modulation's block. -/
theorem blk1 (k : Fin 6) (q : Fin 1024) : (iblk m c 1 t : FVec Ideal S1x6x1024 .f32) (ix3 0 k q) = (m ((c : Thread nD τ).loc main_arg1) : FVec Ideal S8x6x1024 .f32) (ix3 (seqOf (tokOf t r)) k q) := by
  have h : (seqOf (tokOf t r)).val = t.val / 8 := by
    show (t.val * 512 + r.val) / 4096 = _
    omega
  blk_ext! [iblk, V, idx t]

/-- The gains every block sees alike. -/
theorem blk2 (k : Fin 4) (q : Fin 1024) : (iblk m c 2 t : FVec Ideal S4x1024 .f32) (ix2 k q) = (m ((c : Thread nD τ).loc main_arg2) : FVec Ideal S4x1024 .f32) (ix2 k q) := by
  blk_ext! [iblk, V, idx t]

/-- The packed weight as the host lays it out from the unpacked one. -/
def packed (w : FVec Ideal S4x1024x2716 .f32) (q : Fin 1024) (p : Fin 2816) : EReal :=
  if h : p.val < 1408 then w (ix3 0 q ⟨p.val, by omega⟩)
  else if h : p.val - 1408 < 12 then w (ix3 0 q ⟨1408 + (p.val - 1408), by omega⟩)
  else if h : p.val - 1408 - 12 < 16 then w (ix3 0 q ⟨2188 + (p.val - 1408 - 12), by omega⟩)
  else if h : p.val - 1408 - 12 - 16 < 100 then 0
  else if h : p.val - 1408 - 12 - 16 - 100 < 768 then w (ix3 0 q ⟨1420 + (p.val - 1408 - 12 - 16 - 100), by omega⟩)
  else w (ix3 0 q ⟨2204 + (p.val - 1408 - 12 - 16 - 100 - 768), by omega⟩)

/-- The host's operations on the weight: its column ranges, laid side by side. -/
def packOps (w : FVec Ideal S4x1024x2716 .f32) : FVec Ideal S4x1024x2816 .bf16 :=
  truncf .bf16 (concatenate S4x1024x2816 2
    [⟨S4x1024x1408, extractStridedSlice S4x1024x1408 ![0, 0, 0] w slices_S4x1024x2716_S4x1024x1408_0_0_0⟩,
     ⟨S4x1024x12, extractStridedSlice S4x1024x12 ![0, 0, 1408] w slices_S4x1024x2716_S4x1024x12_0_0_1408⟩,
     ⟨S4x1024x16, extractStridedSlice S4x1024x16 ![0, 0, 2188] w slices_S4x1024x2716_S4x1024x16_0_0_2188⟩,
     ⟨S4x1024x100, broadcastInDim S4x1024x100 ![] bcast_S_S4x1024x100 (constant S_ .f32 0x00000000#32)⟩,
     ⟨S4x1024x768, extractStridedSlice S4x1024x768 ![0, 0, 1420] w slices_S4x1024x2716_S4x1024x768_0_0_1420⟩,
     ⟨S4x1024x512, extractStridedSlice S4x1024x512 ![0, 0, 2204] w slices_S4x1024x2716_S4x1024x512_0_0_2204⟩]
    concatenates_S4x1024x1408_S4x1024x12_S4x1024x16_S4x1024x100_S4x1024x768_S4x1024x512_S4x1024x2816_d2) bitsLt_bf16_f32

/-- Those operations, column by column. -/
theorem packOps_apply (w : FVec Ideal S4x1024x2716 .f32) (q : Fin 1024) (p : Fin 2816) : packOps w (ix3 0 q p) = packed w q p := by
  pointwise [packOps, packed]

/-- What the kernel's fourth operand holds when its region starts. -/
theorem V_weight : (V m c main_v7 : FVec Ideal S4x1024x2816 .bf16) = packOps (m ((c : Thread nD τ).loc main_arg3)) := by
  rfl

/-- The weight's block. -/
theorem blk3 (q : Fin 1024) (p : Fin 2816) : (iblk m c 3 t : FVec Ideal S1x1024x2816 .bf16) (ix3 0 q p)
    = packed (m ((c : Thread nD τ).loc main_arg3)) q p := by
  refine Eq.trans ?_ (packOps_apply _ q p)
  rw [← V_weight]
  unfold iblk
  generalize V m c = v
  blk_ext! [idx t]

/-- A block's row is its token's. -/
theorem row_eq : rowK (iblk m c 0 t) (iblk m c 1 t) (iblk m c 2 t) r = rowR (m ((c : Thread nD τ).loc main_arg0)) (m ((c : Thread nD τ).loc main_arg1)) (m ((c : Thread nD τ).loc main_arg2)) (tokOf t r) := by
  unfold rowK rowR
  simp only [blk0, blk1 m c t r, blk2]

/-- A packed column that repeats an unpacked one. -/
theorem col_eq (p : Fin 2816) (p' : Fin 2716) (h : ∀ (w : FVec Ideal S4x1024x2716 .f32) (q : Fin 1024), packed w q p = w (ix3 0 q p')) :
    colK (iblk m c 0 t) (iblk m c 1 t) (iblk m c 2 t) (iblk m c 3 t) r p = colR (m ((c : Thread nD τ).loc main_arg0)) (m ((c : Thread nD τ).loc main_arg1)) (m ((c : Thread nD τ).loc main_arg2)) (m ((c : Thread nD τ).loc main_arg3)) (tokOf t r) p' := by
  unfold colK colR
  rw [row_eq]
  exact Finset.sum_congr rfl fun q _ => by rw [blk3, h]

/-- A packed column of zeros. -/
theorem col_zero (p : Fin 2816) (h : ∀ (w : FVec Ideal S4x1024x2716 .f32) (q : Fin 1024), packed w q p = 0) :
    colK (iblk m c 0 t) (iblk m c 1 t) (iblk m c 2 t) (iblk m c 3 t) r p = 0 :=
  Finset.sum_eq_zero fun q _ => by rw [blk3, h, mul_zero]

/-- The five column ranges of the packed weight that are not padding. -/
theorem packed_low (w : FVec Ideal S4x1024x2716 .f32) (q : Fin 1024) (n : ℕ) (h : n < 1408) :
    packed w q ⟨n, by omega⟩ = w (ix3 0 q ⟨n, by omega⟩) := by
  unfold packed
  rw [dif_pos (by exact h)]

/-- The middle range, shifted by the padding and the narrow parts. -/
theorem packed_mid (w : FVec Ideal S4x1024x2716 .f32) (q : Fin 1024) (n n' : ℕ) (hl : 1536 ≤ n) (hu : n < 2304) (hn : n = n' + 116) :
    packed w q ⟨n, by omega⟩ = w (ix3 0 q ⟨n', by omega⟩) := by
  subst hn
  unfold packed
  rw [dif_neg (by show ¬ n' + 116 < 1408; omega), dif_neg (by show ¬ n' + 116 - 1408 < 12; omega),
    dif_neg (by show ¬ n' + 116 - 1408 - 12 < 16; omega), dif_neg (by show ¬ n' + 116 - 1408 - 12 - 16 < 100; omega),
    dif_pos (by show n' + 116 - 1408 - 12 - 16 - 100 < 768; omega)]
  congr 2
  exact Fin.ext (by show 1420 + (n' + 116 - 1408 - 12 - 16 - 100) = n'; omega)

/-- The last range. -/
theorem packed_high (w : FVec Ideal S4x1024x2716 .f32) (q : Fin 1024) (k : ℕ) (hk : k < 512) :
    packed w q ⟨2304 + k, by omega⟩ = w (ix3 0 q ⟨2204 + k, by omega⟩) := by
  unfold packed
  rw [dif_neg (by show ¬ 2304 + k < 1408; omega), dif_neg (by show ¬ 2304 + k - 1408 < 12; omega),
    dif_neg (by show ¬ 2304 + k - 1408 - 12 < 16; omega), dif_neg (by show ¬ 2304 + k - 1408 - 12 - 16 < 100; omega),
    dif_neg (by show ¬ 2304 + k - 1408 - 12 - 16 - 100 < 768; omega)]
  congr 2
  exact Fin.ext (by show 2204 + (2304 + k - 1408 - 12 - 16 - 100 - 768) = 2204 + k; omega)

/-- The narrow range: the gates, the low-rank part, the padding. -/
theorem packed_narrow (w : FVec Ideal S4x1024x2716 .f32) (q : Fin 1024) (k : ℕ) (hk : k < 128) :
    packed w q ⟨1024 + (384 + k), by omega⟩
      = if h : k < 12 then w (ix3 0 q ⟨1408 + k, by omega⟩) else if h' : k - 12 < 16 then w (ix3 0 q ⟨2188 + (k - 12), by omega⟩) else 0 := by
  have e : 1024 + (384 + k) - 1408 = k := by omega
  unfold packed
  rw [dif_neg (by show ¬ 1024 + (384 + k) < 1408; omega)]
  simp only [e]
  split
  · rfl
  · split
    · rfl
    · rw [dif_pos (by omega)]

/-- The convolution's three parts. -/
theorem final4 (m : (ℓ : Loc nD τ sig) → Buf (Elt Ideal) ℓ) (c : Dev nD) : (dats m 0 c).arrAt 4 cfg0.N
    = Cert.Reference3Ideal.Read.val_main_v43 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, j, rfl⟩ : ∃ (a : Fin 512) (b : Fin 768), y = ix2 a b := ⟨y 0, y 1, eq_ix2 y⟩
  refine (out4_apply (iblk m c 0 t) (iblk m c 1 t) (iblk m c 2 t) (iblk m c 3 t) r j).trans ?_
  rw [col_eq m c t r _ ⟨0 + j.val, by omega⟩ fun w q => packed_low w q _ (by omega)]
  refine (v43_apply (m ((c : Thread nD τ).loc main_arg0)) (m ((c : Thread nD τ).loc main_arg1)) (m ((c : Thread nD τ).loc main_arg2)) (m ((c : Thread nD τ).loc main_arg3)) (tokOf t r) j).symm.trans ?_
  have h : (tokOf t r).val = t.val * 512 + r.val := rfl
  generalize Cert.Reference3Ideal.Read.val_main_v43 (F := Ideal) _ _ _ _ = z
  blk_ext [idx t]

/-- The queries of the sparse attention. -/
theorem final5 (m : (ℓ : Loc nD τ sig) → Buf (Elt Ideal) ℓ) (c : Dev nD) : (dats m 0 c).arrAt 5 cfg0.N
    = Cert.Reference3Ideal.Read.val_main_v45 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  obtain ⟨r, j, rfl⟩ : ∃ (a : Fin 512) (b : Fin 256), y = ix2 a b := ⟨y 0, y 1, eq_ix2 y⟩
  refine (out5_apply (iblk m c 0 t) (iblk m c 1 t) (iblk m c 2 t) (iblk m c 3 t) r j).trans ?_
  rw [col_eq m c t r _ ⟨768 + j.val, by omega⟩ fun w q => packed_low w q _ (by omega)]
  refine (v45_apply (m ((c : Thread nD τ).loc main_arg0)) (m ((c : Thread nD τ).loc main_arg1)) (m ((c : Thread nD τ).loc main_arg2)) (m ((c : Thread nD τ).loc main_arg3)) (tokOf t r) j).symm.trans ?_
  have h : (tokOf t r).val = t.val * 512 + r.val := rfl
  generalize Cert.Reference3Ideal.Read.val_main_v45 (F := Ideal) _ _ _ _ = z
  blk_ext [idx t]

/-- Its keys and values. -/
theorem final6 (m : (ℓ : Loc nD τ sig) → Buf (Elt Ideal) ℓ) (c : Dev nD) : (dats m 0 c).arrAt 6 cfg0.N
    = Cert.Reference3Ideal.Read.val_main_v46 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  obtain ⟨r, j, rfl⟩ : ∃ (a : Fin 512) (b : Fin 384), y = ix2 a b := ⟨y 0, y 1, eq_ix2 y⟩
  refine (out6_apply (iblk m c 0 t) (iblk m c 1 t) (iblk m c 2 t) (iblk m c 3 t) r j).trans ?_
  rw [col_eq m c t r _ ⟨1024 + j.val, by omega⟩ fun w q => packed_low w q _ (by omega)]
  refine (v46_apply (m ((c : Thread nD τ).loc main_arg0)) (m ((c : Thread nD τ).loc main_arg1)) (m ((c : Thread nD τ).loc main_arg2)) (m ((c : Thread nD τ).loc main_arg3)) (tokOf t r) j).symm.trans ?_
  have h : (tokOf t r).val = t.val * 512 + r.val := rfl
  generalize Cert.Reference3Ideal.Read.val_main_v46 (F := Ideal) _ _ _ _ = z
  blk_ext [idx t]

/-- The two narrow parts with their padding. -/
theorem final7 (m : (ℓ : Loc nD τ sig) → Buf (Elt Ideal) ℓ) (c : Dev nD) : (dats m 0 c).arrAt 7 cfg0.N
    = Cert.Reference3Ideal.Read.val_main_v48 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain ⟨r, j, rfl⟩ : ∃ (a : Fin 512) (b : Fin 128), y = ix2 a b := ⟨y 0, y 1, eq_ix2 y⟩
  refine (out7_apply (iblk m c 0 t) (iblk m c 1 t) (iblk m c 2 t) (iblk m c 3 t) r j).trans ?_
  have e : colK (iblk m c 0 t) (iblk m c 1 t) (iblk m c 2 t) (iblk m c 3 t) r ⟨1024 + (384 + j.val), by omega⟩
      = if h : j.val < 12 then colR (m ((c : Thread nD τ).loc main_arg0)) (m ((c : Thread nD τ).loc main_arg1)) (m ((c : Thread nD τ).loc main_arg2)) (m ((c : Thread nD τ).loc main_arg3)) (tokOf t r) ⟨1408 + j.val, by omega⟩
        else if h' : j.val - 12 < 16 then colR (m ((c : Thread nD τ).loc main_arg0)) (m ((c : Thread nD τ).loc main_arg1)) (m ((c : Thread nD τ).loc main_arg2)) (m ((c : Thread nD τ).loc main_arg3)) (tokOf t r) ⟨2188 + (j.val - 12), by omega⟩ else 0 := by
    split
    · next h => exact col_eq m c t r _ _ fun w q => (packed_narrow w q j.val (by omega)).trans (dif_pos h)
    · next h =>
      split
      · next h' => exact col_eq m c t r _ _ fun w q => (packed_narrow w q j.val (by omega)).trans ((dif_neg h).trans (dif_pos h'))
      · next h' => exact col_zero m c t r _ fun w q => (packed_narrow w q j.val (by omega)).trans ((dif_neg h).trans (dif_neg h'))
  rw [e]
  refine (v48_apply (m ((c : Thread nD τ).loc main_arg0)) (m ((c : Thread nD τ).loc main_arg1)) (m ((c : Thread nD τ).loc main_arg2)) (m ((c : Thread nD τ).loc main_arg3)) (tokOf t r) j).symm.trans ?_
  have h : (tokOf t r).val = t.val * 512 + r.val := rfl
  generalize Cert.Reference3Ideal.Read.val_main_v48 (F := Ideal) _ _ _ _ = z
  blk_ext [idx t]

/-- The queries and keys of the linear attention. -/
theorem final8 (m : (ℓ : Loc nD τ sig) → Buf (Elt Ideal) ℓ) (c : Dev nD) : (dats m 0 c).arrAt 8 cfg0.N
    = Cert.Reference3Ideal.Read.val_main_v50 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  obtain ⟨r, j, rfl⟩ : ∃ (a : Fin 512) (b : Fin 256), y = ix2 a b := ⟨y 0, y 1, eq_ix2 y⟩
  refine (out8_apply (iblk m c 0 t) (iblk m c 1 t) (iblk m c 2 t) (iblk m c 3 t) r j).trans ?_
  rw [col_eq m c t r _ ⟨1420 + j.val, by omega⟩ fun w q => packed_mid w q (1536 + j.val) (1420 + j.val) (by omega) (by omega) (by omega)]
  refine (v50_apply (m ((c : Thread nD τ).loc main_arg0)) (m ((c : Thread nD τ).loc main_arg1)) (m ((c : Thread nD τ).loc main_arg2)) (m ((c : Thread nD τ).loc main_arg3)) (tokOf t r) j).symm.trans ?_
  have h : (tokOf t r).val = t.val * 512 + r.val := rfl
  generalize Cert.Reference3Ideal.Read.val_main_v50 (F := Ideal) _ _ _ _ = z
  blk_ext [idx t]

/-- Its values. -/
theorem final9 (m : (ℓ : Loc nD τ sig) → Buf (Elt Ideal) ℓ) (c : Dev nD) : (dats m 0 c).arrAt 9 cfg0.N
    = Cert.Reference3Ideal.Read.val_main_v52 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  obtain ⟨r, j, rfl⟩ : ∃ (a : Fin 512) (b : Fin 256), y = ix2 a b := ⟨y 0, y 1, eq_ix2 y⟩
  refine (out9_apply (iblk m c 0 t) (iblk m c 1 t) (iblk m c 2 t) (iblk m c 3 t) r j).trans ?_
  rw [col_eq m c t r _ ⟨1676 + j.val, by omega⟩ fun w q => packed_mid w q (1792 + j.val) (1676 + j.val) (by omega) (by omega) (by omega)]
  refine (v52_apply (m ((c : Thread nD τ).loc main_arg0)) (m ((c : Thread nD τ).loc main_arg1)) (m ((c : Thread nD τ).loc main_arg2)) (m ((c : Thread nD τ).loc main_arg3)) (tokOf t r) j).symm.trans ?_
  have h : (tokOf t r).val = t.val * 512 + r.val := rfl
  generalize Cert.Reference3Ideal.Read.val_main_v52 (F := Ideal) _ _ _ _ = z
  blk_ext [idx t]

/-- Its output gate. -/
theorem final10 (m : (ℓ : Loc nD τ sig) → Buf (Elt Ideal) ℓ) (c : Dev nD) : (dats m 0 c).arrAt 10 cfg0.N
    = Cert.Reference3Ideal.Read.val_main_v54 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  obtain ⟨r, j, rfl⟩ : ∃ (a : Fin 512) (b : Fin 256), y = ix2 a b := ⟨y 0, y 1, eq_ix2 y⟩
  refine (out10_apply (iblk m c 0 t) (iblk m c 1 t) (iblk m c 2 t) (iblk m c 3 t) r j).trans ?_
  rw [col_eq m c t r _ ⟨1932 + j.val, by omega⟩ fun w q => packed_mid w q (2048 + j.val) (1932 + j.val) (by omega) (by omega) (by omega)]
  refine (v54_apply (m ((c : Thread nD τ).loc main_arg0)) (m ((c : Thread nD τ).loc main_arg1)) (m ((c : Thread nD τ).loc main_arg2)) (m ((c : Thread nD τ).loc main_arg3)) (tokOf t r) j).symm.trans ?_
  have h : (tokOf t r).val = t.val * 512 + r.val := rfl
  generalize Cert.Reference3Ideal.Read.val_main_v54 (F := Ideal) _ _ _ _ = z
  blk_ext [idx t]

/-- The two halves of the gated MLP over the sequence. -/
theorem final11 (m : (ℓ : Loc nD τ sig) → Buf (Elt Ideal) ℓ) (c : Dev nD) : (dats m 0 c).arrAt 11 cfg0.N
    = Cert.Reference3Ideal.Read.val_main_v56 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  obtain ⟨r, j, rfl⟩ : ∃ (a : Fin 512) (b : Fin 512), y = ix2 a b := ⟨y 0, y 1, eq_ix2 y⟩
  refine (out11_apply (iblk m c 0 t) (iblk m c 1 t) (iblk m c 2 t) (iblk m c 3 t) r j).trans ?_
  rw [col_eq m c t r _ ⟨2204 + j.val, by omega⟩ fun w q => packed_high w q _ (by omega)]
  refine (v56_apply (m ((c : Thread nD τ).loc main_arg0)) (m ((c : Thread nD τ).loc main_arg1)) (m ((c : Thread nD τ).loc main_arg2)) (m ((c : Thread nD τ).loc main_arg3)) (tokOf t r) j).symm.trans ?_
  have h : (tokOf t r).val = t.val * 512 + r.val := rfl
  generalize Cert.Reference3Ideal.Read.val_main_v56 (F := Ideal) _ _ _ _ = z
  blk_ext [idx t]

end Cert.InProj
-- ==== Proof.Gla.Kern.lean ====
module
public import proofs.«01_k».proof.Proof.Gen.KernelIdeal.Value
public import Idealize.ShloMosaic.Lib.Pipeline.ValueKit
@[expose] public section
set_option maxRecDepth 16384
noncomputable section
/-! What the linear attention's kernel stores, as one definition per quantity of a chunk, in the chunk's number. -/
namespace Cert.Gla
open Idealize.ShloMosaic Idealize.ShloMosaic.TcCoe Cert.KernelIdeal Cert.KernelIdeal.Gen

variable {F : FTy → Type} [FloatOps F]

/-- Chunk `n`'s 64 rows lie inside the block's 1024, for a 128-column array. -/
theorem slN (n : Fin 16) : S1024x128.Slices ![64 * n.val, 0] S64x128 := by revert n; decide
/-- The same for a 256-column block that is loaded chunk by chunk. -/
theorem inbN (n : Fin 16) : ∀ a, (![64 * n.val, 0] : Fin 2 → Nat) a + S64x256.size a ≤ S1024x256.size a := by revert n; decide

/-- The head of each value column. -/
def vheadK : IVec S64x256 32 := k0_pay9 (iota .tc S64x256 32 [1] iota_S64x256_d1_w32) 64#32 k0_pay6 k0_pay7 k0_pay8
/-- Where the state's key row and value column belong to one head. -/
def maskK : IVec S128x256 1 := k0_pay14 k0_pay11 (iota .tc S128x256 32 [1] iota_S128x256_d1_w32) 64#32 k0_pay12 k0_pay13
/-- The matrix that averages each head's 64 columns. -/
def meanMat : FVec F S256x256 .bf16 :=
  k0_pay354 k0_pay350 (iota .tc S256x256 32 [1] iota_S256x256_d1_w32) k0_pay351 k0_pay352 k0_pay353

section chunk
variable (la q k : FVec F S1024x128 .f32) (v : Vec F S1024x256 .bf16) (n : Fin 16)

/-- A chunk's rows of a 128-column array. -/
def rowsN {α : Type} (x : S1024x128.Idx → α) (n : Fin 16) : S64x128.Idx → α := extractStridedSlice S64x128 ![64 * n.val, 0] x (slN n)

/-- The log decays' three parts. -/
def hiK : FVec F S1024x128 .bf16 := truncf .bf16 la bitsLt_bf16_f32
/-- What the first part leaves. -/
def restK : FVec F S1024x128 .f32 := subf la (extf .f32 (hiK la) bitsLt_bf16_f32)
/-- The second part. -/
def midK : FVec F S1024x128 .bf16 := truncf .bf16 (restK la) bitsLt_bf16_f32
/-- The third part. -/
def loK : FVec F S1024x128 .bf16 := truncf .bf16 (subf (restK la) (extf .f32 (midK la) bitsLt_bf16_f32)) bitsLt_bf16_f32

/-- The chunk's running sums of log decays. -/
def bK : FVec F S64x128 .f32 :=
  addf (addf (matmul dot_S64x64_S64x128_S64x128_1_0_0_1_n_n none k0_pay4 (rowsN (hiK la) n) (constant S64x128 .f32 0x00000000#32))
    (matmul dot_S64x64_S64x128_S64x128_1_0_0_1_n_n none k0_pay4 (rowsN (midK la) n) (constant S64x128 .f32 0x00000000#32)))
    (matmul dot_S64x64_S64x128_S64x128_1_0_0_1_n_n none k0_pay4 (rowsN (loK la) n) (constant S64x128 .f32 0x00000000#32))

/-- Row 32 of the running sums, over the chunk's rows. -/
def bmidK : FVec F S64x128 .f32 :=
  broadcastTo S64x128 (extractStridedSlice S1x128 ![32, 0] (bK la n) slices_S64x128_o32_0_S1x128) broadcasts_S1x128_S64x128
/-- The last row of the running sums. -/
def blastK : FVec F S1x128 .f32 := extractStridedSlice S1x128 ![63, 0] (bK la n) slices_S64x128_o63_0_S1x128

/-- The chunk's queries against the middle row. -/
def qinK : FVec F S64x128 .f32 := mulf (rowsN q n) (exp (subf (bK la n) (bmidK la n)))
/-- The queries with every head but `h` set to zero. -/
def qheadK (h : BitVec 32) : FVec F S64x128 .f32 :=
  select (cmpi .eq k0_pay5 (broadcast S64x128 h)) (qinK la q n) (broadcast S64x128 (Scalar.ofBits .f32 0x00000000#32))
/-- The four heads' queries, one under the other. -/
def qstackK : FVec F S256x128 .bf16 :=
  truncf .bf16 (concatenate S256x128 0 [⟨S64x128, qheadK la q n 0#32⟩, ⟨S64x128, qheadK la q n 1#32⟩, ⟨S64x128, qheadK la q n 2#32⟩,
    ⟨S64x128, qheadK la q n 3#32⟩] concatenates_S64x128_S64x128_S64x128_S64x128_S256x128_d0) bitsLt_bf16_f32
/-- The chunk's keys against the middle row. -/
def kinK : FVec F S64x128 .bf16 := truncf .bf16 (mulf (rowsN k n) (exp (subf (bmidK la n) (bK la n)))) bitsLt_bf16_f32
/-- The queries decayed from the chunk's start. -/
def qdecK : FVec F S64x128 .bf16 := truncf .bf16 (mulf (rowsN q n) (exp (bK la n))) bitsLt_bf16_f32
/-- The keys decayed to the chunk's end, transposed. -/
def koutK : FVec F S128x64 .bf16 :=
  truncf .bf16 (transpose S128x64 [1, 0] (mulf (rowsN k n) (exp (subf (broadcastTo S64x128 (blastK la n) broadcasts_S1x128_S64x128) (bK la n))))
    transposes_S64x128_p1_0_S128x64) bitsLt_bf16_f32
/-- The chunk's whole decay, per key row of the state. -/
def decayK : FVec F S128x1 .f32 :=
  extractStridedSlice S128x1 ![0, 0] (transpose S128x8 [1, 0] (exp (broadcastTo S8x128 (shapeCast S1x128 (blastK la n) shapeCasts_S1x128_S1x128)
    broadcasts_S1x128_S8x128)) transposes_S8x128_p1_0_S128x8) slices_S128x8_o0_0_S128x1
/-- The chunk's scores, four heads stacked, past tokens only. -/
def attK : FVec F S256x64 .bf16 :=
  truncf .bf16 (select (k0_pay10 k0_pay3) (matmul dot_S256x128_S64x128_S256x64_1_1_0_0_n_n none (qstackK la q n) (kinK la k n)
    (constant S256x64 .f32 0x00000000#32)) (broadcast S256x64 (Scalar.ofBits .f32 0x00000000#32))) bitsLt_bf16_f32
/-- The chunk's values. -/
def vK : Vec F S64x256 .bf16 := View.ld v (Rect.unit ![64 * n.val, 0] ![64, 256] (inbN n))
/-- The scores times the values, for every head and every value column. -/
def ostackK : FVec F S256x256 .f32 :=
  matmul dot_S256x64_S64x256_S256x256_1_0_0_1_n_n none (attK la q k n) (vK v n) (constant S256x256 .f32 0x00000000#32)
/-- One head's rows of that product, at its own columns. -/
def ohK (h : BitVec 32) (o : Nat) (hs : S256x256.Slices ![o, 0] S64x256) : FVec F S64x256 .f32 :=
  select (cmpi .eq vheadK (broadcast S64x256 h)) (extractStridedSlice S64x256 ![o, 0] (ostackK la q k v n) hs)
    (broadcast S64x256 (Scalar.ofBits .f32 0x00000000#32))
/-- The part of the output that comes from the chunk itself. -/
def ointraK : FVec F S64x256 .f32 :=
  addf (addf (addf (ohK la q k v n 0#32 0 slices_S256x256_o0_0_S64x256) (ohK la q k v n 1#32 64 slices_S256x256_o64_0_S64x256))
    (ohK la q k v n 2#32 128 slices_S256x256_o128_0_S64x256)) (ohK la q k v n 3#32 192 slices_S256x256_o192_0_S64x256)
/-- What the chunk adds to the state. -/
def kvK : FVec F S128x256 .f32 :=
  select maskK (matmul dot_S128x64_S64x256_S128x256_1_0_0_1_n_n none (koutK la k n) (vK v n) (constant S128x256 .f32 0x00000000#32))
    (broadcast S128x256 (Scalar.ofBits .f32 0x00000000#32))
/-- The chunk's output from the state `s` before it. -/
def oK (s : FVec F S128x256 .f32) : FVec F S64x256 .f32 :=
  addf (ointraK la q k v n) (matmul dot_S64x128_S128x256_S64x256_1_0_0_1_n_n none (qdecK la q n) (truncf .bf16 s bitsLt_bf16_f32)
    (constant S64x256 .f32 0x00000000#32))
/-- The state after the chunk. -/
def nextK (s : FVec F S128x256 .f32) : FVec F S128x256 .f32 :=
  addf (mulf (broadcastTo S128x256 (decayK la n) broadcasts_S128x1_S128x256) s) (kvK la k v n)
end chunk

section block
variable (la q k : FVec F S1024x128 .f32) (v : Vec F S1024x256 .bf16) (s : FVec F S128x256 .f32)

/-- The state before chunk `j` of the block. -/
def stK : ℕ → FVec F S128x256 .f32
  | 0 => s
  | j + 1 => if h : j < 16 then nextK la k v ⟨j, h⟩ (stK j) else stK j

/-- The block's output before its norm and gate. -/
def oAllK : FVec F S1024x256 .f32 :=
  concatenate S1024x256 0 [⟨S64x256, oK la q k v 0 (stK la k v s 0)⟩, ⟨S64x256, oK la q k v 1 (stK la k v s 1)⟩, ⟨S64x256, oK la q k v 2 (stK la k v s 2)⟩,
    ⟨S64x256, oK la q k v 3 (stK la k v s 3)⟩, ⟨S64x256, oK la q k v 4 (stK la k v s 4)⟩, ⟨S64x256, oK la q k v 5 (stK la k v s 5)⟩,
    ⟨S64x256, oK la q k v 6 (stK la k v s 6)⟩, ⟨S64x256, oK la q k v 7 (stK la k v s 7)⟩, ⟨S64x256, oK la q k v 8 (stK la k v s 8)⟩,
    ⟨S64x256, oK la q k v 9 (stK la k v s 9)⟩, ⟨S64x256, oK la q k v 10 (stK la k v s 10)⟩, ⟨S64x256, oK la q k v 11 (stK la k v s 11)⟩,
    ⟨S64x256, oK la q k v 12 (stK la k v s 12)⟩, ⟨S64x256, oK la q k v 13 (stK la k v s 13)⟩, ⟨S64x256, oK la q k v 14 (stK la k v s 14)⟩,
    ⟨S64x256, oK la q k v 15 (stK la k v s 15)⟩]
    concatenates_S64x256_S64x256_S64x256_S64x256_S64x256_S64x256_S64x256_S64x256_S64x256_S64x256_S64x256_S64x256_S64x256_S64x256_S64x256_S64x256_S1024x256_d0

/-- The norm and the gate. -/
def outK (o : FVec F S1024x256 .f32) (g : Vec F S1024x256 .bf16) : FVec F S1024x256 .bf16 :=
  k0_pay1 o meanMat (k0_pay355 (mulf o o)) (k0_pay357 (mulf o o)) (k0_pay358 (mulf o o)) (constant S1024x256 .f32 0x00000000#32) g
end block

section point
variable (x0 x1 x2 : Vec F S1024x256 .bf16) (x3 : Vec F S1024x128 .bf16) (x4 : Vec F S128x128 .f32) (x5 : Vec F S1x128 .f32)
/-- The block's log decays. -/
def laB : FVec F S1024x128 .f32 := k0_pay18 (k0_pay16 x3 x4 x5) (k0_pay17 x3 x4 x5) (Scalar.ofBits .f32 0x00000000#32)
/-- The block's scaled queries. -/
def qB : FVec F S1024x128 .f32 := k0_pay19 (View.ld x0 (Rect.unit ![0, 0] ![1024, 128] inb_S1024x256_S1024x128_0_0))
/-- The block's keys. -/
def kB : FVec F S1024x128 .f32 := k0_pay20 (View.ld x0 (Rect.unit ![0, 128] ![1024, 128] inb_S1024x256_S1024x128_0_128))
end point

set_option maxHeartbeats 4000000 in
/-- A later block's state after its sixteen chunks. -/
theorem sout_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x256 .bf16) (harg8 : arg8.IsWhole) (arg9 : Memref sig .tc .vmem S128x256 .f32) (harg9 : arg9.IsWhole) (hc0 : ¬cond0_0 i)
    (x0 x1 x2 : Vec F S1024x256 .bf16) (x3 : Vec F S1024x128 .bf16) (x4 : Vec F S128x128 .f32) (x5 : Vec F S1x128 .f32) (xs0 : Vec F S128x256 .f32) :
    sout0_B_0 c i arg2 harg2 arg3 harg3 arg4 harg4 arg5 harg5 arg6 harg6 arg7 harg7 arg8 harg8 arg9 harg9 hc0 x0 x1 x2 x3 x4 x5 xs0
      = k0_pay347 (stK (laB x3 x4 x5) (kB x0) x1 xs0 16) := by
  frame_out
  rfl

set_option maxHeartbeats 4000000 in
/-- A later block's output. -/
theorem out_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x256 .bf16) (harg8 : arg8.IsWhole) (arg9 : Memref sig .tc .vmem S128x256 .f32) (harg9 : arg9.IsWhole) (hc0 : ¬cond0_0 i)
    (x0 x1 x2 : Vec F S1024x256 .bf16) (x3 : Vec F S1024x128 .bf16) (x4 : Vec F S128x128 .f32) (x5 : Vec F S1x128 .f32) (xs0 : Vec F S128x256 .f32) :
    out0_B_6 c i arg2 harg2 arg3 harg3 arg4 harg4 arg5 harg5 arg6 harg6 arg7 harg7 arg8 harg8 arg9 harg9 hc0 x0 x1 x2 x3 x4 x5 xs0
      = outK (oAllK (laB x3 x4 x5) (qB x0) (kB x0) x1 xs0) x2 := by
  frame_out
  rfl

set_option maxHeartbeats 4000000 in
/-- A sequence's first block's state after its sixteen chunks. -/
theorem sout_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x256 .bf16) (harg8 : arg8.IsWhole) (arg9 : Memref sig .tc .vmem S128x256 .f32) (harg9 : arg9.IsWhole) (hc0 : cond0_0 i)
    (x0 x1 x2 : Vec F S1024x256 .bf16) (x3 : Vec F S1024x128 .bf16) (x4 : Vec F S128x128 .f32) (x5 : Vec F S1x128 .f32) :
    sout0_A_0 c i arg2 harg2 arg3 harg3 arg4 harg4 arg5 harg5 arg6 harg6 arg7 harg7 arg8 harg8 arg9 harg9 hc0 x0 x1 x2 x3 x4 x5
      = k0_pay347 (stK (laB x3 x4 x5) (kB x0) x1 k0_pay2 16) := by
  frame_out
  rfl

set_option maxHeartbeats 4000000 in
/-- A sequence's first block's output. -/
theorem out_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x256 .bf16) (harg8 : arg8.IsWhole) (arg9 : Memref sig .tc .vmem S128x256 .f32) (harg9 : arg9.IsWhole) (hc0 : cond0_0 i)
    (x0 x1 x2 : Vec F S1024x256 .bf16) (x3 : Vec F S1024x128 .bf16) (x4 : Vec F S128x128 .f32) (x5 : Vec F S1x128 .f32) :
    out0_A_6 c i arg2 harg2 arg3 harg3 arg4 harg4 arg5 harg5 arg6 harg6 arg7 harg7 arg8 harg8 arg9 harg9 hc0 x0 x1 x2 x3 x4 x5
      = outK (oAllK (laB x3 x4 x5) (qB x0) (kB x0) x1 k0_pay2) x2 := by
  frame_out
  rfl

end Cert.Gla
end
-- ==== Proof.Gla.Spec.lean ====
module
public import Idealize.ShloMosaic.Lib.Pipeline.ValueKit
@[expose] public section
noncomputable section
/-! The gated linear attention of one head over one chunk of 64 tokens, on extended reals, and the few facts about sums
    and finite numbers the two sides share. -/
namespace Cert.Gla
open Idealize.ShloMosaic

/-- The running sum of log decays up to and including token `t`. -/
def cumE (la : Fin 64 → Fin 32 → EReal) (t : Fin 64) (d : Fin 32) : EReal := ∑ s : Fin 64, if s ≤ t then la s d else 0
/-- The score of token `t` against token `s`. -/
def attE (la q k : Fin 64 → Fin 32 → EReal) (t s : Fin 64) : EReal :=
  ∑ d : Fin 32, (q t d * Ideal.exp (cumE la t d - cumE la 32 d)) * (k s d * Ideal.exp (cumE la 32 d - cumE la s d))
/-- The output of token `t`: its own chunk's past tokens, and the state before the chunk. -/
def oE (la q k : Fin 64 → Fin 32 → EReal) (v : Fin 64 → Fin 64 → EReal) (S : Fin 32 → Fin 64 → EReal) (t c : Fin 64) : EReal :=
  (∑ s : Fin 64, (if s ≤ t then attE la q k t s else 0) * v s c) + ∑ d : Fin 32, (q t d * Ideal.exp (cumE la t d)) * S d c
/-- The state after the chunk. -/
def nextE (la k : Fin 64 → Fin 32 → EReal) (v : Fin 64 → Fin 64 → EReal) (S : Fin 32 → Fin 64 → EReal) (d : Fin 32) (c : Fin 64) : EReal :=
  Ideal.exp (cumE la 63 d) * S d c + ∑ s : Fin 64, (k s d * Ideal.exp (cumE la 63 d - cumE la s d)) * v s c

/-- A finite number. -/
def IsNum (x : EReal) : Prop := ∃ r : ℝ, x = (r : EReal)

/-- A real is finite. -/
theorem IsNum.coe (r : ℝ) : IsNum (r : EReal) := ⟨r, rfl⟩
/-- Zero is finite. -/
theorem IsNum.zero : IsNum 0 := ⟨0, rfl⟩
/-- A sum is finite. -/
theorem IsNum.add {x y : EReal} (hx : IsNum x) (hy : IsNum y) : IsNum (x + y) := by
  obtain ⟨a, rfl⟩ := hx; obtain ⟨b, rfl⟩ := hy; exact ⟨a + b, (EReal.coe_add a b).symm⟩
/-- A difference is finite. -/
theorem IsNum.sub {x y : EReal} (hx : IsNum x) (hy : IsNum y) : IsNum (x - y) := by
  obtain ⟨a, rfl⟩ := hx; obtain ⟨b, rfl⟩ := hy; exact ⟨a - b, (EReal.coe_sub a b).symm⟩
/-- A negative is finite. -/
theorem IsNum.neg {x : EReal} (hx : IsNum x) : IsNum (-x) := by
  obtain ⟨a, rfl⟩ := hx; exact ⟨-a, (EReal.coe_neg a).symm⟩
/-- A product is finite. -/
theorem IsNum.mul {x y : EReal} (hx : IsNum x) (hy : IsNum y) : IsNum (x * y) := by
  obtain ⟨a, rfl⟩ := hx; obtain ⟨b, rfl⟩ := hy; exact ⟨a * b, (EReal.coe_mul a b).symm⟩
/-- An exponential is finite. -/
theorem IsNum.exp {x : EReal} (hx : IsNum x) : IsNum (Ideal.exp x) := by
  obtain ⟨a, rfl⟩ := hx; exact ⟨Real.exp a, rfl⟩
/-- A choice of finite numbers is finite. -/
theorem IsNum.ite {p : Prop} [Decidable p] {x y : EReal} (hx : IsNum x) (hy : IsNum y) : IsNum (if p then x else y) := by
  split <;> assumption
/-- A finite sum of finite numbers is finite. -/
theorem IsNum.sum {ι : Type} (s : Finset ι) (f : ι → EReal) (h : ∀ i ∈ s, IsNum (f i)) : IsNum (∑ i ∈ s, f i) := by
  classical
  induction s using Finset.induction_on with
  | empty => simpa using IsNum.zero
  | insert a s ha ih =>
    rw [Finset.sum_insert ha]
    exact (h a (Finset.mem_insert_self a s)).add (ih fun i hi => h i (Finset.mem_insert_of_mem hi))
/-- A finite number less itself is zero. -/
theorem IsNum.sub_self {x : EReal} (hx : IsNum x) : x - x = 0 := by
  obtain ⟨a, rfl⟩ := hx; rw [← EReal.coe_sub]; simp

/-- What is neither infinity is finite. -/
theorem IsNum.of_ne {x : EReal} (ht : x ≠ ⊤) (hb : x ≠ ⊥) : IsNum x := by
  induction x with
  | bot => exact absurd rfl hb
  | top => exact absurd rfl ht
  | coe r => exact IsNum.coe r
/-- The exponential of what is below infinity is finite. -/
theorem IsNum.exp_lt {x : EReal} (h : x ≠ ⊤) : IsNum (Ideal.exp x) := by
  induction x with
  | bot => exact IsNum.zero
  | top => exact absurd rfl h
  | coe r => exact (IsNum.coe r).exp
/-- A finite number is below infinity. -/
theorem IsNum.lt {x : EReal} (h : IsNum x) : x ≠ ⊤ := by
  obtain ⟨a, rfl⟩ := h; exact EReal.coe_ne_top a
/-- A finite number is above minus infinity. -/
theorem IsNum.gt {x : EReal} (h : IsNum x) : x ≠ ⊥ := by
  obtain ⟨a, rfl⟩ := h; exact EReal.coe_ne_bot a
/-- The three parts of a number below infinity add up to it. -/
theorem three_parts {x : EReal} (h : x ≠ ⊤) : x + (x - x) + (x - x - (x - x)) = x := by
  induction x with
  | bot => simp
  | top => exact absurd rfl h
  | coe r => rw [← EReal.coe_sub]; simp
/-- A sum of numbers below infinity is below infinity. -/
theorem sum_lt {ι : Type} (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))
/-- A sum with one minus infinity is minus infinity. -/
theorem sum_bot {ι : Type} (s : Finset ι) (f : ι → EReal) (i : ι) (hi : i ∈ s) (h : f i = ⊥) : ∑ i ∈ s, f i = ⊥ := by
  classical
  rw [← Finset.add_sum_erase s f hi, h, EReal.bot_add]

section
variable {la q k : Fin 64 → Fin 32 → EReal} {v : Fin 64 → Fin 64 → EReal} {S : Fin 32 → Fin 64 → EReal} (hl : ∀ s d, la s d ≠ ⊤)
include hl
/-- A cumulative log decay is below infinity. -/
theorem cum_lt (t : Fin 64) (d : Fin 32) : cumE la t d ≠ ⊤ :=
  sum_lt _ _ fun s _ => by split <;> [exact hl s d; exact IsNum.zero.lt]
/-- Once it is minus infinity it stays so. -/
theorem cum_bot {s t : Fin 64} (hst : s ≤ t) (d : Fin 32) (h : cumE la s d = ⊥) : cumE la t d = ⊥ := by
  by_cases hb : ∃ r, r ≤ s ∧ la r d = ⊥
  · obtain ⟨r, hr, e⟩ := hb
    exact sum_bot _ _ r (Finset.mem_univ r) (by rw [if_pos (hr.trans hst), e])
  · refine absurd h (IsNum.gt (IsNum.sum _ _ fun r _ => ?_))
    split
    · next hr => exact IsNum.of_ne (hl r d) fun e => hb ⟨r, hr, e⟩
    · exact IsNum.zero
/-- A decay from one token to a later one is finite. -/
theorem decay_num {s t : Fin 64} (hst : s ≤ t) (d : Fin 32) : IsNum (Ideal.exp (cumE la t d - cumE la s d)) := by
  by_cases hb : cumE la s d = ⊥
  · rw [cum_bot hl hst d hb, EReal.bot_sub]
    exact IsNum.zero
  · obtain ⟨x, hx⟩ := IsNum.of_ne (cum_lt hl s d) hb
    rw [hx, sub_eq_add_neg]
    exact IsNum.exp_lt (EReal.add_ne_top (cum_lt hl t d) (by rw [← EReal.coe_neg]; exact EReal.coe_ne_top _))
/-- A causal score is finite: where one of its two factors is not, the other is zero. -/
theorem att_num (hq : ∀ s d, IsNum (q s d)) (hk : ∀ s d, IsNum (k s d)) {s t : Fin 64} (hst : s ≤ t) : IsNum (attE la q k t s) := by
  refine IsNum.sum _ _ fun d _ => ?_
  by_cases hm : cumE la 32 d = ⊥
  · rw [hm, EReal.bot_sub, show Ideal.exp ⊥ = 0 from rfl, mul_zero, mul_zero]
    exact IsNum.zero
  · obtain ⟨x, hx⟩ := IsNum.of_ne (cum_lt hl 32 d) hm
    have ht : IsNum (Ideal.exp (cumE la t d - cumE la 32 d)) := by
      rw [hx, sub_eq_add_neg]
      exact IsNum.exp_lt (EReal.add_ne_top (cum_lt hl t d) (by rw [← EReal.coe_neg]; exact EReal.coe_ne_top _))
    by_cases hs : cumE la s d = ⊥
    · rw [cum_bot hl hst d hs, EReal.bot_sub, show Ideal.exp ⊥ = 0 from rfl, mul_zero, zero_mul]
      exact IsNum.zero
    · exact ((hq t d).mul ht).mul ((hk s d).mul ((IsNum.of_ne (cum_lt hl 32 d) hm).sub (IsNum.of_ne (cum_lt hl s d) hs)).exp)
/-- A chunk's output is finite. -/
theorem IsNum.o (hq : ∀ s d, IsNum (q s d)) (hk : ∀ s d, IsNum (k s d)) (hv : ∀ s d, IsNum (v s d)) (hS : ∀ s d, IsNum (S s d)) (t c : Fin 64) :
    IsNum (oE la q k v S t c) := by
  refine (IsNum.sum _ _ fun s _ => IsNum.mul ?_ (hv s c)).add (IsNum.sum _ _ fun d _ => ((hq t d).mul (IsNum.exp_lt (cum_lt hl t d))).mul (hS d c))
  split
  · next hst => exact att_num hl hq hk hst
  · exact IsNum.zero
/-- A next state is finite. -/
theorem IsNum.next (hk : ∀ s d, IsNum (k s d)) (hv : ∀ s d, IsNum (v s d)) (hS : ∀ s d, IsNum (S s d)) (d : Fin 32) (c : Fin 64) :
    IsNum (nextE la k v S d c) :=
  ((IsNum.exp_lt (cum_lt hl 63 d)).mul (hS d c)).add
  (IsNum.sum _ _ fun s _ => ((hk s d).mul (decay_num hl (show s ≤ 63 from Fin.le_last s) d)).mul (hv s c))
end

/-- A sum over all key columns of something that vanishes outside head `h` is the sum over that head's 32 columns. -/
theorem sum_head (h : Fin 4) (f : Fin 128 → EReal) (hf : ∀ (a : Fin 4) (d : Fin 32), a ≠ h → f ⟨32 * a.val + d.val, by omega⟩ = 0) :
    ∑ l : Fin 128, f l = ∑ d : Fin 32, f ⟨32 * h.val + d.val, by omega⟩ := by
  have e : ∑ l : Fin 128, f l = ∑ p : Fin 4 × Fin 32, f ⟨32 * p.1.val + p.2.val, by omega⟩ := by
    refine (Fintype.sum_equiv (finProdFinEquiv (m := 4) (n := 32)) _ _ fun p => ?_).symm
    congr 1; apply Fin.ext; simp [finProdFinEquiv]; omega
  rw [e, Fintype.sum_prod_type, Finset.sum_eq_single h]
  · intro a _ ha
    exact Finset.sum_eq_zero fun d _ => hf a d ha
  · intro hh; exact absurd (Finset.mem_univ h) hh
/-- The same for the 256 value columns. -/
theorem sum_vhead (h : Fin 4) (f : Fin 256 → EReal) (hf : ∀ (a : Fin 4) (d : Fin 64), a ≠ h → f ⟨64 * a.val + d.val, by omega⟩ = 0) :
    ∑ l : Fin 256, f l = ∑ d : Fin 64, f ⟨64 * h.val + d.val, by omega⟩ := by
  have e : ∑ l : Fin 256, f l = ∑ p : Fin 4 × Fin 64, f ⟨64 * p.1.val + p.2.val, by omega⟩ := by
    refine (Fintype.sum_equiv (finProdFinEquiv (m := 4) (n := 64)) _ _ fun p => ?_).symm
    congr 1; apply Fin.ext; simp [finProdFinEquiv]; omega
  rw [e, Fintype.sum_prod_type, Finset.sum_eq_single h]
  · intro a _ ha
    exact Finset.sum_eq_zero fun d _ => hf a d ha
  · intro hh; exact absurd (Finset.mem_univ h) hh

end Cert.Gla
end
-- ==== Proof.Gla.Point.lean ====
module
public import proofs.«01_k».proof.Proof.Gla.Kern
public import proofs.«01_k».proof.Proof.Gla.Spec
@[expose] public section
set_option maxRecDepth 16384
noncomputable section
/-! The kernel's chunk quantities, element by element. -/
namespace Cert.Gla
open Idealize.ShloMosaic Idealize.ShloMosaic.TcCoe Cert.KernelIdeal Cert.KernelIdeal.Gen

/-- The triangle's comparison. -/
theorem pay3_apply : ∀ t s : Fin 64, k0_pay3 (ix2 t s) = if s ≤ t then 1#1 else 0#1 := by decide +kernel
/-- The head of a key column. -/
theorem pay5_apply (t : Fin 64) (h : Fin 4) (d : Fin 32) : k0_pay5 (ix2 t ⟨32 * h.val + d.val, by omega⟩) = BitVec.ofNat 32 h.val :=
  (show ∀ (h : Fin 4) (d : Fin 32), k0_pay5 (ix2 (0 : Fin 64) (⟨32 * h.val + d.val, by omega⟩ : Fin 128)) = BitVec.ofNat 32 h.val by decide +kernel) h d
/-- The head of a value column. -/
theorem vhead_apply (t : Fin 64) (h : Fin 4) (d : Fin 64) : vheadK (ix2 t ⟨64 * h.val + d.val, by omega⟩) = BitVec.ofNat 32 h.val :=
  (show ∀ (h : Fin 4) (d : Fin 64), vheadK (ix2 (0 : Fin 64) (⟨64 * h.val + d.val, by omega⟩ : Fin 256)) = BitVec.ofNat 32 h.val by decide +kernel) h d
/-- One head's block of the state's mask. -/
theorem mask_apply (h h' : Fin 4) (d : Fin 32) (e : Fin 64) :
    maskK (ix2 ⟨32 * h.val + d.val, by omega⟩ ⟨64 * h'.val + e.val, by omega⟩) = if h = h' then 1#1 else 0#1 := by
  have r := (show ∀ (h : Fin 4) (d : Fin 32), k0_pay11 (ix2 (⟨32 * h.val + d.val, by omega⟩ : Fin 128) (0 : Fin 256)) = BitVec.ofNat 32 h.val by decide +kernel) h d
  have cmask := (show ∀ (a h' : Fin 4) (e : Fin 64), k0_pay14 (fun _ => BitVec.ofNat 32 a.val) (iota .tc S128x256 32 [1] iota_S128x256_d1_w32) 64#32 k0_pay12 k0_pay13
     (ix2 (0 : Fin 128) (⟨64 * h'.val + e.val, by omega⟩ : Fin 256)) = if a = h' then 1#1 else 0#1 by decide +kernel) h h' e
  rw [← cmask]
  show IntOp.cmpi .eq (k0_pay11 (ix2 (⟨32 * h.val + d.val, by omega⟩ : Fin 128) (0 : Fin 256))) _ = IntOp.cmpi .eq (BitVec.ofNat 32 h.val) _
  rw [r]; rfl

/-- The triangle. -/
theorem tri_apply (t s : Fin 64) : k0_pay4 (F := Ideal) (ix2 t s) = if s ≤ t then (1 : EReal) else 0 := by
  pointwise [k0_pay4]
  rw [pay3_apply]
  split <;> rfl

variable (la q k : FVec Ideal S1024x128 .f32) (v : Vec Ideal S1024x256 .bf16) (n : Fin 16)

/-- A chunk's rows. -/
theorem rows_apply {α : Type} (x : S1024x128.Idx → α) (t : Fin 64) (l : Fin 128) : rowsN x n (ix2 t l) = x (ix2 ⟨64 * n.val + t.val, by omega⟩ l) := by
  pointwise [rowsN]

/-- The first part is the number itself. -/
theorem hi_apply (i : S1024x128.Idx) : hiK la i = la i := by pointwise [hiK]
/-- The second part is what the first leaves. -/
theorem mid_apply (i : S1024x128.Idx) : midK la i = la i - la i := by
  pointwise [midK, restK, hiK]
/-- The third part is what the second leaves. -/
theorem lo_apply (i : S1024x128.Idx) : loK la i = la i - la i - (la i - la i) := by
  pointwise [loK, midK, restK, hiK]

/-- The chunk's running sums. -/
theorem b_apply (hl : ∀ i, la i ≠ ⊤) (t : Fin 64) (l : Fin 128) :
    bK la n (ix2 t l) = ∑ s : Fin 64, if s ≤ t then la (ix2 ⟨64 * n.val + s.val, by omega⟩ l) else 0 := by
  pointwise [bK]
  simp only [rows_apply, tri_apply, hi_apply, mid_apply, lo_apply, ite_mul, one_mul, zero_mul]
  rw [← Finset.sum_add_distrib, ← Finset.sum_add_distrib]
  refine Finset.sum_congr rfl fun s _ => ?_
  split
  · exact three_parts (hl _)
  · simp

/-- Head `h`'s log decays over the chunk. -/
def headN (x : FVec Ideal S1024x128 .f32) (n : Fin 16) (h : Fin 4) (t : Fin 64) (d : Fin 32) : EReal :=
  x (ix2 ⟨64 * n.val + t.val, by omega⟩ ⟨32 * h.val + d.val, by omega⟩)
/-- Head `h`'s values over the chunk. -/
def vheadN (x : Vec Ideal S1024x256 .bf16) (n : Fin 16) (h : Fin 4) (t : Fin 64) (d : Fin 64) : EReal :=
  x (ix2 ⟨64 * n.val + t.val, by omega⟩ ⟨64 * h.val + d.val, by omega⟩)
/-- Head `h`'s block of a state. -/
def sheadN (s : FVec Ideal S128x256 .f32) (h : Fin 4) (d : Fin 32) (c : Fin 64) : EReal :=
  s (ix2 ⟨32 * h.val + d.val, by omega⟩ ⟨64 * h.val + c.val, by omega⟩)

/-- The cumulative log decay, head by head. -/
theorem b_head (hl : ∀ i, la i ≠ ⊤) (t : Fin 64) (h : Fin 4) (d : Fin 32) :
    bK la n (ix2 t ⟨32 * h.val + d.val, by omega⟩) = cumE (headN la n h) t d := b_apply la n hl t _

/-- The cumulative log decay at the chunk's middle. -/
theorem bmid_head (hl : ∀ i, la i ≠ ⊤) (t : Fin 64) (h : Fin 4) (d : Fin 32) :
    bmidK la n (ix2 t ⟨32 * h.val + d.val, by omega⟩) = cumE (headN la n h) 32 d := by
  rw [← b_head la n hl]
  pointwise [bmidK]
/-- The cumulative log decay at the chunk's end. -/
theorem blast_head (hl : ∀ i, la i ≠ ⊤) (h : Fin 4) (d : Fin 32) :
    blastK la n (ix2 0 ⟨32 * h.val + d.val, by omega⟩) = cumE (headN la n h) 63 d := by
  rw [← b_head la n hl]
  pointwise [blastK]

/-- The queries decayed against the middle. -/
theorem qin_head (hl : ∀ i, la i ≠ ⊤) (t : Fin 64) (h : Fin 4) (d : Fin 32) :
    qinK la q n (ix2 t ⟨32 * h.val + d.val, by omega⟩)
      = headN q n h t d * Ideal.exp (cumE (headN la n h) t d - cumE (headN la n h) 32 d) := by
  rw [← b_head la n hl, ← bmid_head la n hl t]
  pointwise [qinK]
  rw [rows_apply]
  rfl
/-- The keys decayed against the middle. -/
theorem kin_head (hl : ∀ i, la i ≠ ⊤) (t : Fin 64) (h : Fin 4) (d : Fin 32) :
    kinK la k n (ix2 t ⟨32 * h.val + d.val, by omega⟩)
      = headN k n h t d * Ideal.exp (cumE (headN la n h) 32 d - cumE (headN la n h) t d) := by
  rw [← bmid_head la n hl t h d, ← b_head la n hl t h d]
  pointwise [kinK]
  rw [rows_apply]
  rfl
/-- The queries decayed from the chunk's start. -/
theorem qdec_head (hl : ∀ i, la i ≠ ⊤) (t : Fin 64) (h : Fin 4) (d : Fin 32) :
    qdecK la q n (ix2 t ⟨32 * h.val + d.val, by omega⟩)
      = headN q n h t d * Ideal.exp (cumE (headN la n h) t d) := by
  rw [← b_head la n hl]
  pointwise [qdecK]
  rw [rows_apply]
  rfl
/-- The keys decayed to the chunk's end. -/
theorem kout_head (hl : ∀ i, la i ≠ ⊤) (t : Fin 64) (h : Fin 4) (d : Fin 32) :
    koutK la k n (ix2 ⟨32 * h.val + d.val, by omega⟩ t)
      = headN k n h t d * Ideal.exp (cumE (headN la n h) 63 d - cumE (headN la n h) t d) := by
  rw [← b_head la n hl t, ← blast_head la n hl]
  pointwise [koutK]
  rw [rows_apply]
  rfl
/-- A chunk's whole decay. -/
theorem decay_head (hl : ∀ i, la i ≠ ⊤) (h : Fin 4) (d : Fin 32) :
    decayK la n (ix2 ⟨32 * h.val + d.val, by omega⟩ 0) = Ideal.exp (cumE (headN la n h) 63 d) := by
  rw [← blast_head la n hl]
  pointwise [decayK]

/-- Equal rows give equal indices. -/
theorem ix2_row {a b : Nat} {r r' : Fin a} (c : Fin b) (e : r.val = r'.val) : ix2 r c = ix2 r' c := by rw [Fin.ext e]

/-- Row `t` of head `h` in the stack is row `t` of that head's queries. -/
theorem qstack_row (t : Fin 64) (h : Fin 4) (l : Fin 128) :
    qstackK la q n (ix2 ⟨64 * h.val + t.val, by omega⟩ l) = qheadK la q n (BitVec.ofNat 32 h.val) (ix2 t l) := by
  fin_cases h <;> pointwise [qstackK]
  all_goals first | rfl | skip
  all_goals repeat rw [dif_neg (by omega)]
  all_goals first | rw [dif_pos (by omega)] | skip
  all_goals exact congrArg _ (ix2_row _ (by simp only; omega))

/-- A head's mask keeps its own columns. -/
theorem sel_head (h h' : Fin 4) (x y : EReal) :
    Scalar.select (IntOp.cmpi CmpIPredicate.eq (BitVec.ofNat 32 h'.val) (BitVec.ofNat 32 h.val)) x y = if h' = h then x else y := by
  revert h h'
  have : ∀ h h' : Fin 4, IntOp.cmpi CmpIPredicate.eq (BitVec.ofNat 32 h'.val) (BitVec.ofNat 32 h.val) = if h' = h then 1#1 else 0#1 := by decide
  intro h h'
  rw [this]
  split <;> rfl

/-- Of four selections by head, added up, the head's own is what is left. -/
theorem four_sel (f : Fin 4 → EReal) (h : Fin 4) :
    Scalar.select (IntOp.cmpi CmpIPredicate.eq (BitVec.ofNat 32 h.val) 0#32) (f 0) 0
        + Scalar.select (IntOp.cmpi CmpIPredicate.eq (BitVec.ofNat 32 h.val) 1#32) (f 1) 0
        + Scalar.select (IntOp.cmpi CmpIPredicate.eq (BitVec.ofNat 32 h.val) 2#32) (f 2) 0
        + Scalar.select (IntOp.cmpi CmpIPredicate.eq (BitVec.ofNat 32 h.val) 3#32) (f 3) 0 = f h := by
  have e0 := sel_head 0 h (f 0) 0
  have e1 := sel_head 1 h (f 1) 0
  have e2 := sel_head 2 h (f 2) 0
  have e3 := sel_head 3 h (f 3) 0
  rw [show (0#32 : BitVec 32) = BitVec.ofNat 32 (0 : Fin 4).val from rfl, show (1#32 : BitVec 32) = BitVec.ofNat 32 (1 : Fin 4).val from rfl,
    show (2#32 : BitVec 32) = BitVec.ofNat 32 (2 : Fin 4).val from rfl, show (3#32 : BitVec 32) = BitVec.ofNat 32 (3 : Fin 4).val from rfl,
    e0, e1, e2, e3]
  clear e0 e1 e2 e3
  fin_cases h <;> simp

/-- The stacked queries hold one head's columns in each row group. -/
theorem qstack_head (hl : ∀ i, la i ≠ ⊤) (t : Fin 64) (h h' : Fin 4) (d : Fin 32) :
    qstackK la q n (ix2 ⟨64 * h.val + t.val, by omega⟩ ⟨32 * h'.val + d.val, by omega⟩)
      = if h' = h then headN q n h' t d * Ideal.exp (cumE (headN la n h') t d - cumE (headN la n h') 32 d) else 0 := by
  rw [qstack_row, ← qin_head la q n hl]
  pointwise [qheadK]
  rw [pay5_apply, sel_head]

/-- The causal mask in the stacked rows. -/
theorem causal_row (t s : Fin 64) (h : Fin 4) :
    k0_pay10 k0_pay3 (ix2 ⟨64 * h.val + t.val, by omega⟩ s) = if s ≤ t then 1#1 else 0#1 := by
  rw [← pay3_apply]
  fin_cases h <;> pointwise [k0_pay10]
  all_goals first | rfl | skip
  all_goals repeat rw [dif_neg (by omega)]
  all_goals first | rw [dif_pos (by omega)] | skip
  all_goals exact congrArg _ (ix2_row _ (by simp only; omega))

/-- The causal products, head by head. -/
theorem att_head (hl : ∀ i, la i ≠ ⊤) (t s : Fin 64) (h : Fin 4) :
    attK la q k n (ix2 ⟨64 * h.val + t.val, by omega⟩ s) = if s ≤ t then attE (headN la n h) (headN q n h) (headN k n h) t s else 0 := by
  pointwise [attK]
  rw [causal_row]
  rw [sum_head h]
  · simp only [qstack_head la q n hl, kin_head la k n hl, if_true]
    split <;> rfl
  · intro a d ha
    rw [qstack_head la q n hl, if_neg ha, zero_mul]

/-- A chunk's values, head by head. -/
theorem v_head (s : Fin 64) (h : Fin 4) (c : Fin 64) : vK v n (ix2 s ⟨64 * h.val + c.val, by omega⟩) = vheadN v n h s c := by
  pointwise [vK]
  rfl

/-- The stacked products with the values. -/
theorem ostack_head (hl : ∀ i, la i ≠ ⊤) (t c : Fin 64) (h h' : Fin 4) :
    ostackK la q k v n (ix2 ⟨64 * h.val + t.val, by omega⟩ ⟨64 * h'.val + c.val, by omega⟩)
      = ∑ s : Fin 64, (if s ≤ t then attE (headN la n h) (headN q n h) (headN k n h) t s else 0) * vheadN v n h' s c := by
  pointwise [ostackK]
  simp only [att_head la q k n hl, v_head]

/-- The part of the output from inside the chunk. -/
theorem intra_head (hl : ∀ i, la i ≠ ⊤) (t c : Fin 64) (h : Fin 4) :
    ointraK la q k v n (ix2 t ⟨64 * h.val + c.val, by omega⟩)
      = ∑ s : Fin 64, (if s ≤ t then attE (headN la n h) (headN q n h) (headN k n h) t s else 0) * vheadN v n h s c := by
  pointwise [ointraK, ohK]
  simp only [vhead_apply]
  rw [← ostack_head la q k v n hl t c h h]
  rw [ix2_row (r := ⟨t.val, _⟩) (r' := ⟨64 * (0 : Fin 4).val + t.val, by omega⟩) ⟨64 * h.val + c.val, by omega⟩ (by simp)]
  exact four_sel (fun a => ostackK la q k v n (ix2 ⟨64 * a.val + t.val, by omega⟩ ⟨64 * h.val + c.val, by omega⟩)) h

/-- The products of keys and values. -/
theorem kv_head (hl : ∀ i, la i ≠ ⊤) (d : Fin 32) (c : Fin 64) (h h' : Fin 4) :
    kvK la k v n (ix2 ⟨32 * h.val + d.val, by omega⟩ ⟨64 * h'.val + c.val, by omega⟩)
      = if h = h' then ∑ s : Fin 64, (headN k n h s d * Ideal.exp (cumE (headN la n h) 63 d - cumE (headN la n h) s d)) * vheadN v n h' s c else 0 := by
  pointwise [kvK]
  rw [mask_apply]
  simp only [kout_head la k n hl, v_head]
  split <;> rfl

/-- A state whose heads do not mix. -/
def Diag (s : FVec Ideal S128x256 .f32) : Prop :=
  ∀ (h h' : Fin 4) (d : Fin 32) (c : Fin 64), h ≠ h' → s (ix2 ⟨32 * h.val + d.val, by omega⟩ ⟨64 * h'.val + c.val, by omega⟩) = 0

/-- A chunk's output, head by head. -/
theorem o_head (hl : ∀ i, la i ≠ ⊤) (s : FVec Ideal S128x256 .f32) (hs : Diag s) (t c : Fin 64) (h : Fin 4) :
    oK la q k v n s (ix2 t ⟨64 * h.val + c.val, by omega⟩)
      = oE (headN la n h) (headN q n h) (headN k n h) (vheadN v n h) (sheadN s h) t c := by
  pointwise [oK]
  rw [intra_head la q k v n hl, sum_head h]
  · simp only [qdec_head la q n hl]; rfl
  · intro a d ha
    rw [hs a h d c ha, mul_zero]

/-- The next state, element by element. -/
theorem next_apply (hl : ∀ i, la i ≠ ⊤) (s : FVec Ideal S128x256 .f32) (d : Fin 32) (c : Fin 64) (h h' : Fin 4) :
    nextK la k v n s (ix2 ⟨32 * h.val + d.val, by omega⟩ ⟨64 * h'.val + c.val, by omega⟩)
      = Ideal.exp (cumE (headN la n h) 63 d) * s (ix2 ⟨32 * h.val + d.val, by omega⟩ ⟨64 * h'.val + c.val, by omega⟩)
        + if h = h' then ∑ s : Fin 64, (headN k n h s d * Ideal.exp (cumE (headN la n h) 63 d - cumE (headN la n h) s d)) * vheadN v n h' s c else 0 := by
  rw [← kv_head la k v n hl, ← decay_head la n hl]
  pointwise [nextK]

/-- The next state is zero outside the heads. -/
theorem next_diag (hl : ∀ i, la i ≠ ⊤) (s : FVec Ideal S128x256 .f32) (hs : Diag s) : Diag (nextK la k v n s) := by
  intro h h' d c e
  rw [next_apply la k v n hl, hs h h' d c e, if_neg e, mul_zero, add_zero]

/-- The next state, head by head. -/
theorem next_head (hl : ∀ i, la i ≠ ⊤) (s : FVec Ideal S128x256 .f32) (d : Fin 32) (c : Fin 64) (h : Fin 4) :
    sheadN (nextK la k v n s) h d c = nextE (headN la n h) (headN k n h) (vheadN v n h) (sheadN s h) d c := by
  unfold sheadN
  rw [next_apply la k v n hl, if_pos rfl]; rfl

end Cert.Gla
end
-- ==== Proof.Gla.Rows.lean ====
module
public import proofs.«01_k».proof.Proof.Gla.Point
@[expose] public section
set_option maxRecDepth 16384
noncomputable section
/-! The kernel's block from its sixteen chunks. -/
namespace Cert.Gla
open Idealize.ShloMosaic Idealize.ShloMosaic.TcCoe Cert.KernelIdeal Cert.KernelIdeal.Gen

variable (la q k : FVec Ideal S1024x128 .f32) (v : Vec Ideal S1024x256 .bf16) (n : Fin 16)

/-- Row `t` of chunk `n` in the block is row `t` of that chunk's output. -/
theorem oAll_row (s : FVec Ideal S128x256 .f32) (t : Fin 64) (w : Fin 256) :
    oAllK la q k v s (ix2 ⟨64 * n.val + t.val, by omega⟩ w) = oK la q k v n (stK la k v s n.val) (ix2 t w) := by
  refine concatenate_ofFn_apply (t := S1024x256) (s₁ := S64x256) 0 (fun m : Fin 16 => oK la q k v m (stK la k v s m.val)) _ rfl 64 rfl
    (ix2 ⟨64 * n.val + t.val, by omega⟩ w) n ?_ (ix2 t w) ?_ ?_
  · show (64 * n.val + t.val) / 64 = n.val; omega
  · show t.val = (64 * n.val + t.val) % 64; omega
  · intro b hb
    match b with
    | ⟨0, _⟩ => exact absurd rfl hb
    | ⟨1, _⟩ => rfl
end Cert.Gla
end
-- ==== Proof.Gla.Ends.lean ====
module
public import proofs.«01_k».proof.Proof.Gla.Rows
@[expose] public section
set_option maxRecDepth 16384
noncomputable section
/-! The kernel's block before its chunks (log decays, scaled queries, keys) and after them (norm and gate). -/
namespace Cert.Gla
open Idealize.ShloMosaic Idealize.ShloMosaic.TcCoe Cert.KernelIdeal Cert.KernelIdeal.Gen

/-- The single-precision words for 16, 64 and 1/64. -/
theorem word16 : Ideal.ofBits .f32 1098907648#32 = ((16 : ℝ) : EReal) := by
  simp [Ideal.ofBits, Ideal.ieee, -EReal.coe_mul]; norm_num
/-- The single-precision word of 64. -/
theorem word64 : Ideal.ofBits .f32 1115684864#32 = ((64 : ℝ) : EReal) := by
  simp [Ideal.ofBits, Ideal.ieee, -EReal.coe_mul]; norm_num
/-- The single-precision word of 1/64. -/
theorem wordInv64 : Ideal.ofBits .f32 1015021568#32 = (((1 : ℝ) / 64 : ℝ) : EReal) := by
  simp [Ideal.ofBits, Ideal.ieee, -EReal.coe_mul]; norm_num

/-- Dividing a number by a nonzero real. -/
theorem div_coe (x y : ℝ) (hy : y ≠ 0) : Ideal.div (x : EReal) (y : EReal) = ((x / y : ℝ) : EReal) := by
  unfold Ideal.div
  rw [if_neg (by simpa using hy), div_eq_mul_inv, EReal.coe_mul, EReal.coe_inv]

/-- The log decay of a gate's value. -/
def gateE (p : EReal) : EReal := Ideal.div (-(max (-p) 0 + Ideal.log1p (Ideal.exp (-max p (-p))))) (Ideal.ofBits .f32 1098907648#32)

/-- The softplus of a finite number is finite. -/
theorem IsNum.log1p_exp {x : EReal} (hx : IsNum x) : IsNum (Ideal.log1p (Ideal.exp x)) := by
  obtain ⟨a, rfl⟩ := hx
  have e : (1 : EReal) + Ideal.exp (a : EReal) = ((1 + Real.exp a : ℝ) : EReal) := by
    rw [EReal.coe_add]; rfl
  unfold Ideal.log1p
  rw [e]
  have hp : 0 < 1 + Real.exp a := by positivity
  refine ⟨Real.log (1 + Real.exp a), ?_⟩
  exact if_neg (not_le.mpr hp)
/-- The larger of two finite numbers is finite. -/
theorem IsNum.max {x y : EReal} (hx : IsNum x) (hy : IsNum y) : IsNum (max x y) := by
  rcases max_choice x y with h | h <;> rw [h] <;> assumption
/-- The softplus at minus infinity is zero. -/
theorem log1p_bot : Ideal.log1p (Ideal.exp ⊥) = 0 := by
  have e : (1 : EReal) + Ideal.exp ⊥ = ((1 : ℝ) : EReal) := by
    rw [show Ideal.exp ⊥ = 0 from rfl, add_zero]; rfl
  unfold Ideal.log1p
  rw [e]
  exact (if_neg (by norm_num)).trans (by rw [Real.log_one]; rfl)
/-- A log decay is below infinity. -/
theorem gate_lt (p : EReal) : gateE p ≠ ⊤ := by
  unfold gateE
  rw [word16]
  induction p with
  | bot =>
    rw [EReal.neg_bot, max_eq_right bot_le, EReal.neg_top, log1p_bot, max_eq_left le_top, add_zero, EReal.neg_top]
    unfold Ideal.div
    rw [if_neg (by norm_num), ← EReal.coe_inv, EReal.bot_mul_coe_of_pos (by norm_num)]
    exact bot_ne_top
  | top =>
    rw [EReal.neg_top, max_eq_left bot_le, EReal.neg_top, log1p_bot, max_eq_right bot_le, add_zero, neg_zero]
    exact (div_coe 0 16 (by norm_num)).trans_ne (EReal.coe_ne_top _)
  | coe r =>
    obtain ⟨a, ha⟩ := ((((IsNum.coe r).neg.max IsNum.zero).add ((IsNum.coe r).max (IsNum.coe r).neg).neg.log1p_exp)).neg
    rw [ha, div_coe _ _ (by norm_num)]
    exact EReal.coe_ne_top _

/-- The kernel's spelling of the log decay. -/
theorem gate_kernel (p : EReal) :
    Ideal.div (min p 0 - Ideal.log1p (Ideal.exp (0 - max p (-p)))) (Ideal.ofBits .f32 1098907648#32) = gateE p := by
  unfold gateE
  rw [zero_sub]
  by_cases ht : p = ⊤
  · rw [ht, min_eq_right le_top, EReal.neg_top, max_eq_right bot_le, zero_sub, zero_add]
  by_cases hb : p = ⊥
  · rw [hb, min_eq_left bot_le, EReal.neg_bot, max_eq_right bot_le, EReal.neg_top, log1p_bot, max_eq_left le_top, add_zero, EReal.neg_top, EReal.bot_sub]
  have hp := IsNum.of_ne ht hb
  obtain ⟨L, hL⟩ := (hp.max hp.neg).neg.log1p_exp
  obtain ⟨a, rfl⟩ := hp
  rw [hL]
  congr 1
  have e1 : min (a : EReal) 0 = ((min a 0 : ℝ) : EReal) := by
    rcases le_total a 0 with h | h
    · rw [min_eq_left h, min_eq_left (by exact_mod_cast h)]
    · rw [min_eq_right h, min_eq_right (by exact_mod_cast h)]; rfl
  have e2 : max (-(a : EReal)) 0 = ((max (-a) 0 : ℝ) : EReal) := by
    rw [← EReal.coe_neg]
    rcases le_total (-a) 0 with h | h
    · rw [max_eq_right h, max_eq_right (by exact_mod_cast h)]; rfl
    · rw [max_eq_left h, max_eq_left (by exact_mod_cast h)]
  rw [e1, e2, ← EReal.coe_sub, ← EReal.coe_add, ← EReal.coe_neg]
  congr 1
  rcases le_total a 0 with h | h
  · rw [min_eq_left h, max_eq_left (by linarith)]; ring
  · rw [min_eq_right h, max_eq_right (by linarith)]; ring

section
variable (x0 x1 x2 : Vec Ideal S1024x256 .bf16) (x3 : Vec Ideal S1024x128 .bf16) (x4 : Vec Ideal S128x128 .f32) (x5 : Vec Ideal S1x128 .f32)

/-- The gate's value before its log decay. -/
def preE (r : Fin 1024) (l : Fin 128) : EReal := ∑ x, x3 (ix2 r x) * x4 (ix2 x l) + x5 (ix2 0 l)

/-- The kernel's log decays, element by element. -/
theorem la_apply (h4 : ∀ i, IsNum (x4 i)) (r : Fin 1024) (l : Fin 128) :
    laB x3 x4 x5 (ix2 r l) = gateE (preE x3 x4 x5 r l) := by
  have e : k0_pay15 x3 x4 x5 (ix2 r l) = preE x3 x4 x5 r l := by
    pointwise [k0_pay15]
    simp only [(h4 _).sub_self, sub_zero, mul_zero, Finset.sum_const_zero, add_zero]
    rfl
  pointwise [laB, k0_pay18, k0_pay16, k0_pay17]
  rw [e, ← gate_kernel (preE x3 x4 x5 r l)]
  rfl

/-- The kernel's scaled queries. -/
theorem qB_apply (r : Fin 1024) (l : Fin 128) : qB x0 (ix2 r l) = x0 (ix2 r ⟨l.val, by omega⟩) * Ideal.ofBits .f32 1043662067#32 := by
  pointwise [qB, k0_pay19]
/-- The kernel's keys. -/
theorem kB_apply (r : Fin 1024) (l : Fin 128) : kB x0 (ix2 r l) = x0 (ix2 r ⟨128 + l.val, by omega⟩) := by
  pointwise [kB, k0_pay20]

/-- The averaging matrix. -/
theorem mean_apply (h h' : Fin 4) (d e : Fin 64) :
    meanMat (F := Ideal) (ix2 ⟨64 * h.val + d.val, by omega⟩ ⟨64 * h'.val + e.val, by omega⟩) = if h = h' then (((1 : ℝ) / 64 : ℝ) : EReal) else 0 := by
  have r := (show ∀ (h : Fin 4) (d : Fin 64), k0_pay350 (ix2 (⟨64 * h.val + d.val, by omega⟩ : Fin 256) (0 : Fin 256)) = BitVec.ofNat 32 h.val by decide +kernel) h d
  have cm := (show ∀ (h' : Fin 4) (e : Fin 64), Scalar.select (IntOp.andi (k0_pay352 (ix2 (0 : Fin 256) (⟨64 * h'.val + e.val, by omega⟩ : Fin 256)))
      (IntOp.cmpi CmpIPredicate.ne (IntOp.remsi ArithUnit.vector (BitVec.ofNat 32 (64 * h'.val + e.val)) (k0_pay353 (ix2 (0 : Fin 256) (⟨64 * h'.val + e.val, by omega⟩ : Fin 256)))) 0#32))
      (IntOp.subi (k0_pay351 (ix2 (0 : Fin 256) (⟨64 * h'.val + e.val, by omega⟩ : Fin 256))) 1#32) (k0_pay351 (ix2 (0 : Fin 256) (⟨64 * h'.val + e.val, by omega⟩ : Fin 256)))
      = BitVec.ofNat 32 h'.val by decide +kernel) h' e
  pointwise [meanMat, k0_pay354]
  rw [show k0_pay350 (ix2 (⟨64 * h.val + d.val, by omega⟩ : Fin 256) (⟨64 * h'.val + e.val, by omega⟩ : Fin 256)) = BitVec.ofNat 32 h.val from r]
  refine Eq.trans (congrArg (fun z => Scalar.select (IntOp.cmpi CmpIPredicate.eq (BitVec.ofNat 32 h.val) z) (Ideal.ofBits FTy.f32 1015021568#32) 0) cm) ?_
  show Scalar.select (IntOp.cmpi CmpIPredicate.eq (BitVec.ofNat 32 h.val) (BitVec.ofNat 32 h'.val)) _ _ = _
  rw [sel_head, wordInv64]

/-- The norm and the gate of one element, from the head's outputs. -/
def outE (o : Fin 64 → EReal) (g : EReal) (c : Fin 64) : EReal :=
  g * Ideal.div 1 (1 + Ideal.exp (-g)) * (o c * Ideal.rsqrt (Ideal.div (∑ x, o x * o x) (Ideal.ofBits .f32 1115684864#32) + Ideal.ofBits .f32 897988541#32))

/-- A mean of squares as a division. -/
theorem mean_div (o : Fin 64 → EReal) (ho : ∀ c, IsNum (o c)) :
    ∑ x, o x * o x * (((1 : ℝ) / 64 : ℝ) : EReal) = Ideal.div (∑ x, o x * o x) (Ideal.ofBits .f32 1115684864#32) := by
  choose f hf using ho
  have e : ∀ s : Finset (Fin 64), ∑ x ∈ s, o x * o x * (((1 : ℝ) / 64 : ℝ) : EReal) = ((∑ x ∈ s, f x * f x * (1 / 64) : ℝ) : EReal)
      ∧ ∑ x ∈ s, o x * o x = ((∑ x ∈ s, f x * f x : ℝ) : EReal) := by
    intro s
    induction s using Finset.induction_on with
    | empty => simp
    | insert a s ha ih => rw [Finset.sum_insert ha, Finset.sum_insert ha, Finset.sum_insert ha, Finset.sum_insert ha, ih.1, ih.2, hf, ← EReal.coe_mul, ← EReal.coe_mul, ← EReal.coe_add, ← EReal.coe_add]; exact ⟨rfl, rfl⟩
  rw [(e _).1, (e _).2, word64, div_coe _ _ (by norm_num), ← Finset.sum_mul]
  congr 1; ring

/-- The kernel's normed and gated output, element by element. -/
theorem out_apply (o : FVec Ideal S1024x256 .f32) (ho : ∀ i, IsNum (o i)) (r : Fin 1024) (h : Fin 4) (c : Fin 64) :
    outK o x2 (ix2 r ⟨64 * h.val + c.val, by omega⟩)
      = outE (fun x => o (ix2 r ⟨64 * h.val + x.val, by omega⟩)) (x2 (ix2 r ⟨64 * h.val + c.val, by omega⟩)) c := by
  pointwise [outK, k0_pay1, k0_pay355, k0_pay357, k0_pay358, k0_pay356]
  simp only [((ho _).mul (ho _)).sub_self, sub_zero, zero_mul, Finset.sum_const_zero, add_zero]
  rw [sum_vhead h _ (fun a d ha => by rw [mean_apply, if_neg ha, mul_zero])]
  simp only [mean_apply, if_true]
  rw [mean_div (fun x => o (ix2 r ⟨64 * h.val + x.val, by omega⟩)) (fun _ => ho _), zero_sub]
  rfl
end
end Cert.Gla
end
-- ==== Proof.Gla.Whole.lean ====
module
public import proofs.«01_k».proof.Proof.Gla.Ends
public import proofs.«01_k».proof.Proof.Gla.Rows
@[expose] public section
set_option maxRecDepth 16384
noncomputable section
/-! The whole gated linear attention over 8 sequences of 64 chunks, on extended reals, of the six input arrays. -/
namespace Cert.Gla
open Idealize.ShloMosaic Idealize.ShloMosaic.TcCoe Cert.KernelIdeal Cert.KernelIdeal.Gen

variable (qk v g : S32768x256.Idx → EReal) (nar : S32768x128.Idx → EReal) (w2 : S16x128.Idx → EReal) (bias : S128.Idx → EReal)

/-- The row of token `t` of chunk `j` of sequence `b`. -/
def row (b : Fin 8) (j t : Fin 64) : Fin 32768 := ⟨4096 * b.val + 64 * j.val + t.val, by omega⟩
/-- The column of entry `d` of head `h`: of the queries, of the values. -/
def col (h : Fin 4) (d : Fin 32) : Fin 128 := ⟨32 * h.val + d.val, by omega⟩
/-- The column of a value. -/
def vcol (h : Fin 4) (c : Fin 64) : Fin 256 := ⟨64 * h.val + c.val, by omega⟩

/-- Scaled queries, keys, values and log decays of one head and chunk. -/
def qW (b : Fin 8) (h : Fin 4) (j t : Fin 64) (d : Fin 32) : EReal :=
  qk (ix2 (row b j t) (⟨32 * h.val + d.val, by omega⟩ : Fin 256)) * Ideal.ofBits .f32 1043662067#32
/-- The keys. -/
def kW (b : Fin 8) (h : Fin 4) (j t : Fin 64) (d : Fin 32) : EReal :=
  qk (ix2 (row b j t) (⟨128 + (32 * h.val + d.val), by omega⟩ : Fin 256))
/-- The values. -/
def vW (b : Fin 8) (h : Fin 4) (j t c : Fin 64) : EReal := v (ix2 (row b j t) (vcol h c))
/-- The gate's pre-activation. -/
def preW (b : Fin 8) (h : Fin 4) (j t : Fin 64) (d : Fin 32) : EReal :=
  ∑ x : Fin 16, nar (ix2 (row b j t) (⟨12 + x.val, by omega⟩ : Fin 128)) * w2 (ix2 x (col h d)) + bias (ix1 (col h d))
/-- The log decays. -/
def laW (b : Fin 8) (h : Fin 4) (j t : Fin 64) (d : Fin 32) : EReal := gateE (preW nar w2 bias b h j t d)

/-- The state of one head before chunk `j`. -/
def stW (b : Fin 8) (h : Fin 4) : ℕ → Fin 32 → Fin 64 → EReal
  | 0 => fun _ _ => 0
  | j + 1 => if hj : j < 64 then nextE (laW nar w2 bias b h ⟨j, hj⟩) (kW qk b h ⟨j, hj⟩) (vW v b h ⟨j, hj⟩) (stW b h j) else stW b h j

/-- The output of one head and chunk, before norm and gate. -/
def oW (b : Fin 8) (h : Fin 4) (j t c : Fin 64) : EReal :=
  oE (laW nar w2 bias b h j) (qW qk b h j) (kW qk b h j) (vW v b h j) (stW qk v nar w2 bias b h j.val) t c

/-- The result. -/
def resW (b : Fin 8) (h : Fin 4) (j t c : Fin 64) : EReal :=
  outE (oW qk v nar w2 bias b h j t) (g (ix2 (row b j t) (vcol h c))) c

/-- One chunk carries the state on. -/
theorem stW_succ (b : Fin 8) (h : Fin 4) (j : Fin 64) :
    stW qk v nar w2 bias b h (j.val + 1) = nextE (laW nar w2 bias b h j) (kW qk b h j) (vW v b h j) (stW qk v nar w2 bias b h j.val) := by
  conv_lhs => unfold stW
  exact dif_pos j.isLt

/-- The queries' scale is finite. -/
theorem scale_num : IsNum (Ideal.ofBits .f32 1043662067#32) := by
  simp [Ideal.ofBits, Ideal.ieee, -EReal.coe_mul]
  exact IsNum.coe _

/-- The log decays are below infinity. -/
theorem laW_lt (b : Fin 8) (h : Fin 4) (j t : Fin 64) (d : Fin 32) : laW nar w2 bias b h j t d ≠ ⊤ := gate_lt _

section
variable {qk v g nar w2 bias}
variable (hqk : ∀ i, IsNum (qk i)) (hv : ∀ i, IsNum (v i))
include hqk hv
/-- The states are finite. -/
theorem stW_num (b : Fin 8) (h : Fin 4) : ∀ (j : ℕ) (d : Fin 32) (c : Fin 64), IsNum (stW qk v nar w2 bias b h j d c)
  | 0, _, _ => IsNum.zero
  | j + 1, d, c => by
    unfold stW
    split
    · exact IsNum.next (laW_lt nar w2 bias b h _) (fun _ _ => hqk _) (fun _ _ => hv _) (stW_num b h j) d c
    · exact stW_num b h j d c
/-- The outputs before the norm are finite. -/
theorem oW_num (b : Fin 8) (h : Fin 4) (j t c : Fin 64) : IsNum (oW qk v nar w2 bias b h j t c) :=
  IsNum.o (laW_lt nar w2 bias b h _) (fun _ _ => (hqk _).mul scale_num) (fun _ _ => hqk _) (fun _ _ => hv _) (stW_num hqk hv b h _) t c
end
end Cert.Gla
end
-- ==== Proof.Gla.Pad.lean ====
module
public import proofs.«01_k».proof.Proof.Gla.Whole
public import proofs.«01_k».proof.Proof.Gen.KernelIdeal.Value
public import Idealize.ShloMosaic.Lib.Routing.OpsSet
public import Idealize.ShloMosaic.Lib.Routing.OpsPair
@[expose] public section
set_option maxRecDepth 16384
noncomputable section
/-! The kernel's gate weights, padded with zero rows by its host part. -/
namespace Cert.Gla
open Idealize.ShloMosaic Idealize.ShloMosaic.TcCoe Cert.KernelIdeal Cert.KernelIdeal.Gen

/-- The one index of the kernel's scatter. -/
def padIdx : IVec S1 32 := broadcastInDim S1 ![] bcast_S_S1 (constantI S_ 32 12#32)
/-- Gate row `x` lands in padded row `12 + x`. -/
theorem lands_pad (k : S16x128.Idx) (a l : Fin 128) :
    scatter_S128x128_S1_S16x128_01_n_0_0.resultIdx? k padIdx = some (ix2 a l) ↔ 12 + (k 0).val = a.val ∧ (k 1).val = l.val := by
  refine (Routing.resultIdx?_ix2 (R := 128) (C := 128) scatter_S128x128_S1_S16x128_01_n_0_0 k padIdx a l).trans ?_
  have s0 : scatter_S128x128_S1_S16x128_01_n_0_0.start k padIdx (0 : Fin 2) = 12 := rfl
  have s1 : scatter_S128x128_S1_S16x128_01_n_0_0.start k padIdx (1 : Fin 2) = 0 := rfl
  have w0 : scatter_S128x128_S1_S16x128_01_n_0_0.window k (0 : Fin 2) = (k 0).val := rfl
  have w1 : scatter_S128x128_S1_S16x128_01_n_0_0.window k (1 : Fin 2) = (k 1).val := rfl
  rw [s0, s1, w0, w1]
  omega

variable (w2 : S16x128.Idx → EReal)
/-- The padded gate weights. -/
def padW : S128x128.Idx → EReal :=
  Host.scatter scatter_S128x128_S1_S16x128_01_n_0_0 (fun _ b => b) (broadcastInDim S128x128 ![] bcast_S_S128x128 (constant (F := Ideal) S_ .f32 0x00000000#32)) padIdx w2
/-- A padded row that holds gate row `x`. -/
theorem pad_in (x : Fin 16) (l : Fin 128) : padW w2 (ix2 (⟨12 + x.val, by omega⟩ : Fin 128) l) = w2 (ix2 x l) := by
  refine Routing.scatter_set_hit _ _ _ _ _ _ (fun k hk => ?_) (ix2 x l) ((lands_pad _ _ _).2 ⟨rfl, rfl⟩)
  obtain ⟨h0, h1⟩ := (lands_pad _ _ _).1 hk
  refine congrArg w2 (funext fun a => ?_)
  match a with
  | ⟨0, _⟩ => exact Fin.ext (by change 12 + (k 0).val = 12 + x.val at h0; show (k 0).val = x.val; omega)
  | ⟨1, _⟩ => exact Fin.ext h1
/-- The other padded rows are zero. -/
theorem pad_out (a l : Fin 128) (ha : ∀ x : Fin 16, 12 + x.val ≠ a.val) : padW w2 (ix2 a l) = 0 := by
  refine (Routing.scatter_set_miss _ _ _ _ _ (fun k hk => ha (k 0) ((lands_pad _ _ _).1 hk).1)).trans ?_
  pointwise []
/-- Padding keeps the weight finite. -/
theorem pad_num (hw : ∀ i, IsNum (w2 i)) (i : S128x128.Idx) : IsNum (padW w2 i) := by
  obtain ⟨a, l, rfl⟩ : ∃ a l, i = ix2 a l := ⟨i 0, i 1, eq_ix2 i⟩
  by_cases h : ∃ x : Fin 16, 12 + x.val = a.val
  · obtain ⟨x, hx⟩ := h
    rw [show a = (⟨12 + x.val, by omega⟩ : Fin 128) from Fin.ext hx.symm, pad_in]; exact hw _
  · rw [pad_out w2 a l fun x hx => h ⟨x, hx⟩]; exact IsNum.zero
/-- A product with the padded weights sums over the gate's own sixteen rows. -/
theorem pad_sum (y : Fin 128 → EReal) (l : Fin 128) :
    ∑ x, y x * padW w2 (ix2 x l) = ∑ x : Fin 16, y ⟨12 + x.val, by omega⟩ * w2 (ix2 x l) := by
  refine (Fintype.sum_of_injective (fun x : Fin 16 => (⟨12 + x.val, by omega⟩ : Fin 128)) (fun a b h => Fin.ext (by have := congrArg Fin.val h; simp at this; omega)) _ _ (fun i hi => ?_) fun x => ?_).symm
  · rw [pad_out w2 i l fun x hx => hi ⟨x, Fin.ext hx⟩, mul_zero]
  · rw [pad_in]
end Cert.Gla
end
-- ==== Proof.Gla.Blocks.lean ====
module
public import proofs.«01_k».proof.Proof.Gla.Pad
public import Idealize.ShloMosaic.Lib.StableHlo.RunRead
@[expose] public section
set_option maxRecDepth 16384
noncomputable section
/-! What the kernel's windows hold at a grid point: block `i` of sequence `b` is point `4 b + i`. -/
namespace Cert.Gla
open Idealize.ShloMosaic Idealize.ShloMosaic.TcCoe Idealize.SL.Sem Cert.KernelIdeal Cert.KernelIdeal.Gen

/-- Where every window stands at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- The array's row at a block's row. -/
def rowOf (t : Fin cfg0.N) (r : Fin 1024) : Fin 32768 := ⟨t.val * 1024 + r.val, by have : t.val < 32 := t.isLt; omega⟩

variable (m : (ℓ : Loc nD τ sig) → Buf (Elt Ideal) ℓ) (c : Dev nD) (t : Fin cfg0.N) (r : Fin 1024)

/-- The six arrays of a device. -/
abbrev a0 : S32768x256.Idx → EReal := m ((c : Thread nD τ).loc main_arg0)
/-- The values. -/
abbrev a1 : S32768x256.Idx → EReal := m ((c : Thread nD τ).loc main_arg1)
/-- The output gate. -/
abbrev a2 : S32768x256.Idx → EReal := m ((c : Thread nD τ).loc main_arg2)
/-- The narrow array. -/
abbrev a3 : S32768x128.Idx → EReal := m ((c : Thread nD τ).loc main_arg3)
/-- The gate's weight. -/
abbrev a4 : S16x128.Idx → EReal := m ((c : Thread nD τ).loc main_arg4)
/-- The gate's bias. -/
abbrev a5 : S128.Idx → EReal := m ((c : Thread nD τ).loc main_arg5)

/-- The block of queries and keys. -/
theorem blk0 (q : Fin 256) : (iblk m c 0 t : FVec Ideal S1024x256 .bf16) (ix2 r q) = a0 m c (ix2 (rowOf t r) q) := by
  have h : (rowOf t r).val = t.val * 1024 + r.val := rfl
  blk_ext! [iblk, V, idx t]
/-- The block of values. -/
theorem blk1 (q : Fin 256) : (iblk m c 1 t : FVec Ideal S1024x256 .bf16) (ix2 r q) = a1 m c (ix2 (rowOf t r) q) := by
  have h : (rowOf t r).val = t.val * 1024 + r.val := rfl
  blk_ext! [iblk, V, idx t]
/-- The block of the output gate. -/
theorem blk2 (q : Fin 256) : (iblk m c 2 t : FVec Ideal S1024x256 .bf16) (ix2 r q) = a2 m c (ix2 (rowOf t r) q) := by
  have h : (rowOf t r).val = t.val * 1024 + r.val := rfl
  blk_ext! [iblk, V, idx t]
/-- The block of the narrow array. -/
theorem blk3 (q : Fin 128) : (iblk m c 3 t : FVec Ideal S1024x128 .bf16) (ix2 r q) = a3 m c (ix2 (rowOf t r) q) := by
  have h : (rowOf t r).val = t.val * 1024 + r.val := rfl
  blk_ext! [iblk, V, idx t]
/-- What the kernel's host part leaves for the gate. -/
theorem V_w2 : (V m c main_v2 : FVec Ideal S128x128 .f32) = padW (a4 m c) := by
  unfold V
  after_reads_simp
  unfold padW padIdx
  rfl
/-- What the bias operand holds when the region starts. -/
theorem V_bias : (V m c main_v3 : FVec Ideal S1x128 .f32) = shapeCast S1x128 (a5 m c) shapeCasts_S128_S1x128 := by
  rfl
/-- Every block's gate weight is the padded one. -/
theorem blk4 (a l : Fin 128) : (iblk m c 4 t : FVec Ideal S128x128 .f32) (ix2 a l) = padW (a4 m c) (ix2 a l) := by
  rw [← V_w2]
  unfold iblk
  generalize V m c = v
  blk_ext! [idx t]
/-- Every block's bias. -/
theorem blk5 (l : Fin 128) : (iblk m c 5 t : FVec Ideal S1x128 .f32) (ix2 0 l) = a5 m c (ix1 l) := by
  refine Eq.trans ?_ (show (shapeCast S1x128 (a5 m c) shapeCasts_S128_S1x128) (ix2 0 l) = a5 m c (ix1 l) by pointwise [])
  rw [← V_bias]
  unfold iblk
  generalize V m c = v
  blk_ext! [idx t]
end Cert.Gla
end
-- ==== Proof.Gla.KerEnd.lean ====
module
public import proofs.«01_k».proof.Proof.Gla.Blocks
@[expose] public section
set_option maxRecDepth 16384
noncomputable section
/-! The kernel's states and outputs over its grid. -/
namespace Cert.Gla
open Idealize.ShloMosaic Idealize.ShloMosaic.TcCoe Idealize.SL.Sem Cert.KernelIdeal Cert.KernelIdeal.Gen

/-- Chunk `n` of block `i`. -/
def ch (i : Fin 4) (n : Fin 16) : Fin 64 := ⟨16 * i.val + n.val, by omega⟩

section
variable (qk v g : S32768x256.Idx → EReal) (nar : S32768x128.Idx → EReal) (w2 : S16x128.Idx → EReal) (bias : S128.Idx → EReal)
variable (la q k : FVec Ideal S1024x128 .f32) (x1 : Vec Ideal S1024x256 .bf16) (s : FVec Ideal S128x256 .f32) (b : Fin 8) (i : Fin 4)
variable (hl : ∀ i, la i ≠ ⊤) (ela : ∀ n h, headN la n h = laW nar w2 bias b h (ch i n)) (eq : ∀ n h, headN q n h = qW qk b h (ch i n))
  (ek : ∀ n h, headN k n h = kW qk b h (ch i n)) (ev : ∀ n h, vheadN x1 n h = vW v b h (ch i n))
  (hd : Diag s) (es : ∀ h, sheadN s h = stW qk v nar w2 bias b h (16 * i.val))
include hl ela ek ev hd es
/-- The states inside a block. -/
theorem st_block : ∀ j : ℕ, j ≤ 16 → Diag (stK la k x1 s j) ∧ ∀ h, sheadN (stK la k x1 s j) h = stW qk v nar w2 bias b h (16 * i.val + j)
  | 0, _ => ⟨hd, es⟩
  | j + 1, hj => by
    obtain ⟨h1, h2⟩ := st_block j (by omega)
    have e : stK la k x1 s (j + 1) = nextK la k x1 ⟨j, hj⟩ (stK la k x1 s j) := by
      conv_lhs => unfold stK
      exact dif_pos hj
    rw [e]
    refine ⟨next_diag la k x1 ⟨j, hj⟩ hl _ h1, fun h => ?_⟩
    funext d c
    rw [next_head la k x1 ⟨j, hj⟩ hl, ela, ek, ev, h2]
    exact (congrFun (congrFun (stW_succ qk v nar w2 bias b h (ch i ⟨j, hj⟩)) d) c).symm
include eq
/-- The outputs of a block before norm and gate. -/
theorem o_block (n : Fin 16) (t c : Fin 64) (h : Fin 4) :
    oAllK la q k x1 s (ix2 ⟨64 * n.val + t.val, by omega⟩ ⟨64 * h.val + c.val, by omega⟩) = oW qk v nar w2 bias b h (ch i n) t c := by
  obtain ⟨h1, h2⟩ := st_block qk v nar w2 bias la k x1 s b i hl ela ek ev hd es n.val (by omega)
  rw [oAll_row, o_head la q k x1 n hl _ h1, ela, eq, ek, ev, h2]
  rfl
end

variable (m : (ℓ : Loc nD τ sig) → Buf (Elt Ideal) ℓ) (c : Dev nD) (t : Fin cfg0.N)

/-- The queries, keys, values and the gate's weight are finite. -/
structure Finite : Prop where
  h0 : ∀ i, IsNum (a0 m c i)
  h1 : ∀ i, IsNum (a1 m c i)
  h4 : ∀ i, IsNum (a4 m c i)

/-- Finiteness along an equation. -/
theorem num_of_eq {a b : EReal} (e : a = b) (h : IsNum b) : IsNum a := by rw [e]; exact h

variable {m c} in
/-- A block's log decays over the arrays. -/
theorem la_at (hF : Finite m c) (r : Fin 1024) (l : Fin 128) : laB (iblk m c 3 t) (iblk m c 4 t) (iblk m c 5 t) (ix2 r l)
    = gateE (∑ x : Fin 16, a3 m c (ix2 (rowOf t r) (⟨12 + x.val, by omega⟩ : Fin 128)) * a4 m c (ix2 x l) + a5 m c (ix1 l)) := by
  have n4 : ∀ y : S128x128.Idx, IsNum ((iblk m c 4 t : FVec Ideal S128x128 .f32) y) := fun y => by
    rw [eq_ix2 y]; exact num_of_eq (blk4 m c t _ _) (pad_num _ hF.h4 _)
  rw [la_apply (iblk m c 3 t) (iblk m c 4 t) (iblk m c 5 t) n4]
  unfold preE
  rw [blk5 m c t]
  simp only [blk3 m c t, blk4 m c t]
  rw [pad_sum]
variable {m c} in
/-- A block's log decays are below infinity. -/
theorem la_lt (hF : Finite m c) (i : S1024x128.Idx) : laB (iblk m c 3 t) (iblk m c 4 t) (iblk m c 5 t) i ≠ ⊤ := by
  rw [eq_ix2 i]
  exact ne_of_eq_of_ne (la_at t hF _ _) (gate_lt _)
section
variable (b : Fin 8) (i : Fin 4) (ht : t.val = 4 * b.val + i.val)
include ht
/-- A block's row is its token's. -/
theorem row_eq (n : Fin 16) (tok : Fin 64) : rowOf t ⟨64 * n.val + tok.val, by omega⟩ = row b (ch i n) tok := by
  apply Fin.ext
  show t.val * 1024 + (64 * n.val + tok.val) = 4096 * b.val + 64 * (16 * i.val + n.val) + tok.val
  omega
/-- A chunk's queries. -/
theorem q_blk (n : Fin 16) (h : Fin 4) : headN (qB (iblk m c 0 t)) n h = qW (a0 m c) b h (ch i n) := by
  funext tok d
  refine (qB_apply (iblk m c 0 t) _ _).trans ?_
  rw [blk0 m c t, row_eq t b i ht]; rfl
/-- A chunk's keys. -/
theorem k_blk (n : Fin 16) (h : Fin 4) : headN (kB (iblk m c 0 t)) n h = kW (a0 m c) b h (ch i n) := by
  funext tok d
  refine (kB_apply (iblk m c 0 t) _ _).trans ?_
  rw [blk0 m c t, row_eq t b i ht]; rfl
/-- A chunk's values. -/
theorem v_blk (n : Fin 16) (h : Fin 4) : vheadN (iblk m c 1 t) n h = vW (a1 m c) b h (ch i n) := by
  funext tok d
  refine (blk1 m c t _ _).trans ?_
  rw [row_eq t b i ht]; rfl
variable {m c} in
/-- A chunk's log decays. -/
theorem la_blk (hF : Finite m c) (n : Fin 16) (h : Fin 4) :
    headN (laB (iblk m c 3 t) (iblk m c 4 t) (iblk m c 5 t)) n h = laW (a3 m c) (a4 m c) (a5 m c) b h (ch i n) := by
  funext tok d
  refine (la_at t hF _ _).trans ?_
  rw [row_eq t b i ht]; rfl
end

/-- The specification at a device's arrays. -/
abbrev stM (b : Fin 8) (h : Fin 4) (j : ℕ) : Fin 32 → Fin 64 → EReal := stW (a0 m c) (a1 m c) (a3 m c) (a4 m c) (a5 m c) b h j

/-- A state that is the specification's before block `i` of sequence `b`. -/
def Good (s : FVec Ideal S128x256 .f32) (b : Fin 8) (j : ℕ) : Prop := Diag s ∧ ∀ h, sheadN s h = stM m c b h j

/-- The carried state is stored as it is. -/
theorem pay347 (x : FVec Ideal S128x256 .f32) : k0_pay347 x = x := by
  funext i
  rw [eq_ix2 i]
  pointwise [k0_pay347]

/-- A sequence's first block starts from zeros. -/
theorem good_zero (b : Fin 8) : Good m c (k0_pay2 (F := Ideal)) b 0 := by
  have z : ∀ i, (k0_pay2 (F := Ideal)) i = 0 := fun i => by rw [eq_ix2 i]; pointwise [k0_pay2]
  exact ⟨fun _ _ _ _ _ => z _, fun h => funext fun d => funext fun e => z _⟩

section
variable {m c}
variable (hF : Finite m c) (b : Fin 8) (i : Fin 4) (ht : t.val = 4 * b.val + i.val) (s : FVec Ideal S128x256 .f32) (hs : Good m c s b (16 * i.val))
include hF ht hs
/-- One block carries the state on. -/
theorem good_next : Good m c (k0_pay347 (stK (laB (iblk m c 3 t) (iblk m c 4 t) (iblk m c 5 t)) (kB (iblk m c 0 t)) (iblk m c 1 t) s 16)) b (16 * (i.val + 1)) := by
  rw [pay347]
  exact st_block (a0 m c) (a1 m c) (a3 m c) (a4 m c) (a5 m c) _ _ _ s b i (la_lt t hF) (la_blk t b i ht hF) (k_blk m c t b i ht) (v_blk m c t b i ht) hs.1 hs.2 16 le_rfl
/-- One block gives the result. -/
theorem out_block (n : Fin 16) (tok : Fin 64) (h : Fin 4) (d : Fin 64) :
    outK (oAllK (laB (iblk m c 3 t) (iblk m c 4 t) (iblk m c 5 t)) (qB (iblk m c 0 t)) (kB (iblk m c 0 t)) (iblk m c 1 t) s) (iblk m c 2 t)
      (ix2 ⟨64 * n.val + tok.val, by omega⟩ ⟨64 * h.val + d.val, by omega⟩)
      = resW (a0 m c) (a1 m c) (a2 m c) (a3 m c) (a4 m c) (a5 m c) b h (ch i n) tok d := by
  have ho := o_block (a0 m c) (a1 m c) (a3 m c) (a4 m c) (a5 m c) _ (qB (iblk m c 0 t)) _ _ s b i (la_lt t hF) (la_blk t b i ht hF) (q_blk m c t b i ht) (k_blk m c t b i ht) (v_blk m c t b i ht) hs.1 hs.2
  have hn : ∀ y, IsNum (oAllK (laB (iblk m c 3 t) (iblk m c 4 t) (iblk m c 5 t)) (qB (iblk m c 0 t)) (kB (iblk m c 0 t)) (iblk m c 1 t) s y) := fun y => by
    have e : y = ix2 (⟨64 * ((y 0).val / 64) + (y 0).val % 64, by have := (y 0).isLt; change _ < 1024 at this; omega⟩ : Fin 1024)
        (⟨64 * ((y 1).val / 64) + (y 1).val % 64, by have := (y 1).isLt; change _ < 256 at this; omega⟩ : Fin 256) := by
      refine (eq_ix2 y).trans ?_
      congr 1 <;> apply Fin.ext
      · show (y 0).val = 64 * ((y 0).val / 64) + (y 0).val % 64; omega
      · show (y 1).val = 64 * ((y 1).val / 64) + (y 1).val % 64; omega
    rw [e]
    have r0 : (y 0).val < 1024 := (y 0).isLt
    have r1 : (y 1).val < 256 := (y 1).isLt
    rw [show oAllK _ _ _ _ _ _ = _ from ho ⟨(y 0).val / 64, by omega⟩ ⟨(y 0).val % 64, by omega⟩ ⟨(y 1).val % 64, by omega⟩ ⟨(y 1).val / 64, by omega⟩]
    exact oW_num hF.h0 hF.h1 _ _ _ _ _
  rw [out_apply _ _ hn]
  unfold resW
  rw [blk2 m c t, row_eq t b i ht]
  exact congrArg (fun o => outE o _ d) (funext fun x => ho n tok x h)
end

/-- The carried state after every grid point. -/
theorem good_point (hF : Finite m c) : ∀ (n : ℕ) (hn : n < cfg0.N) (b : Fin 8) (i : Fin 4), n = 4 * b.val + i.val →
    Good m c (outsAt0 m c n hn).2 b (16 * (i.val + 1)) := by
  intro n
  induction n with
  | zero =>
    intro hn b i e
    have hi : i.val = 0 := by omega
    rw [outsAt0_A m c ⟨0, hn⟩ (Nat.zero_mod 4)]
    dsimp only
    rw [sout_A]
    exact good_next ⟨0, hn⟩ hF b i e _ (by rw [hi]; exact good_zero m c b)
  | succ n ih =>
    intro hn b i e
    by_cases h0 : (n + 1) % 4 = 0
    · have hi : i.val = 0 := by omega
      rw [outsAt0_A m c ⟨n + 1, hn⟩ h0]
      dsimp only
      rw [sout_A]
      exact good_next ⟨n + 1, hn⟩ hF b i e _ (by rw [hi]; exact good_zero m c b)
    · rw [outsAt0_B m c ⟨n + 1, hn⟩ h0]
      dsimp only
      rw [sout_B]
      have hp := ih (Nat.lt_of_succ_lt hn) b ⟨i.val - 1, by omega⟩ (by show n = 4 * b.val + (i.val - 1); omega)
      refine good_next ⟨n + 1, hn⟩ hF b i e _ ?_
      rw [show 16 * i.val = 16 * ((i.val - 1) + 1) by omega]
      exact hp

/-- The kernel's block of the result at every grid point. -/
theorem out_point (hF : Finite m c) (b : Fin 8) (i : Fin 4) (ht : t.val = 4 * b.val + i.val) (n : Fin 16) (tok : Fin 64) (h : Fin 4) (d : Fin 64) :
    (outsAt0 m c t.val t.isLt).1 (ix2 ⟨64 * n.val + tok.val, by omega⟩ ⟨64 * h.val + d.val, by omega⟩)
      = resW (a0 m c) (a1 m c) (a2 m c) (a3 m c) (a4 m c) (a5 m c) b h (ch i n) tok d := by
  by_cases h0 : t.val % 4 = 0
  · have hi : i.val = 0 := by omega
    rw [outsAt0_A m c t h0]
    dsimp only
    rw [out_A]
    exact out_block t hF b i ht _ (by rw [hi]; exact good_zero m c b) n tok h d
  · rw [outsAt0_B m c t h0]
    dsimp only
    rw [out_B]
    have hp := good_point m c hF (t.val - 1) (Nat.lt_of_le_of_lt (Nat.sub_le _ _) t.isLt) b ⟨i.val - 1, by omega⟩ (by show t.val - 1 = 4 * b.val + (i.val - 1); omega)
    refine out_block t hF b i ht _ ?_ n tok h d
    rw [show 16 * i.val = 16 * ((i.val - 1) + 1) by omega]
    exact hp
end Cert.Gla
end
-- ==== Proof.Gla.RefRun.lean ====
module
public import proofs.«01_k».proof.Proof.Gen.ReferenceIdeal.Run
public import proofs.«01_k».proof.Proof.Gen.ReferenceIdeal.Step
@[expose] public section
set_option maxRecDepth 16384
noncomputable section
/-! The linear attention's reference: its loop's contents, trip by trip, are the standalone trips of `Step`. -/
namespace Cert.Gla.Ref
open Idealize.ShloMosaic Idealize.ShloMosaic.TcCoe Idealize.SL.Sem Cert.ReferenceIdeal Cert.ReferenceIdeal.Gen Cert.ReferenceIdeal.Step Cert.ReferenceIdeal.Value Idealize.ShloMosaic.StableHlo

variable {F : FTy → Type} [FloatOps F]

/-- The loop's buffers before trip `j` hold the state `s`, the causal mask and the trip's number. -/
structure Holds (j : ℕ) (V : Valuation τ sig (Elt F)) (s : State F) : Prop where
  v0 : V (Proc.devRef .tc main_v40_0) = s.main_v40_0
  v1 : V (Proc.devRef .tc main_v40_1) = s.main_v40_1
  v2 : V (Proc.devRef .tc main_v40_2) = s.main_v40_2
  v3 : V (Proc.devRef .tc main_v40_3) = s.main_v40_3
  v4 : V (Proc.devRef .tc main_v40_4) = K_main_v27 (F := F)
  v5 : V (Proc.devRef .tc main_v40_5) = (constantI S_ 32 (BitVec.ofNat 32 j) : (⟨S_, .i32⟩ : BufTy).Contents (Elt F))
  v6 : V (Proc.devRef .tc main_v40_6) = s.main_v40_6
  v7 : V (Proc.devRef .tc main_v40_7) = s.main_v40_7

/-- The counter as a word. -/
theorem ofNat_succ (j : ℕ) : BitVec.ofNat 32 j + 1#32 = BitVec.ofNat 32 (j + 1) := by
  rw [BitVec.ofNat_add_ofNat]

/-- One trip. -/
theorem Holds.step {j : ℕ} {V : Valuation τ sig (Elt F)} {s : State F} (h : Holds j V s) : Holds (j + 1) (STEP V) (Step.step j s) where
  v0 := (STEP_main_v40_0 V).trans h.v0
  v1 := (STEP_main_v40_1 V).trans h.v1
  v2 := (STEP_main_v40_2 V).trans h.v2
  v3 := (STEP_main_v40_3 V).trans h.v3
  v4 := (STEP_main_v40_4 V).trans h.v4
  v5 := by
    rw [STEP_main_v40_5]; unfold step_main_v40_5; rw [h.v5]
    funext i; exact ofNat_succ j
  v6 := by
    rw [STEP_main_v40_6]
    simp only [Value.step_main_v40_6, res_main_while0b_v60, res_main_while0b_v61, res_main_while0b_v62, res_main_while0b_v64, res_main_while0b_v65,
      res_main_while0b_v66, h.v0, h.v1, h.v2, h.v3, h.v5, h.v6]
    rfl
  v7 := by
    rw [STEP_main_v40_7]
    simp only [Value.step_main_v40_7, res_main_while0b_v60, res_main_while0b_v61, res_main_while0b_v62, res_main_while0b_v64, res_main_while0b_v65,
      res_main_while0b_v66, h.v0, h.v1, h.v2, h.v3, h.v4, h.v5, h.v6, h.v7]
    rfl

/-- The states of the reference's loop. -/
def iter (s : State F) : ℕ → State F
  | 0 => s
  | j + 1 => Step.step j (iter s j)

/-- The buffers hold the state after any number of trips. -/
theorem holds_iter {V : Valuation τ sig (Elt F)} {s : State F} (h : Holds 0 V s) : ∀ j, Holds j (STEP^[j] V) (iter s j)
  | 0 => h
  | j + 1 => by rw [Function.iterate_succ_apply']; exact (holds_iter h j).step

variable (m : (ℓ : Loc nD τ sig) → Buf (Elt F) ℓ) (ρ : Dev nD → PrngReg)

/-- What the loop starts from. -/
theorem holds_entry (c : Dev nD) : Holds 0 (entryContents preI m c)
    (Step.init (m ((c.tc : Thread nD τ).loc main_arg0)) (m ((c.tc : Thread nD τ).loc main_arg1)) (m ((c.tc : Thread nD τ).loc main_arg3))
      (m ((c.tc : Thread nD τ).loc main_arg4)) (m ((c.tc : Thread nD τ).loc main_arg5))) := by
  constructor <;> simp only [entryContents, afterL_cons, afterL_nil] <;> after_reads_simp <;> rfl

/-- The reference's result. -/
def result (c : Dev nD) : (⟨S32768x256, .bf16⟩ : BufTy).Contents (Elt F) :=
  R_main_v59 (iter (Step.init (m ((c.tc : Thread nD τ).loc main_arg0)) (m ((c.tc : Thread nD τ).loc main_arg1)) (m ((c.tc : Thread nD τ).loc main_arg3))
      (m ((c.tc : Thread nD τ).loc main_arg4)) (m ((c.tc : Thread nD τ).loc main_arg5))) 64) (m ((c.tc : Thread nD τ).loc main_arg2))

/-- What the reference's result buffer holds at the end. -/
theorem out_eq (c : Dev nD) : out_main_v59 (STEP^[64] (entryContents preI m c)) = result m c := by
  unfold out_main_v59 result R_main_v59
  rw [(holds_iter (holds_entry m c) 64).v7, iter_main_arg2 m c 64]
  rfl

end Cert.Gla.Ref
end
-- ==== Proof.Gla.RefPoint.lean ====
module
public import proofs.«01_k».proof.Proof.Gla.RefRun
public import proofs.«01_k».proof.Proof.Gla.Spec
public import Idealize.ShloMosaic.Lib.Pipeline.ValueKit
@[expose] public section
set_option maxRecDepth 16384
noncomputable section
/-! The reference's chunk quantities, element by element. -/
namespace Cert.Gla.Ref
open Idealize.ShloMosaic Idealize.ShloMosaic.TcCoe Cert.ReferenceIdeal Cert.ReferenceIdeal.Gen Cert.ReferenceIdeal.Step

variable (j : Fin 64) (s : State Ideal)

/-- The chunk a trip's slice starts at. -/
theorem start_eq (j : Fin 64) : (min (max (BitVec.ofNat 32 j.val).toInt 0) ((64 - 1 : Nat) : Int)).toNat = j.val := by
  revert j; decide

/-- The place a chunk's slice reads in an array of 64 chunks, whose last axis has `w` columns. -/
theorem slice_idx (w : ℕ) (f : Fin 5 → ℤ) (hf : f = ![(BitVec.ofNat 32 j.val).toInt, 0, 0, 0, 0]) (b : Fin 8) (h : Fin 4) (t : Fin 64) (d : Fin w) (a : Fin 5) :
    (min (max (f a) 0) (((![64, 8, 4, 64, w] : Fin 5 → ℕ) a - (![1, 8, 4, 64, w] : Fin 5 → ℕ) a : ℕ) : ℤ)).toNat
      + (ix5 (0 : Fin 1) b h t d a).val = (ix5 j b h t d a).val := by
  subst hf
  match a with
  | ⟨0, _⟩ => show (min (max (BitVec.ofNat 32 j.val).toInt 0) ((64 - 1 : Nat) : Int)).toNat + 0 = j.val; rw [start_eq]; rfl
  | ⟨1, _⟩ => exact Nat.zero_add _
  | ⟨2, _⟩ => exact Nat.zero_add _
  | ⟨3, _⟩ => exact Nat.zero_add _
  | ⟨4, _⟩ => show (min (max (0 : ℤ) 0) ((w - w : Nat) : Int)).toNat + d.val = d.val; simp

/-- Five starts of which the first is the trip's number. -/
theorem starts_eq (n : ℕ) (g : (⟨S_, .i32⟩ : BufTy).Contents (Elt Ideal)) (hg : g = constantI S_ 32 (BitVec.ofNat 32 n)) (a b c d : (⟨S_, .i32⟩ : BufTy).Contents (Elt Ideal)) (ha : a = constantI S_ 32 0#32)
    (hb : b = constantI S_ 32 0#32) (hc : c = constantI S_ 32 0#32) (hd : d = constantI S_ 32 0#32) :
    (fun k : Fin 5 => ((![g, a, b, c, d] : Fin 5 → (⟨S_, .i32⟩ : BufTy).Contents (Elt Ideal)) k (Shape.Idx.first h_S_)).toInt)
      = ![(BitVec.ofNat 32 n).toInt, 0, 0, 0, 0] := by
  subst hg ha hb hc hd
  funext k
  match k with
  | ⟨0, _⟩ => rfl
  | ⟨1, _⟩ => rfl
  | ⟨2, _⟩ => rfl
  | ⟨3, _⟩ => rfl
  | ⟨4, _⟩ => rfl

/-- The trip's queries. -/
theorem b5_apply (b : Fin 8) (h : Fin 4) (t : Fin 64) (d : Fin 32) : b5 j.val s (ix4 b h t d) = s.main_v40_0 (ix5 j b h t d) := by
  pointwise [b5]
  exact congrArg s.main_v40_0 (funext fun a => Fin.ext (slice_idx j _ _ (starts_eq j.val _ rfl _ _ _ _ rfl rfl rfl rfl) b h t d a))
/-- The trip's keys. -/
theorem b11_apply (b : Fin 8) (h : Fin 4) (t : Fin 64) (d : Fin 32) : b11 j.val s (ix4 b h t d) = s.main_v40_1 (ix5 j b h t d) := by
  pointwise [b11]
  exact congrArg s.main_v40_1 (funext fun a => Fin.ext (slice_idx j _ _ (starts_eq j.val _ rfl _ _ _ _ rfl rfl rfl rfl) b h t d a))
/-- The trip's values. -/
theorem b17_apply (b : Fin 8) (h : Fin 4) (t : Fin 64) (d : Fin 64) : b17 j.val s (ix4 b h t d) = s.main_v40_2 (ix5 j b h t d) := by
  pointwise [b17]
  exact congrArg s.main_v40_2 (funext fun a => Fin.ext (slice_idx j _ _ (starts_eq j.val _ rfl _ _ _ _ rfl rfl rfl rfl) b h t d a))
/-- The trip's log decays. -/
theorem b23_apply (b : Fin 8) (h : Fin 4) (t : Fin 64) (d : Fin 32) : b23 j.val s (ix4 b h t d) = s.main_v40_3 (ix5 j b h t d) := by
  pointwise [b23]
  exact congrArg s.main_v40_3 (funext fun a => Fin.ext (slice_idx j _ _ (starts_eq j.val _ rfl _ _ _ _ rfl rfl rfl rfl) b h t d a))

/-- A left fold of additions over all the numbers below `n` is a sum. -/
theorem foldl_add {n : ℕ} (g : Fin n → EReal) (v : EReal) : (List.finRange n).foldl (fun r k => r + g k) v = v + ∑ k, g k := by
  have e : ∀ (l : List (Fin n)) (v : EReal), l.foldl (fun r k => r + g k) v = v + (l.map g).sum := by
    intro l
    induction l with
    | nil => intro v; simp
    | cons a l ih => intro v; simp only [List.foldl_cons, List.map_cons, List.sum_cons]; rw [ih, add_assoc]
  rw [e, Fin.sum_univ_def]

/-- A window over the third axis only. -/
abbrev Win : Shape := ⟨4, ![1, 1, 64, 1]⟩
/-- Its positions are the numbers below 64. -/
def winEquiv : Win.Idx ≃ Fin 64 where
  toFun i := i (2 : Fin 4)
  invFun w := (ix4 (0 : Fin 1) (0 : Fin 1) w (0 : Fin 1))
  left_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv w := rfl

/-- What one position of the window adds. -/
def winG (x : S8x4x64x32.Idx → EReal) (i : S8x4x64x32.Idx) (w : Win.Idx) : EReal :=
  if hin : ∀ a : Fin 4, (![0, 0, 63, 0] : Fin 4 → Nat) a ≤ (i a).val * (![1, 1, 1, 1] : Fin 4 → Nat) a + (w a).val
      ∧ (i a).val * (![1, 1, 1, 1] : Fin 4 → Nat) a + (w a).val - (![0, 0, 63, 0] : Fin 4 → Nat) a < S8x4x64x32.size a then
    x (fun a => ⟨(i a).val * (![1, 1, 1, 1] : Fin 4 → Nat) a + (w a).val - (![0, 0, 63, 0] : Fin 4 → Nat) a, (hin a).2⟩) else 0

/-- The window sum's windows. -/
theorem winG_apply (x : S8x4x64x32.Idx → EReal) (b : Fin 8) (h : Fin 4) (t : Fin 64) (d : Fin 32) (w : Fin 64) :
    winG x (ix4 b h t d) (winEquiv.symm w) = if h63 : 63 ≤ t.val + w.val then x (ix4 b h ⟨t.val + w.val - 63, by omega⟩ d) else 0 := by
  unfold winG
  by_cases h63 : 63 ≤ t.val + w.val
  · rw [dif_pos h63, dif_pos]
    · congr 1
      funext a
      apply Fin.ext
      match a with
      | ⟨0, _⟩ => show b.val * 1 + 0 - 0 = b.val; omega
      | ⟨1, _⟩ => show h.val * 1 + 0 - 0 = h.val; omega
      | ⟨2, _⟩ => show t.val * 1 + w.val - 63 = t.val + w.val - 63; omega
      | ⟨3, _⟩ => show d.val * 1 + 0 - 0 = d.val; omega
    · intro a
      match a with
      | ⟨0, _⟩ => show 0 ≤ b.val * 1 + 0 ∧ b.val * 1 + 0 - 0 < 8; omega
      | ⟨1, _⟩ => show 0 ≤ h.val * 1 + 0 ∧ h.val * 1 + 0 - 0 < 4; omega
      | ⟨2, _⟩ => show 63 ≤ t.val * 1 + w.val ∧ t.val * 1 + w.val - 63 < 64; omega
      | ⟨3, _⟩ => show 0 ≤ d.val * 1 + 0 ∧ d.val * 1 + 0 - 0 < 32; omega
  · rw [dif_neg h63, dif_neg]
    intro hh
    have := (hh 2).1
    change 63 ≤ t.val * 1 + w.val at this
    omega

/-- The window sum as a fold over the window's positions. -/
theorem window_eq (x : S8x4x64x32.Idx → EReal) (hw : S8x4x64x32.ReduceWindows ![1, 1, 64, 1] ![1, 1, 1, 1] ![0, 0, 63, 0] ![0, 0, 0, 0] S8x4x64x32)
    (i : S8x4x64x32.Idx) : Ideal.hostReduceWindowAdd ![1, 1, 64, 1] ![1, 1, 1, 1] ![0, 0, 63, 0] ![0, 0, 0, 0] hw x 0 i
      = (List.finRange Win.numel).foldl (fun r n => r + winG x i (Win.rowMajor.symm n)) 0 := by
  unfold Ideal.hostReduceWindowAdd Host.reduceWindow
  refine congrArg (fun g => List.foldl g (0 : EReal) (List.finRange Win.numel)) (funext fun r => funext fun n => ?_)
  refine congrArg (fun y => r + y) ?_
  unfold winG
  by_cases hin : ∀ a : Fin 4, (![0, 0, 63, 0] : Fin 4 → Nat) a ≤ (i a).val * (![1, 1, 1, 1] : Fin 4 → Nat) a + (Win.rowMajor.symm n a).val
      ∧ (i a).val * (![1, 1, 1, 1] : Fin 4 → Nat) a + (Win.rowMajor.symm n a).val - (![0, 0, 63, 0] : Fin 4 → Nat) a < S8x4x64x32.size a
  · rw [dif_pos hin]; exact dif_pos hin
  · rw [dif_neg hin]; exact dif_neg hin

/-- The reference's running sum. -/
theorem cum_apply (b : Fin 8) (h : Fin 4) (t : Fin 64) (d : Fin 32) :
    b26 j.val s (ix4 b h t d) = cumE (fun t d => s.main_v40_3 (ix5 j b h t d)) t d := by
  have e25 : b25 j.val s (Shape.Idx.first h_S_) = 0 := by
    have e24 : ∀ i, b24 j.val s i = 0 := fun i => by pointwise [b24]
    unfold b25 broadcastInDim
    exact e24 _
  have e : b26 j.val s (ix4 b h t d) = (List.finRange Win.numel).foldl (fun r n => r + winG (b23 j.val s) (ix4 b h t d) (Win.rowMajor.symm n)) 0 := by
    unfold b26 Host.reduceWindowAdd
    rw [Ideal.hostReduceWindowAdd_def, e25]
    exact window_eq _ _ _
  rw [e, foldl_add, zero_add]
  have e1 : ∑ k : Fin Win.numel, winG (b23 j.val s) (ix4 b h t d) (Win.rowMajor.symm k) = ∑ i : Win.Idx, winG (b23 j.val s) (ix4 b h t d) i :=
    Equiv.sum_comp Win.rowMajor.symm _
  have e2 : ∑ w : Fin 64, winG (b23 j.val s) (ix4 b h t d) (winEquiv.symm w) = ∑ i : Win.Idx, winG (b23 j.val s) (ix4 b h t d) i :=
    Equiv.sum_comp winEquiv.symm _
  rw [e1, ← e2]
  unfold cumE
  refine Fintype.sum_equiv (Equiv.addRight (t + 1)) _ _ fun w => ?_
  rw [winG_apply]
  have ev : ((Equiv.addRight (t + 1)) w).val = (w.val + (t.val + 1) % 64) % 64 := by
    simp [Fin.val_add, Nat.add_assoc]
  by_cases h63 : 63 ≤ t.val + w.val
  · rw [dif_pos h63, if_pos (Fin.le_def.mpr (by rw [ev]; omega)), b23_apply]
    congr 2
    apply Fin.ext
    rw [ev]
    show t.val + w.val - 63 = _
    omega
  · rw [dif_neg h63, if_neg (fun hle => by have := Fin.le_def.mp hle; rw [ev] at this; omega)]

/-- The mask of past tokens. -/
theorem causal_apply (t r : Fin 64) : K_main_v27 (F := Ideal) (ix2 t r) = if r ≤ t then 1#1 else 0#1 := by
  revert t r
  have : ∀ t r : Fin 64, Scalar.select (IntOp.cmpi .sge (IntOp.addi (BitVec.ofNat 32 t.val) 0#32) (BitVec.ofNat 32 r.val)) 1#1 0#1 = if r ≤ t then 1#1 else 0#1 := by
    decide +kernel
  exact this

/-- Head `h` of sequence `b` in chunk `j`. -/
def q5 (x : (⟨S64x8x4x64x32, .f32⟩ : BufTy).Contents (Elt Ideal)) (j : Fin 64) (b : Fin 8) (h : Fin 4) (t : Fin 64) (d : Fin 32) : EReal := x (ix5 j b h t d)
/-- The values of one chunk and head. -/
def v5 (x : (⟨S64x8x4x64x64, .f32⟩ : BufTy).Contents (Elt Ideal)) (j : Fin 64) (b : Fin 8) (h : Fin 4) (t : Fin 64) (d : Fin 64) : EReal := x (ix5 j b h t d)
/-- The state of one head. -/
def s4 (x : (⟨S8x4x32x64, .f32⟩ : BufTy).Contents (Elt Ideal)) (b : Fin 8) (h : Fin 4) (d : Fin 32) (c : Fin 64) : EReal := x (ix4 b h d c)

/-- The trip's causal products. -/
theorem att_apply (b : Fin 8) (h : Fin 4) (t r : Fin 64) :
    b41 j.val s (ix4 b h t r) = if r ≤ t then attE (q5 s.main_v40_3 j b h) (q5 s.main_v40_0 j b h) (q5 s.main_v40_1 j b h) t r else 0 := by
  pointwise [b41, b40, b39, b37, b36, b35, b34, b33, b32, b31, b30, b29, b28]
  simp only [cum_apply, b5_apply, b11_apply]
  have e38 : b38 j.val s ix0 = 0 := by
    pointwise [b38]
  rw [e38, causal_apply]
  split <;> rfl
/-- The trip's output. -/
theorem o_apply (b : Fin 8) (h : Fin 4) (t c : Fin 64)  :
    b57 j.val s (ix4 b h t c) = oE (q5 s.main_v40_3 j b h) (q5 s.main_v40_0 j b h) (q5 s.main_v40_1 j b h) (v5 s.main_v40_2 j b h) (s4 s.main_v40_6 b h) t c := by
  pointwise [b57, b42, b45, b44, b43]
  simp only [cum_apply, b5_apply, b17_apply, att_apply]
  rfl
/-- The trip's next state. -/
theorem next_apply (b : Fin 8) (h : Fin 4) (d : Fin 32) (c : Fin 64)  :
    b56 j.val s (ix4 b h d c) = nextE (q5 s.main_v40_3 j b h) (q5 s.main_v40_1 j b h) (v5 s.main_v40_2 j b h) (s4 s.main_v40_6 b h) d c := by
  pointwise [b56, b55, b54, b53, b52, b51, b50, b49, b48, b47, b46, b27]
  simp only [cum_apply, b11_apply, b17_apply]
  rfl
end Cert.Gla.Ref
end
-- ==== Proof.Gla.RefEnd.lean ====
module
public import proofs.«01_k».proof.Proof.Gla.RefPoint
public import proofs.«01_k».proof.Proof.Gla.Whole
@[expose] public section
set_option maxRecDepth 16384
noncomputable section
/-! The reference's result, element by element: its chunk layout before the loop, its loop, and its norm and gate after it. -/
namespace Cert.Gla.Ref
open Idealize.ShloMosaic Idealize.ShloMosaic.TcCoe Cert.ReferenceIdeal Cert.ReferenceIdeal.Gen Cert.ReferenceIdeal.Step
variable (qk v g : S32768x256.Idx → EReal) (nar : S32768x128.Idx → EReal) (w2 : S16x128.Idx → EReal) (bias : S128.Idx → EReal)

/-- Two places of a matrix with equal coordinates hold the same. -/
theorem at2 {n k : ℕ} (f : (⟨2, ![n, k]⟩ : Shape).Idx → EReal) {a a' : Fin n} {b b' : Fin k} (ha : a.val = a'.val) (hb : b.val = b'.val) : f (ix2 a b) = f (ix2 a' b') := by
  rw [Fin.ext ha, Fin.ext hb]

/-- The queries the loop reads. -/
theorem q_init (j : Fin 64) (b : Fin 8) (h : Fin 4) (t : Fin 64) (d : Fin 32) :
    A_main_v32 (F := Ideal) qk v nar w2 bias (ix5 j b h t d) = qW qk b h j t d := by
  pointwise [A_main_v32, A_main_v30, A_main_v29, K_main_v31, A_main_v2, A_main_v1, A_main_v0, K_main_cst_2]
  exact congrArg (fun z => z * Ideal.ofBits .f32 1043662067#32) (at2 qk (by show _ = 4096 * b.val + 64 * j.val + t.val; simp; omega) (by simp; omega))
/-- The keys the loop reads. -/
theorem k_init (j : Fin 64) (b : Fin 8) (h : Fin 4) (t : Fin 64) (d : Fin 32) :
    A_main_v34 (F := Ideal) qk v nar w2 bias (ix5 j b h t d) = kW qk b h j t d := by
  pointwise [A_main_v34, A_main_v33, A_main_v5, A_main_v4, A_main_v3, A_main_v2, A_main_v1, A_main_v0]
  exact at2 qk (by show _ = 4096 * b.val + 64 * j.val + t.val; simp; omega) (by simp; omega)
/-- The values the loop reads. -/
theorem v_init (j : Fin 64) (b : Fin 8) (h : Fin 4) (t : Fin 64) (d : Fin 64) :
    A_main_v36 (F := Ideal) qk v nar w2 bias (ix5 j b h t d) = vW v b h j t d := by
  pointwise [A_main_v36, A_main_v35, A_main_v7, A_main_v6]
  exact at2 v (by show _ = 4096 * b.val + 64 * j.val + t.val; simp; omega) (by show _ = 64 * h.val + d.val; simp; omega)
/-- The log decays the loop reads. -/
theorem la_init (j : Fin 64) (b : Fin 8) (h : Fin 4) (t : Fin 64) (d : Fin 32) :
    A_main_v38 (F := Ideal) qk v nar w2 bias (ix5 j b h t d) = laW nar w2 bias b h j t d := by
  have e : A_main_v14 (F := Ideal) qk v nar w2 bias (ix3 b ⟨j.val * 64 + t.val, by omega⟩ ⟨h.val * 32 + d.val, by omega⟩) = preW nar w2 bias b h j t d := by
    pointwise [A_main_v14, A_main_v13, A_main_v12, A_main_v11, A_main_v10, A_main_v9, A_main_v8]
    refine congrArg₂ (· + ·) (Finset.sum_congr rfl fun x _ => congrArg₂ (· * ·) (at2 nar ?_ rfl) (at2 w2 rfl ?_)) (congrArg (fun z => bias (ix1 z)) (Fin.ext ?_))
    · show b.val * 4096 + (j.val * 64 + t.val) = 4096 * b.val + 64 * j.val + t.val; omega
    · show h.val * 32 + d.val = 32 * h.val + d.val; omega
    · show h.val * 32 + d.val = 32 * h.val + d.val; omega
  pointwise [A_main_v38, A_main_v37, A_main_v25, A_main_v23, A_main_v22, A_main_v21, A_main_v20, A_main_v19, A_main_v18, A_main_v17, A_main_v15, K_main_v16, K_main_v24, K_main_cst, K_main_cst_0]
  rw [e]
  rfl

variable (s : State Ideal)
/-- The norm and gate after the loop, at a row and column whose chunk, sequence, head, token and entry are named. -/
theorem res_raw (r : Fin 32768) (w : Fin 256) (j t c : Fin 64) (b : Fin 8) (h : Fin 4) (e1 : j.val = r.val % 4096 / 64) (e2 : b.val = r.val / 4096)
    (e3 : t.val = r.val % 4096 % 64) (e4 : h.val = w.val / 64) (e5 : c.val = w.val % 64) :
    R_main_v59 s g (ix2 r w) = outE (fun x => s.main_v40_7 (ix5 j b h t x)) (g (ix2 r w)) c := by
  have f1 : j = ⟨r.val % 4096 / 64, by omega⟩ := Fin.ext e1
  have f2 : b = ⟨r.val / 4096, by omega⟩ := Fin.ext e2
  have f3 : t = ⟨r.val % 4096 % 64, by omega⟩ := Fin.ext e3
  have f4 : h = ⟨w.val / 64, by omega⟩ := Fin.ext e4
  have f5 : c = ⟨w.val % 64, by omega⟩ := Fin.ext e5
  rw [f1, f2, f3, f4, f5]
  pointwise [R_main_v59, outE]

/-- The same by sequence, chunk, token, head and entry. -/
theorem res_apply (b : Fin 8) (h : Fin 4) (j t c : Fin 64) :
    R_main_v59 s g (ix2 (row b j t) (vcol h c)) = outE (fun x => s.main_v40_7 (ix5 j b h t x)) (g (ix2 (row b j t) (vcol h c))) c := by
  have e : (row b j t).val = 4096 * b.val + 64 * j.val + t.val := rfl
  have e' : (vcol h c).val = 64 * h.val + c.val := rfl
  exact res_raw g s _ _ j t c b h (by omega) (by omega) (by omega) (by omega) (by omega)

/-- Where a trip writes its outputs. -/
theorem clamp_eq (j : Fin 64) (hh) (a : Fin 5) : Host.clampedStart S64x8x4x64x64 S1x8x4x64x64 hh ![(BitVec.ofNat 32 j.val).toInt, 0, 0, 0, 0] a = (![j.val, 0, 0, 0, 0] : Fin 5 → ℕ) a := by
  match a with
  | ⟨0, _⟩ => exact start_eq j
  | ⟨1, _⟩ => rfl
  | ⟨2, _⟩ => rfl
  | ⟨3, _⟩ => rfl
  | ⟨4, _⟩ => rfl
/-- A trip writes its own chunk's outputs and no other. -/
theorem arr_step (j j' : Fin 64) (b : Fin 8) (h : Fin 4) (t c : Fin 64) :
    b63 j.val s (ix5 j' b h t c) = if j' = j then b57 j.val s (ix4 b h t c) else s.main_v40_7 (ix5 j' b h t c) := by
  refine (congrFun (congrArg (fun st => Host.dynamicUpdateSlice s.main_v40_7 (b58 j.val s) st updateFits_S64x8x4x64x64_S1x8x4x64x64)
    (starts_eq j.val _ rfl (b59 j.val s) (b60 j.val s) (b61 j.val s) (b62 j.val s) rfl rfl rfl rfl)) _).trans ?_
  pointwise [b58]
  have c0 := clamp_eq j rfl 0
  have c1 := clamp_eq j rfl 1
  have c2 := clamp_eq j rfl 2
  have c3 := clamp_eq j rfl 3
  have c4 := clamp_eq j rfl 4
  simp only [c0, c1, c2, c3, c4]
  by_cases e : j' = j
  · subst e
    rw [if_pos rfl, dif_pos (by simp)]
    rfl
  · rw [if_neg e, dif_neg]
    rintro ⟨⟨h1, h2⟩, -⟩
    simp at h1 h2
    exact e (Fin.ext (by omega))
end Cert.Gla.Ref
end
-- ==== Proof.Gla.RefFinal.lean ====
module
public import proofs.«01_k».proof.Proof.Gla.RefEnd
@[expose] public section
set_option maxRecDepth 16384
noncomputable section
/-! The reference's loop from its first chunk to its last. -/
namespace Cert.Gla.Ref
open Idealize.ShloMosaic Idealize.ShloMosaic.TcCoe Cert.ReferenceIdeal Cert.ReferenceIdeal.Gen Cert.ReferenceIdeal.Step
variable (qk v g : S32768x256.Idx → EReal) (nar : S32768x128.Idx → EReal) (w2 : S16x128.Idx → EReal) (bias : S128.Idx → EReal)

/-- No trip changes the queries, keys, values or log decays. -/
theorem iter_const (s : State Ideal) : ∀ j, (iter s j).main_v40_0 = s.main_v40_0 ∧ (iter s j).main_v40_1 = s.main_v40_1
    ∧ (iter s j).main_v40_2 = s.main_v40_2 ∧ (iter s j).main_v40_3 = s.main_v40_3
  | 0 => ⟨rfl, rfl, rfl, rfl⟩
  | j + 1 => iter_const s j

/-- Before trip `j` the state is the specification's, and so are the outputs of the chunks before. -/
theorem iter_inv : ∀ j : ℕ, j ≤ 64 →
    (∀ b h d c, (iter (Step.init (F := Ideal) qk v nar w2 bias) j).main_v40_6 (ix4 b h d c) = stW qk v nar w2 bias b h j d c)
    ∧ ∀ (j' : Fin 64) (b h t c), j'.val < j → (iter (Step.init (F := Ideal) qk v nar w2 bias) j).main_v40_7 (ix5 j' b h t c) = oW qk v nar w2 bias b h j' t c
  | 0, _ => by
    refine ⟨fun b h d c => ?_, fun j' _ _ _ _ hj => absurd hj (Nat.not_lt_zero _)⟩
    show K_main_v28 (F := Ideal) (ix4 b h d c) = 0
    pointwise [K_main_v28, K_main_cst_1]
  | j + 1, hj => by
    obtain ⟨hS, hO⟩ := iter_inv j (by omega)
    obtain ⟨k0, k1, k2, k3⟩ := iter_const (Step.init (F := Ideal) qk v nar w2 bias) j
    have eq : ∀ b h, q5 (iter (Step.init (F := Ideal) qk v nar w2 bias) j).main_v40_0 ⟨j, hj⟩ b h = qW qk b h ⟨j, hj⟩ := fun b h => by
      rw [k0]; funext t d; exact q_init qk v nar w2 bias _ b h t d
    have ek : ∀ b h, q5 (iter (Step.init (F := Ideal) qk v nar w2 bias) j).main_v40_1 ⟨j, hj⟩ b h = kW qk b h ⟨j, hj⟩ := fun b h => by
      rw [k1]; funext t d; exact k_init qk v nar w2 bias _ b h t d
    have ev : ∀ b h, v5 (iter (Step.init (F := Ideal) qk v nar w2 bias) j).main_v40_2 ⟨j, hj⟩ b h = vW v b h ⟨j, hj⟩ := fun b h => by
      rw [k2]; funext t d; exact v_init qk v nar w2 bias _ b h t d
    have el : ∀ b h, q5 (iter (Step.init (F := Ideal) qk v nar w2 bias) j).main_v40_3 ⟨j, hj⟩ b h = laW nar w2 bias b h ⟨j, hj⟩ := fun b h => by
      rw [k3]; funext t d; exact la_init qk v nar w2 bias _ b h t d
    have es : ∀ b h, s4 (iter (Step.init (F := Ideal) qk v nar w2 bias) j).main_v40_6 b h = stW qk v nar w2 bias b h j := fun b h => by
      funext d c; exact hS b h d c
    refine ⟨fun b h d c => ?_, fun j' b h t c hj' => ?_⟩
    · refine (next_apply ⟨j, hj⟩ (iter (Step.init (F := Ideal) qk v nar w2 bias) j) b h d c).trans ?_
      rw [el, ek, ev, es, stW_succ qk v nar w2 bias b h ⟨j, hj⟩]
    · refine (arr_step (iter (Step.init (F := Ideal) qk v nar w2 bias) j) ⟨j, hj⟩ j' b h t c).trans ?_
      by_cases e : j' = ⟨j, hj⟩
      · rw [if_pos e, o_apply ⟨j, hj⟩, el, eq, ek, ev, es, e]; rfl
      · rw [if_neg e]
        exact hO j' b h t c (by have : j'.val ≠ j := fun q => e (Fin.ext q); omega)

/-- The reference's result, element by element. -/
theorem result_apply (b : Fin 8) (h : Fin 4) (j t c : Fin 64) :
    R_main_v59 (iter (Step.init (F := Ideal) qk v nar w2 bias) 64) g (ix2 (row b j t) (vcol h c)) = resW qk v g nar w2 bias b h j t c := by
  rw [res_apply]
  unfold resW
  exact congrArg (fun o => outE o _ c) (funext fun x => (iter_inv qk v nar w2 bias 64 le_rfl).2 j b h t x j.isLt)
end Cert.Gla.Ref
end
-- ==== Proof.Gla.Final.lean ====
module
public import proofs.«01_k».proof.Proof.Gla.KerEnd
public import proofs.«01_k».proof.Proof.Gla.RefFinal
public import proofs.«01_k».proof.Proof.Gen.KernelIdeal.Value
@[expose] public section
set_option maxRecDepth 16384
noncomputable section
/-! The linear attention's array is the reference's. -/
namespace Cert.Gla
open Idealize.ShloMosaic Idealize.ShloMosaic.TcCoe Idealize.SL.Sem Cert.KernelIdeal Cert.KernelIdeal.Gen
variable (m : (ℓ : Loc nD τ sig) → Buf (Elt Ideal) ℓ) (c : Dev nD)

/-- A grid point's block at row `r` and column `w` is the reference's result there. -/
theorem point_ref (hF : Finite m c) (t : Fin cfg0.N) (r : Fin 1024) (w : Fin 256) :
    (outsAt0 m c t.val t.isLt).1 (ix2 r w)
      = Cert.ReferenceIdeal.Step.R_main_v59 (Ref.iter (Cert.ReferenceIdeal.Step.init (F := Ideal) (a0 m c) (a1 m c) (a3 m c) (a4 m c) (a5 m c)) 64) (a2 m c) (ix2 (rowOf t r) w) := by
  have hN : t.val < 32 := t.isLt
  have ht : t.val = 4 * (⟨t.val / 4, by omega⟩ : Fin 8).val + (⟨t.val % 4, by omega⟩ : Fin 4).val := by show t.val = 4 * (t.val / 4) + t.val % 4; omega
  have er : r = ⟨64 * (⟨r.val / 64, by omega⟩ : Fin 16).val + (⟨r.val % 64, by omega⟩ : Fin 64).val, by show 64 * (r.val / 64) + r.val % 64 < 1024; omega⟩ :=
    Fin.ext (by show r.val = 64 * (r.val / 64) + r.val % 64; omega)
  have ew : w = ⟨64 * (⟨w.val / 64, by omega⟩ : Fin 4).val + (⟨w.val % 64, by omega⟩ : Fin 64).val, by show 64 * (w.val / 64) + w.val % 64 < 256; omega⟩ :=
    Fin.ext (by show w.val = 64 * (w.val / 64) + w.val % 64; omega)
  have e1 := out_point m c t hF _ _ ht ⟨r.val / 64, by omega⟩ ⟨r.val % 64, by omega⟩ ⟨w.val / 64, by omega⟩ ⟨w.val % 64, by omega⟩
  have e2 := Ref.result_apply (a0 m c) (a1 m c) (a2 m c) (a3 m c) (a4 m c) (a5 m c) ⟨t.val / 4, by omega⟩ ⟨w.val / 64, by omega⟩
    (ch ⟨t.val % 4, by omega⟩ ⟨r.val / 64, by omega⟩) ⟨r.val % 64, by omega⟩ ⟨w.val % 64, by omega⟩
  rw [← row_eq t _ _ ht] at e2
  rw [er, ew]
  exact e1.trans e2.symm

/-- The kernel's array is the reference's over the same arguments. -/
theorem final (hF : Finite m c) : (dats m 0 c).arrAt 6 cfg0.N
    = (Cert.ReferenceIdeal.Step.R_main_v59 (Ref.iter (Cert.ReferenceIdeal.Step.init (F := Ideal) (a0 m c) (a1 m c) (a3 m c) (a4 m c) (a5 m c)) 64) (a2 m c) : FVec Ideal S32768x256 .f32) := by
  refine (dats m 0 c).arrAt_eq_of_covers 6 _ (by decide +kernel) fun t _ y => ?_
  blk_simp
  rw [after0_6]
  obtain ⟨r, j, rfl⟩ : ∃ (r : Fin 1024) (j : Fin 256), y = ix2 r j := ⟨y 0, y 1, eq_ix2 y⟩
  refine (point_ref m c hF t r j).trans ?_
  have h : (rowOf t r).val = t.val * 1024 + r.val := rfl
  generalize Cert.ReferenceIdeal.Step.R_main_v59 (F := Ideal) _ _ = z
  blk_ext [idx t]

/-- The reference's result over arguments given by name. -/
theorem result_of (m' : (ℓ : Loc Cert.ReferenceIdeal.nD Cert.ReferenceIdeal.τ Cert.ReferenceIdeal.sig) → Buf (Elt Ideal) ℓ) (c : Dev Cert.ReferenceIdeal.nD)
    (x0 x1 x2 : FVec Ideal S32768x256 .bf16) (x3 : FVec Ideal S32768x128 .bf16) (x4 : FVec Ideal S16x128 .f32) (x5 : FVec Ideal S128 .f32)
    (e0 : m' ((c.tc : Thread Cert.ReferenceIdeal.nD Cert.ReferenceIdeal.τ).loc Cert.ReferenceIdeal.main_arg0) = x0)
    (e1 : m' ((c.tc : Thread Cert.ReferenceIdeal.nD Cert.ReferenceIdeal.τ).loc Cert.ReferenceIdeal.main_arg1) = x1)
    (e2 : m' ((c.tc : Thread Cert.ReferenceIdeal.nD Cert.ReferenceIdeal.τ).loc Cert.ReferenceIdeal.main_arg2) = x2)
    (e3 : m' ((c.tc : Thread Cert.ReferenceIdeal.nD Cert.ReferenceIdeal.τ).loc Cert.ReferenceIdeal.main_arg3) = x3)
    (e4 : m' ((c.tc : Thread Cert.ReferenceIdeal.nD Cert.ReferenceIdeal.τ).loc Cert.ReferenceIdeal.main_arg4) = x4)
    (e5 : m' ((c.tc : Thread Cert.ReferenceIdeal.nD Cert.ReferenceIdeal.τ).loc Cert.ReferenceIdeal.main_arg5) = x5) :
    Ref.result m' c = Cert.ReferenceIdeal.Step.R_main_v59 (Ref.iter (Cert.ReferenceIdeal.Step.init (F := Ideal) x0 x1 x3 x4 x5) 64) x2 := by
  unfold Ref.result
  rw [e0, e1, e2, e3, e4, e5]
end Cert.Gla
end
-- ==== Proof.Gla.Pre.lean ====
module
public import proofs.«01_k».proof.Proof.Gla.KerEnd
public import proofs.«01_k».proof.Defs
public import Idealize.ShloMosaic.Lib.ReduceAll
@[expose] public section
set_option maxRecDepth 16384
noncomputable section
/-! The precondition says that the arrays it names hold numbers. -/
namespace Cert.Gla
open Idealize.ShloMosaic Idealize.ShloMosaic.TcCoe Cert.Pre_finite

/-- The single-precision word of infinity. -/
theorem wordInf : Ideal.ofBits .f32 0x7F800000#32 = ⊤ := by
  simp [Ideal.ofBits, Ideal.ieee]

/-- A number whose size is below infinity is finite. -/
theorem num_of_lt {x : EReal} (h : max x (-x) < ⊤) : IsNum x := by
  induction x with
  | bot => simp at h
  | top => simp at h
  | coe r => exact IsNum.coe r

/-- One array of the precondition. -/
theorem num_of_all {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1) (i : s.Idx) : IsNum (x i) := by
  have hss : Subsingleton S_.Idx := ⟨fun a b => funext fun z => z.elim0⟩
  have e := Host.reduce_andi_all _ _ hr hu _ h i
  have e' : (BitVec.ofBool (decide (max (x i) (-(x i)) < Ideal.ofBits .f32 0x7F800000#32))) = 1#1 := e
  rw [wordInf] at e'
  refine num_of_lt ?_
  by_contra hn
  rw [decide_eq_false hn] at e'
  exact absurd e' (by decide)

section
variable [Pre_finite.Facts]
/-- The precondition, array by array. -/
theorem pre_all (x0 x1 x2 : FVec Ideal S32768x256 .bf16) (x3 : FVec Ideal S32768x128 .bf16) (x4 : FVec Ideal S16x128 .f32) (x5 : FVec Ideal S128 .f32)
    (h : Pre_finite.fn (F := Ideal) x0 x1 x2 x3 x4 x5 ix0 = 1#1) :
    (∀ i, IsNum (x0 i)) ∧ (∀ i, IsNum (x1 i)) ∧ ∀ i, IsNum (x4 i) := by
  obtain ⟨h, h4⟩ := (IntOp.andi_eq_one).1 (show IntOp.andi _ _ = 1#1 from h)
  obtain ⟨h0, h1⟩ := (IntOp.andi_eq_one).1 (show IntOp.andi _ _ = 1#1 from h)
  exact ⟨num_of_all _ _ _ _ h0, num_of_all _ _ _ _ h1, num_of_all _ _ _ _ h4⟩
end
end Cert.Gla
end
-- ==== Proof.Gmlp.Spec.lean ====
module
public import proofs.«01_k».proof.Proof.Gla.Ends
@[expose] public section
set_option maxRecDepth 16384
noncomputable section
/-! The gated MLP over the sequence, on extended reals: a norm over a head group, a mix of the chunk's past rows, a bias and a gate. -/
namespace Cert.Gmlp
open Idealize.ShloMosaic Idealize.ShloMosaic.TcCoe Cert.Gla

/-- An element less its group's mean. -/
def dE (v : Fin 64 → EReal) (c : Fin 64) : EReal := v c - Ideal.div (∑ x, v x) (Ideal.ofBits .f32 1115684864#32)
/-- The group's norm. -/
def nE (v : Fin 64 → EReal) (c : Fin 64) : EReal :=
  dE v c * Ideal.rsqrt (Ideal.div (∑ x, dE v x * dE v x) (Ideal.ofBits .f32 1115684864#32) + Ideal.ofBits .f32 897988541#32)
/-- A mixing weight, zero for later rows. -/
def wE (w : Fin 128 → Fin 128 → EReal) (t s : Fin 128) : EReal :=
  Scalar.select (IntOp.cmpi CmpIPredicate.sge (BitVec.ofNat 32 t.val) (BitVec.ofNat 32 s.val)) (w t s) 0
/-- One element of the result, from its chunk's values, the group's weights, the bias and the gate. -/
def resE (v : Fin 128 → Fin 64 → EReal) (w : Fin 128 → Fin 128 → EReal) (b u : EReal) (t : Fin 128) (c : Fin 64) : EReal :=
  u * (∑ s, wE w t s * nE (v s) c + b)

/-- A mean as a division. -/
theorem mean_eq (o : Fin 64 → EReal) (ho : ∀ c, IsNum (o c)) :
    ∑ x, o x * (((1 : ℝ) / 64 : ℝ) : EReal) = Ideal.div (∑ x, o x) (Ideal.ofBits .f32 1115684864#32) := by
  choose f hf using ho
  have e : ∀ s : Finset (Fin 64), ∑ x ∈ s, o x * (((1 : ℝ) / 64 : ℝ) : EReal) = ((∑ x ∈ s, f x * (1 / 64) : ℝ) : EReal)
      ∧ ∑ x ∈ s, o x = ((∑ x ∈ s, f x : ℝ) : EReal) := by
    intro s
    induction s using Finset.induction_on with
    | empty => simp
    | insert a s ha ih => rw [Finset.sum_insert ha, Finset.sum_insert ha, Finset.sum_insert ha, Finset.sum_insert ha, ih.1, ih.2, hf, ← EReal.coe_mul, ← EReal.coe_add, ← EReal.coe_add]; exact ⟨rfl, rfl⟩
  rw [(e _).1, (e _).2, word64, div_coe _ _ (by norm_num), ← Finset.sum_mul]
  congr 1; ring

/-- A finite group's differences from its mean are finite. -/
theorem d_num (v : Fin 64 → EReal) (hv : ∀ c, IsNum (v c)) (c : Fin 64) : IsNum (dE v c) := by
  unfold dE
  rw [← mean_eq v hv]
  exact (hv c).sub (IsNum.sum _ _ fun x _ => (hv x).mul (IsNum.coe _))
end Cert.Gmlp
end
-- ==== Proof.Gmlp.Kern.lean ====
module
public import proofs.«01_k».proof.Proof.Gmlp.Spec
public import proofs.«01_k».proof.Proof.Gen.Kernel4Ideal.Value
public import Idealize.ShloMosaic.Lib.Pipeline.ValueKit
@[expose] public section
set_option maxRecDepth 16384
noncomputable section
/-! What the gated MLP's kernel stores, element by element. -/
namespace Cert.Gmlp
open Idealize.ShloMosaic Idealize.ShloMosaic.TcCoe Idealize.SL.Sem Cert.Kernel4Ideal Cert.Kernel4Ideal.Gen Cert.Gla

/-- The matrix that averages each group's 64 columns. -/
def meanG : FVec Ideal S256x256 .bf16 := k0_pay5 (F := Ideal) k0_pay1 k0_pay2 k0_pay3 k0_pay4

/-- The averaging matrix, element by element. -/
theorem meanG_apply (h h' : Fin 4) (d e : Fin 64) :
    meanG (ix2 ⟨64 * h.val + d.val, by omega⟩ ⟨64 * h'.val + e.val, by omega⟩) = if h = h' then (((1 : ℝ) / 64 : ℝ) : EReal) else 0 := by
  have r := (show ∀ (h : Fin 4) (d : Fin 64), k0_pay1 (ix2 (⟨64 * h.val + d.val, by omega⟩ : Fin 256) (0 : Fin 256)) = BitVec.ofNat 32 h.val by decide +kernel) h d
  have cm := (show ∀ (h' : Fin 4) (e : Fin 64), Scalar.select (IntOp.andi (k0_pay3 (ix2 (0 : Fin 256) (⟨64 * h'.val + e.val, by omega⟩ : Fin 256)))
      (k0_pay4 (ix2 (0 : Fin 256) (⟨64 * h'.val + e.val, by omega⟩ : Fin 256))))
      (IntOp.subi (k0_pay2 (ix2 (0 : Fin 256) (⟨64 * h'.val + e.val, by omega⟩ : Fin 256))) 1#32) (k0_pay2 (ix2 (0 : Fin 256) (⟨64 * h'.val + e.val, by omega⟩ : Fin 256)))
      = BitVec.ofNat 32 h'.val by decide +kernel) h' e
  pointwise [meanG, k0_pay5]
  rw [show k0_pay1 (ix2 (⟨64 * h.val + d.val, by omega⟩ : Fin 256) (⟨64 * h'.val + e.val, by omega⟩ : Fin 256)) = BitVec.ofNat 32 h.val from r]
  refine Eq.trans (congrArg (fun z => Scalar.select (IntOp.cmpi CmpIPredicate.eq (BitVec.ofNat 32 h.val) z) (Ideal.ofBits FTy.f32 1015021568#32) 0) cm) ?_
  show Scalar.select (IntOp.cmpi CmpIPredicate.eq (BitVec.ofNat 32 h.val) (BitVec.ofNat 32 h'.val)) _ _ = _
  rw [sel_head, wordInv64]

/-- The head of a column. -/
theorem head_apply (t : Fin 128) (h : Fin 4) (d : Fin 64) : k0_pay7 (ix2 t ⟨64 * h.val + d.val, by omega⟩) = BitVec.ofNat 32 h.val :=
  (show ∀ (h : Fin 4) (d : Fin 64), k0_pay7 (ix2 (0 : Fin 128) (⟨64 * h.val + d.val, by omega⟩ : Fin 256)) = BitVec.ofNat 32 h.val by decide +kernel) h d

section norm
variable (v : Vec Ideal S1024x256 .bf16)
/-- The values less their group's mean. -/
def dK : FVec Ideal S1024x256 .f32 :=
  subf (extf .f32 v bitsLt_bf16_f32) (matmul (φ₁ := .bf16) dot_S1024x256_S256x256_S1024x256_1_0_0_1_n_n none v meanG (constant S1024x256 .f32 0x00000000#32))
/-- The norm, from those differences. -/
def nK (d : FVec Ideal S1024x256 .f32) : FVec Ideal S1024x256 .bf16 :=
  let q := mulf d d
  let hi := truncf .bf16 q bitsLt_bf16_f32
  let rest := subf q (extf .f32 hi bitsLt_bf16_f32)
  let mid := truncf .bf16 rest bitsLt_bf16_f32
  let lo := truncf .bf16 (subf rest (extf .f32 mid bitsLt_bf16_f32)) bitsLt_bf16_f32
  truncf .bf16 (mulf d (rsqrt (addf (addf (addf
    (matmul dot_S1024x256_S256x256_S1024x256_1_0_0_1_n_n none hi meanG (constant S1024x256 .f32 0x00000000#32))
    (matmul dot_S1024x256_S256x256_S1024x256_1_0_0_1_n_n none mid meanG (constant S1024x256 .f32 0x00000000#32)))
    (matmul dot_S1024x256_S256x256_S1024x256_1_0_0_1_n_n none lo meanG (constant S1024x256 .f32 0x00000000#32)))
    (broadcast S1024x256 (Scalar.ofBits .f32 0x358637BD#32))))) bitsLt_bf16_f32
/-- The kernel's norm is that of its differences. -/
theorem pay12_eq : k0_pay12 meanG v = nK (dK v) := rfl

/-- The differences, element by element. -/
theorem dK_apply (hv : ∀ i, IsNum (v i)) (r : Fin 1024) (h : Fin 4) (c : Fin 64) :
    dK v (ix2 r ⟨64 * h.val + c.val, by omega⟩) = dE (fun x => v (ix2 r ⟨64 * h.val + x.val, by omega⟩)) c := by
  pointwise [dK]
  rw [sum_vhead h _ (fun a d ha => by rw [meanG_apply, if_neg ha, mul_zero])]
  simp only [meanG_apply, if_true]
  rw [mean_eq (fun x => v (ix2 r ⟨64 * h.val + x.val, by omega⟩)) (fun _ => hv _)]
  rfl

/-- The norm, element by element. -/
theorem nK_apply (d : FVec Ideal S1024x256 .f32) (ho : ∀ i, IsNum (d i)) (r : Fin 1024) (h : Fin 4) (c : Fin 64) :
    nK d (ix2 r ⟨64 * h.val + c.val, by omega⟩)
      = d (ix2 r ⟨64 * h.val + c.val, by omega⟩) * Ideal.rsqrt (Ideal.div (∑ x : Fin 64, d (ix2 r ⟨64 * h.val + x.val, by omega⟩) * d (ix2 r ⟨64 * h.val + x.val, by omega⟩)) (Ideal.ofBits .f32 1115684864#32) + Ideal.ofBits .f32 897988541#32) := by
  pointwise [nK]
  simp only [((ho _).mul (ho _)).sub_self, sub_zero, zero_mul, Finset.sum_const_zero, add_zero]
  rw [sum_vhead h _ (fun a d ha => by rw [meanG_apply, if_neg ha, mul_zero])]
  simp only [meanG_apply, if_true]
  rw [mean_div (fun x => d (ix2 r ⟨64 * h.val + x.val, by omega⟩)) (fun _ => ho _)]

/-- The kernel's normed values. -/
theorem vn_apply (hv : ∀ i, IsNum (v i)) (r : Fin 1024) (h : Fin 4) (c : Fin 64) :
    k0_pay12 meanG v (ix2 r ⟨64 * h.val + c.val, by omega⟩) = nE (fun x => v (ix2 r ⟨64 * h.val + x.val, by omega⟩)) c := by
  have hd : ∀ i, IsNum (dK v i) := by
    intro i
    have r1 : (i 1).val < 256 := (i 1).isLt
    have e : i = ix2 (i 0) ⟨64 * (⟨(i 1).val / 64, by omega⟩ : Fin 4).val + (⟨(i 1).val % 64, by omega⟩ : Fin 64).val, by show 64 * ((i 1).val / 64) + (i 1).val % 64 < 256; omega⟩ := by
      refine (eq_ix2 i).trans (congrArg (ix2 (i 0)) (Fin.ext ?_))
      show (i 1).val = 64 * ((i 1).val / 64) + (i 1).val % 64; omega
    rw [e]
    exact (dK_apply v hv (i 0) ⟨(i 1).val / 64, by omega⟩ ⟨(i 1).val % 64, by omega⟩) ▸ d_num _ (fun _ => hv _) _
  rw [pay12_eq, nK_apply _ hd]
  simp only [dK_apply v hv]
  rfl
end norm

section chunk
variable (x0 : Vec Ideal S1024x512 .bf16) (x1 : Vec Ideal S4x128x128 .f32) (x2 : Vec Ideal S128x256 .f32) (n : Fin 8)

/-- Chunk `n`'s 128 rows lie inside the block's 1024. -/
theorem slN (n : Fin 8) : S1024x256.Slices ![128 * n.val, 0] S128x256 := by revert n; decide
/-- The same for the block of gates and values. -/
theorem inbN (n : Fin 8) : ∀ a, (![128 * n.val, 0] : Fin 2 → Nat) a + S128x256.size a ≤ S1024x512.size a := by revert n; decide
/-- The same for the block of results. -/
theorem inbO (n : Fin 8) : ∀ a, (![128 * n.val, 0] : Fin 2 → Nat) a + S128x256.size a ≤ S1024x256.size a := by revert n; decide
/-- Group `g`'s weights lie inside the four. -/
theorem inbW (g : Fin 4) : ∀ a, (![g.val, 0, 0] : Fin 3 → Nat) a + S1x128x128.size a ≤ S4x128x128.size a := by revert g; decide

/-- A group's masked weights. -/
def wK (g : Fin 4) : FVec Ideal S128x128 .bf16 := k0_pay9 (F := Ideal) k0_pay6 (View.ld x1 (Rect.unit (s := S4x128x128) ![g.val, 0, 0] S1x128x128.size (inbW g)))
/-- The block's normed values. -/
def vnK : FVec Ideal S1024x256 .bf16 := k0_pay12 meanG (View.ld x0 r0_4)
/-- A group's mix of a chunk's rows. -/
def mixK (g : Fin 4) : FVec Ideal S128x256 .f32 :=
  matmul dot_S128x128_S128x256_S128x256_1_0_0_1_n_n none (wK x1 g) (extractStridedSlice S128x256 ![128 * n.val, 0] (vnK x0) (slN n)) (constant S128x256 .f32 0x00000000#32)
/-- The mix at its own group's columns. -/
def selK (g : Fin 4) : FVec Ideal S128x256 .f32 :=
  select (cmpi .eq k0_pay7 (broadcast S128x256 (BitVec.ofNat 32 g.val))) (mixK x0 x1 n g) (broadcast S128x256 (Scalar.ofBits .f32 0x00000000#32))
/-- A chunk's results. -/
def outK : FVec Ideal S128x256 .bf16 :=
  truncf .bf16 (mulf (extf .f32 (View.ld x0 (Rect.unit (s := S1024x512) ![128 * n.val, 0] S128x256.size (inbN n)) : FVec Ideal S128x256 .bf16) bitsLt_bf16_f32)
    (addf (addf (addf (addf (shapeCast S128x256 (View.ld x2 r0_5 : FVec Ideal S128x256 .f32) shapeCasts_S128x256_S128x256) (selK x0 x1 n 0)) (selK x0 x1 n 1)) (selK x0 x1 n 2)) (selK x0 x1 n 3))) bitsLt_bf16_f32

/-- The masked weights, element by element. -/
theorem wK_apply (g : Fin 4) (t s : Fin 128) : wK x1 g (ix2 t s) = wE (fun t s => x1 (ix3 g t s)) t s := by
  pointwise [wK, k0_pay9, k0_pay6, wE]

/-- A group's mix at its own columns. -/
theorem mix_apply (hv : ∀ (r : Fin 1024) (w : Fin 256), IsNum (x0 (ix2 r ⟨256 + w.val, by omega⟩))) (h : Fin 4) (t : Fin 128) (c : Fin 64) :
    mixK x0 x1 n h (ix2 t ⟨64 * h.val + c.val, by omega⟩)
      = ∑ s, wE (fun t s => x1 (ix3 h t s)) t s * nE (fun x => x0 (ix2 (⟨128 * n.val + s.val, by omega⟩ : Fin 1024) (⟨256 + (64 * h.val + x.val), by omega⟩ : Fin 512))) c := by
  have hl : ∀ (r : Fin 1024) (w : Fin 256), View.ld x0 r0_4 (ix2 r w) = x0 (ix2 r ⟨256 + w.val, by omega⟩) := by
    intro r w; pointwise []
  have hn : ∀ i, IsNum (View.ld x0 r0_4 i) := by
    intro i; rw [eq_ix2 i]; exact (hl (i 0) (i 1)) ▸ hv (i 0) (i 1)
  pointwise [mixK]
  refine Finset.sum_congr rfl fun s _ => ?_
  rw [wK_apply]
  refine congrArg _ ?_
  unfold vnK
  refine (vn_apply _ hn _ h c).trans ?_
  simp only [hl]

/-- A chunk's results, element by element. -/
theorem outK_apply (hv : ∀ (r : Fin 1024) (w : Fin 256), IsNum (x0 (ix2 r ⟨256 + w.val, by omega⟩))) (t : Fin 128) (h : Fin 4) (c : Fin 64) :
    outK x0 x1 x2 n (ix2 t ⟨64 * h.val + c.val, by omega⟩)
      = resE (fun s x => x0 (ix2 (⟨128 * n.val + s.val, by omega⟩ : Fin 1024) (⟨256 + (64 * h.val + x.val), by omega⟩ : Fin 512))) (fun t s => x1 (ix3 h t s))
        (x2 (ix2 t ⟨64 * h.val + c.val, by omega⟩)) (x0 (ix2 ⟨128 * n.val + t.val, by omega⟩ ⟨64 * h.val + c.val, by omega⟩)) t c := by
  pointwise [outK, selK]
  rw [head_apply]
  unfold resE
  rw [← mix_apply x0 x1 n hv]
  refine congrArg _ ?_
  rw [add_comm (mixK x0 x1 n h _), ← four_sel (fun a => mixK x0 x1 n a (ix2 t ⟨64 * h.val + c.val, by omega⟩)) h]
  simp only [← add_assoc]
end chunk
end Cert.Gmlp
end
-- ==== Proof.Gmlp.Ref.lean ====
module
public import proofs.«01_k».proof.Proof.Gmlp.Spec
public import proofs.«01_k».proof.Proof.Gen.Reference4Ideal.Read
@[expose] public section
set_option maxRecDepth 16384
noncomputable section
/-! The gated MLP's reference, element by element. -/
namespace Cert.Gmlp
open Idealize.ShloMosaic Idealize.ShloMosaic.TcCoe Cert.Reference4Ideal Cert.Reference4Ideal.Gen Cert.Reference4Ideal.Read Cert.Gla
variable (x0 : S32768x512.Idx → EReal) (x1 : S4x128x128.Idx → EReal) (x2 : S4x128.Idx → EReal)

/-- The reference's grouped values. -/
theorem r4_apply (b : Fin 8) (s : Fin 4096) (g : Fin 4) (c : Fin 64) :
    val_main_v4 (F := Ideal) x0 (ix4 b s g c) = x0 (ix2 (⟨4096 * b.val + s.val, by omega⟩ : Fin 32768) (⟨256 + (64 * g.val + c.val), by omega⟩ : Fin 512)) := by
  pointwise [val_main_v4, val_main_v3, val_main_v1, val_main_v0]
  exact congrArg x0 (congrArg₂ ix2 (Fin.ext (by simp; omega)) (Fin.ext (by simp; omega)))

/-- Its norm. -/
theorem r22_apply (b : Fin 8) (s : Fin 4096) (g : Fin 4) (c : Fin 64) :
    val_main_v22 (F := Ideal) x0 (ix4 b s g c)
      = nE (fun x => x0 (ix2 (⟨4096 * b.val + s.val, by omega⟩ : Fin 32768) (⟨256 + (64 * g.val + x.val), by omega⟩ : Fin 512))) c := by
  pointwise [val_main_v22, val_main_v21, val_main_v20, val_main_v19, val_main_v18, val_main_cst_3, val_main_v17, val_main_v16, val_main_v15, val_main_v14, val_main_cst_2,
    val_main_v13, val_main_v12, val_main_cst_1, val_main_v11, val_main_v10, val_main_v9, val_main_v8, val_main_v7, val_main_cst_0, val_main_v6, val_main_v5, val_main_cst, nE, dE]
  simp only [r4_apply]

/-- Its masked weights. -/
theorem r27_apply (g : Fin 4) (t s : Fin 128) : val_main_v27 (F := Ideal) x1 (ix3 g t s) = wE (fun t s => x1 (ix3 g t s)) t s := by
  pointwise [val_main_v27, val_main_v26, val_main_cst_4, val_main_call1_v0, val_main_v25, val_main_v24, val_main_c, val_main_call0_v5, val_main_call0_c_0, val_main_call0_v4, val_main_call0_v3,
    val_main_call0_v2, val_main_call0_v1, val_main_call0_c, val_main_call0_v0, wE]
  have hz : ∀ z : BitVec 1, Scalar.select z 1#1 0#1 = z := by decide
  have ha : ∀ z : BitVec 32, IntOp.addi z 0#32 = z := BitVec.add_zero
  rw [hz, ha]

/-- Its mixed and gated values. -/
theorem r36_apply (b : Fin 8) (n : Fin 32) (t : Fin 128) (g : Fin 4) (c : Fin 64) :
    val_main_v36 (F := Ideal) x0 x1 x2 (ix5 b n t g c)
      = resE (fun s x => x0 (ix2 (⟨4096 * b.val + 128 * n.val + s.val, by omega⟩ : Fin 32768) (⟨256 + (64 * g.val + x.val), by omega⟩ : Fin 512))) (fun t s => x1 (ix3 g t s))
        (x2 (ix2 g t)) (x0 (ix2 (⟨4096 * b.val + 128 * n.val + t.val, by omega⟩ : Fin 32768) (⟨64 * g.val + c.val, by omega⟩ : Fin 512))) t c := by
  pointwise [val_main_v36, val_main_v35, val_main_v34, val_main_v33, val_main_v32, val_main_v31, val_main_v30, val_main_v29, val_main_v28, val_main_v23, val_main_v2, val_main_v1, val_main_v0, resE]
  simp only [r27_apply, r22_apply]
  refine congrArg₂ (· * ·) (congrArg x0 (congrArg₂ ix2 (Fin.ext ?_) (Fin.ext ?_))) (congrArg (· + x2 (ix2 g t)) (Finset.sum_congr rfl fun s _ => ?_))
  · show b.val * 4096 + (n.val * 128 + t.val) = 4096 * b.val + 128 * n.val + t.val; omega
  · show g.val * 64 + c.val = 64 * g.val + c.val; omega
  · rw [mul_comm]
    simp only [add_assoc, Nat.mul_comm n.val 128]

/-- The result at a row and column whose sequence, chunk, token, group and entry are named. -/
theorem r38_raw (r : Fin 32768) (w : Fin 256) (b : Fin 8) (n : Fin 32) (t : Fin 128) (g : Fin 4) (c : Fin 64) (e1 : b.val = r.val / 4096) (e2 : n.val = r.val / 128 % 32)
    (e3 : t.val = r.val % 128) (e4 : g.val = w.val / 64) (e5 : c.val = w.val % 64) :
    val_main_v38 (F := Ideal) x0 x1 x2 (ix2 r w) = val_main_v36 (F := Ideal) x0 x1 x2 (ix5 b n t g c) := by
  have f1 : b = ⟨r.val / 4096, by omega⟩ := Fin.ext e1
  have f2 : n = ⟨r.val / 128 % 32, by omega⟩ := Fin.ext e2
  have f3 : t = ⟨r.val % 128, by omega⟩ := Fin.ext e3
  have f4 : g = ⟨w.val / 64, by omega⟩ := Fin.ext e4
  have f5 : c = ⟨w.val % 64, by omega⟩ := Fin.ext e5
  rw [f1, f2, f3, f4, f5]
  pointwise [val_main_v38, val_main_v37]

/-- The reference's result, by sequence, chunk, token, group and entry. -/
theorem r38_apply (b : Fin 8) (n : Fin 32) (t : Fin 128) (g : Fin 4) (c : Fin 64) :
    val_main_v38 (F := Ideal) x0 x1 x2 (ix2 (⟨4096 * b.val + 128 * n.val + t.val, by omega⟩ : Fin 32768) (⟨64 * g.val + c.val, by omega⟩ : Fin 256))
      = resE (fun s x => x0 (ix2 (⟨4096 * b.val + 128 * n.val + s.val, by omega⟩ : Fin 32768) (⟨256 + (64 * g.val + x.val), by omega⟩ : Fin 512))) (fun t s => x1 (ix3 g t s))
        (x2 (ix2 g t)) (x0 (ix2 (⟨4096 * b.val + 128 * n.val + t.val, by omega⟩ : Fin 32768) (⟨64 * g.val + c.val, by omega⟩ : Fin 512))) t c :=
  (r38_raw x0 x1 x2 _ _ b n t g c (by show _ = (4096 * b.val + 128 * n.val + t.val) / 4096; omega) (by show _ = (4096 * b.val + 128 * n.val + t.val) / 128 % 32; omega)
    (by show _ = (4096 * b.val + 128 * n.val + t.val) % 128; omega) (by show _ = (64 * g.val + c.val) / 64; omega) (by show _ = (64 * g.val + c.val) % 64; omega)).trans
  (r36_apply x0 x1 x2 b n t g c)
end Cert.Gmlp
end
-- ==== Proof.Gmlp.Final.lean ====
module
public import proofs.«01_k».proof.Proof.Gmlp.Kern
public import proofs.«01_k».proof.Proof.Gmlp.Ref
public import proofs.«01_k».proof.Proof.Gla.Pre
public import Idealize.ShloMosaic.Lib.StableHlo.RunRead
@[expose] public section
set_option maxRecDepth 16384
noncomputable section
/-! The gated MLP's array is the reference's. -/
namespace Cert.Gmlp
open Idealize.ShloMosaic Idealize.ShloMosaic.TcCoe Idealize.SL.Sem Cert.Kernel4Ideal Cert.Kernel4Ideal.Gen Cert.Gla

section block
variable (x0 : Vec Ideal S1024x512 .bf16) (x1 : Vec Ideal S4x128x128 .f32) (x2 : Vec Ideal S128x256 .f32)

/-- The block's results, by row and column. -/
def blockE (y : S1024x256.Idx) : EReal :=
  have h0 : (y 0).val < 1024 := (y 0).isLt
  have h1 : (y 1).val < 256 := (y 1).isLt
  outK x0 x1 x2 ⟨(y 0).val / 128, by omega⟩ (ix2 ⟨(y 0).val % 128, by omega⟩ (y 1))

/-- A chunk's piece of the block. -/
theorem piece (n : Fin 8) (j : S128x256.Idx) :
    outK x0 x1 x2 n j = blockE x0 x1 x2 ((Rect.unit (s := S1024x256) ![128 * n.val, 0] S128x256.size (inbO n)).emb j) := by
  have hj0 : (j 0).val < 128 := (j 0).isLt
  unfold blockE
  have e0 : (((Rect.unit (s := S1024x256) ![128 * n.val, 0] S128x256.size (inbO n)).emb j) 0).val = 128 * n.val + (j 0).val := by
    show 128 * n.val + 1 * (j 0).val = _; omega
  have e1 : (((Rect.unit (s := S1024x256) ![128 * n.val, 0] S128x256.size (inbO n)).emb j) 1).val = (j 1).val := by
    show 0 + 1 * (j 1).val = _; omega
  rw [eq_ix2 j]
  congr 1
  · exact Fin.ext (by show n.val = _ / 128; rw [← eq_ix2 j, e0]; omega)
  · exact congrArg₂ ix2 (Fin.ext (by show (j 0).val = _ % 128; rw [← eq_ix2 j, e0]; omega)) (Fin.ext (by show (j 1).val = _; rw [← eq_ix2 j, e1]))

set_option maxHeartbeats 4000000 in
/-- What the kernel leaves in its output block. -/
theorem out_eq (y : S1024x256.Idx) : out0_3 (F := Ideal) x0 x1 x2 y = blockE x0 x1 x2 y := by
  unfold out0_3
  refine View.canon_apply_of_pieces (Val := Elt Ideal) (e := .bf16) (blockE x0 x1 x2) _ (fun p hp j => ?_) y (cover0_3 _ _ _ _ _ _ _ _ y)
  simp only [List.mem_cons, List.not_mem_nil, or_false] at hp
  rcases hp with rfl | rfl | rfl | rfl | rfl | rfl | rfl | rfl
  exacts [piece x0 x1 x2 7 j, piece x0 x1 x2 6 j, piece x0 x1 x2 5 j, piece x0 x1 x2 4 j, piece x0 x1 x2 3 j, piece x0 x1 x2 2 j, piece x0 x1 x2 1 j, piece x0 x1 x2 0 j]
end block

variable (m : (ℓ : Loc nD τ sig) → Buf (Elt Ideal) ℓ) (c : Dev nD) (t : Fin cfg0.N)

/-- Where every window stands at a grid point. -/
theorem idx : ∀ t : Fin cfg0.N, win0_0.index t = ![t.val, 0] ∧ win0_1.index t = ![0, 0, 0] ∧ win0_2.index t = ![0, 0] ∧ win0_3.index t = ![t.val, 0] :=
  (by decide +kernel : ∀ t : Fin grid0.N, _)

/-- The array's row at a block's row. -/
def rowOf (t : Fin cfg0.N) (r : Fin 1024) : Fin 32768 := ⟨t.val * 1024 + r.val, by have : t.val < 32 := t.isLt; omega⟩

/-- The gates and values. -/
abbrev a0 : S32768x512.Idx → EReal := m ((c : Thread nD τ).loc main_arg0)
/-- The mixing weights. -/
abbrev a1 : S4x128x128.Idx → EReal := m ((c : Thread nD τ).loc main_arg1)
/-- The bias. -/
abbrev a2 : S4x128.Idx → EReal := m ((c : Thread nD τ).loc main_arg2)

/-- The block of gates and values. -/
theorem blk0 (r : Fin 1024) (q : Fin 512) : (iblk m c 0 t : FVec Ideal S1024x512 .bf16) (ix2 r q) = a0 m c (ix2 (rowOf t r) q) := by
  have h : (rowOf t r).val = t.val * 1024 + r.val := rfl
  blk_ext! [iblk, V, idx t]
/-- The block of weights. -/
theorem blk1 (g : Fin 4) (i s : Fin 128) : (iblk m c 1 t : FVec Ideal S4x128x128 .f32) (ix3 g i s) = a1 m c (ix3 g i s) := by
  blk_ext! [iblk, V, idx t]
/-- What the kernel's host part leaves for the bias. -/
theorem V_bias : (V m c main_v2 : FVec Ideal S128x256 .f32)
    = shapeCast S128x256 (broadcastInDim S128x4x64 ![0, 1] bcast_S128x4_S128x4x64_0_1 (transpose S128x4 [1, 0] (a2 m c) transposes_S4x128_S128x4_1_0)) shapeCasts_S128x4x64_S128x256 := by
  unfold V
  after_reads_simp
  rfl
/-- That bias at a row and column whose group is named. -/
theorem bias_raw (x : S4x128.Idx → EReal) (i : Fin 128) (w : Fin 256) (g : Fin 4) (e : g.val = w.val / 64) :
    (shapeCast S128x256 (broadcastInDim S128x4x64 ![0, 1] bcast_S128x4_S128x4x64_0_1 (transpose S128x4 [1, 0] x transposes_S4x128_S128x4_1_0)) shapeCasts_S128x4x64_S128x256) (ix2 i w)
      = x (ix2 g i) := by
  rw [show g = ⟨w.val / 64, by omega⟩ from Fin.ext e]
  pointwise []
/-- Every block's bias. -/
theorem blk2 (i : Fin 128) (g : Fin 4) (d : Fin 64) : (iblk m c 2 t : FVec Ideal S128x256 .f32) (ix2 i ⟨64 * g.val + d.val, by omega⟩) = a2 m c (ix2 g i) := by
  refine Eq.trans ?_ (bias_raw (a2 m c) i ⟨64 * g.val + d.val, by omega⟩ g (by show _ = (64 * g.val + d.val) / 64; omega))
  rw [← V_bias]
  unfold iblk
  generalize V m c = v
  blk_ext! [idx t]

section point
variable (hF : ∀ (r : Fin 32768) (w : Fin 256), IsNum (a0 m c (ix2 r ⟨256 + w.val, by omega⟩)))
include hF
/-- A chunk of block `q` of sequence `b` is the reference's result there. -/
theorem point_apply (b : Fin 8) (q : Fin 4) (ht : t.val = 4 * b.val + q.val) (n : Fin 8) (i : Fin 128) (g : Fin 4) (d : Fin 64) :
    outK (iblk m c 0 t) (iblk m c 1 t) (iblk m c 2 t) n (ix2 i ⟨64 * g.val + d.val, by omega⟩)
      = Cert.Reference4Ideal.Read.val_main_v38 (F := Ideal) (a0 m c) (a1 m c) (a2 m c) (ix2 (rowOf t ⟨128 * n.val + i.val, by omega⟩) (⟨64 * g.val + d.val, by omega⟩ : Fin 256)) := by
  have hv : ∀ (r : Fin 1024) (w : Fin 256), IsNum ((iblk m c 0 t : FVec Ideal S1024x512 .bf16) (ix2 r ⟨256 + w.val, by omega⟩)) := by
    intro r w; rw [blk0]; exact hF _ _
  have e2 := r38_apply (a0 m c) (a1 m c) (a2 m c) b ⟨8 * q.val + n.val, by omega⟩ i g d
  have er : ∀ s : Fin 128, (⟨4096 * b.val + 128 * (⟨8 * q.val + n.val, by omega⟩ : Fin 32).val + s.val, by show 4096 * b.val + 128 * (8 * q.val + n.val) + s.val < 32768; omega⟩ : Fin 32768)
      = rowOf t ⟨128 * n.val + s.val, by omega⟩ := fun s =>
    Fin.ext (by show 4096 * b.val + 128 * (8 * q.val + n.val) + s.val = t.val * 1024 + (128 * n.val + s.val); omega)
  simp only [er] at e2
  refine ((outK_apply (iblk m c 0 t) (iblk m c 1 t) (iblk m c 2 t) n hv i g d).trans ?_).trans e2.symm
  rw [blk2]
  simp only [blk0, blk1]

/-- A grid point's block is the reference's result there. -/
theorem point_ref (r : Fin 1024) (w : Fin 256) :
    out0_3 (F := Ideal) (iblk m c 0 t) (iblk m c 1 t) (iblk m c 2 t) (ix2 r w)
      = Cert.Reference4Ideal.Read.val_main_v38 (F := Ideal) (a0 m c) (a1 m c) (a2 m c) (ix2 (rowOf t r) w) := by
  have hN : t.val < 32 := t.isLt
  have e := point_apply m c t hF ⟨t.val / 4, by omega⟩ ⟨t.val % 4, by omega⟩ (by show t.val = 4 * (t.val / 4) + t.val % 4; omega)
    ⟨r.val / 128, by omega⟩ ⟨r.val % 128, by omega⟩ ⟨w.val / 64, by omega⟩ ⟨w.val % 64, by omega⟩
  have ew : (⟨64 * (⟨w.val / 64, by omega⟩ : Fin 4).val + (⟨w.val % 64, by omega⟩ : Fin 64).val, by show 64 * (w.val / 64) + w.val % 64 < 256; omega⟩ : Fin 256) = w :=
    Fin.ext (by show 64 * (w.val / 64) + w.val % 64 = w.val; omega)
  have er : (⟨128 * (⟨r.val / 128, by omega⟩ : Fin 8).val + (⟨r.val % 128, by omega⟩ : Fin 128).val, by show 128 * (r.val / 128) + r.val % 128 < 1024; omega⟩ : Fin 1024) = r :=
    Fin.ext (by show 128 * (r.val / 128) + r.val % 128 = r.val; omega)
  rw [er, ew] at e
  exact (out_eq _ _ _ _).trans e
end point

/-- The kernel's array is the reference's over the same arguments. -/
theorem final (hF : ∀ (r : Fin 32768) (w : Fin 256), IsNum (a0 m c (ix2 r ⟨256 + w.val, by omega⟩))) : (dats m 0 c).arrAt 3 cfg0.N
    = (Cert.Reference4Ideal.Read.val_main_v38 (F := Ideal) (a0 m c) (a1 m c) (a2 m c) : FVec Ideal S32768x256 .bf16) := by
  refine (dats m 0 c).arrAt_eq_of_covers 3 _ (by decide +kernel) fun t _ y => ?_
  blk_simp
  rw [after0_3]
  obtain ⟨r, j, rfl⟩ : ∃ (r : Fin 1024) (j : Fin 256), y = ix2 r j := ⟨y 0, y 1, eq_ix2 y⟩
  refine (point_ref m c t hF r j).trans ?_
  have h : (rowOf t r).val = t.val * 1024 + r.val := rfl
  generalize Cert.Reference4Ideal.Read.val_main_v38 (F := Ideal) _ _ _ = z
  blk_ext [idx t]

/-- The precondition says that the normed values are numbers. -/
theorem pre_num [Pre_finite4.Facts] (x0 : FVec Ideal S32768x512 .bf16) (x1 : FVec Ideal S4x128x128 .f32) (x2 : FVec Ideal S4x128 .f32)
    (h : Pre_finite4.fn (F := Ideal) x0 x1 x2 ix0 = 1#1) (r : Fin 32768) (w : Fin 256) : IsNum (x0 (ix2 r ⟨256 + w.val, by omega⟩)) := by
  have e := num_of_all _ _ _ _ h (ix2 r w)
  refine Eq.mp (congrArg IsNum ?_) e
  pointwise []
end Cert.Gmlp
end
-- ==== Proof.Cmp.Kern.lean ====
module
public import proofs.«01_k».proof.Proof.Gen.Kernel5Ideal.Value
public import proofs.«01_k».proof.Proof.Gla.Ends
@[expose] public section
set_option maxRecDepth 16384
noncomputable section
/-! What the compression's kernel stores, as one definition per quantity, in the number of the half block's row. -/
namespace Cert.Cmp
open Idealize.ShloMosaic Idealize.ShloMosaic.TcCoe Idealize.SL.Sem Cert.Kernel5Ideal Cert.Kernel5Ideal.Gen

/-- Every sixteenth row, from row `r`, lies inside the sequence. -/
theorem inbC (r : Fin 16) : ∀ a, S256x128.size a = 0 ∨ (![r.val, 0] : Fin 2 → Nat) a + (![16, 1] : Fin 2 → Nat) a * (S256x128.size a - 1) < S4096x128.size a := by revert r; decide
/-- Those rows. -/
def chR (r : Fin 16) : LoadRect S4096x128 := ⟨![r.val, 0], S256x128.size, ![16, 1], inbC r⟩
/-- Those rows of a sequence, for every first row. -/
def chX (x0 : Vec Ideal S4096x128 .f32) : Fin 16 → Vec Ideal S256x128 .f32 := fun r y => x0 ((chR r).idx y)
/-- The keys' or the values' columns lie inside the 128. -/
theorem slJ (j : Fin 2) : S256x128.Slices ![0, 64 * j.val] S256x64 := by revert j; decide
/-- A position's row lies inside the positions. -/
theorem inbP (j : Fin 2) (k : Fin 32) : ∀ a, (![j.val, k.val, 0] : Fin 3 → Nat) a + S1x1x64.size a ≤ S2x32x64.size a := by revert j k; decide
/-- A position's weights lie inside the first weights. -/
theorem inbW (j : Fin 2) (k : Fin 32) : ∀ a, (![j.val, 64 * k.val, 0] : Fin 3 → Nat) a + S1x64x128.size a ≤ S2x2048x128.size a := by revert j k; decide
/-- The keys' or the values' second weights lie inside both. -/
theorem inbV (j : Fin 2) : ∀ a, (![j.val, 0, 0] : Fin 3 → Nat) a + S1x128x64.size a ≤ S2x128x64.size a := by revert j; decide

section block
variable (ch : Fin 16 → Vec Ideal S256x128 .f32) (x1 : Vec Ideal S2x32x64 .f32) (x2 : Vec Ideal S2x2048x128 .f32) (x3 : Vec Ideal S2x128x64 .f32) (j : Fin 2)

/-- The product of one row of every half block, at one position of the block. -/
def tK (r : Fin 16) (k : Fin 32) : FVec Ideal S256x128 .f32 :=
  matmul dot_S256x64_S64x128_S256x128_1_0_0_1_n_n none
    (truncf .bf16 (addf (extractStridedSlice S256x64 ![0, 64 * j.val] (ch r : FVec Ideal S256x128 .f32) (slJ j))
      (broadcastTo S256x64 (shapeCast S1x64 (View.ld x1 (Rect.unit (s := S2x32x64) ![j.val, k.val, 0] S1x1x64.size (inbP j k)) : FVec Ideal S1x1x64 .f32) shapeCasts_S1x1x64_S1x64) broadcasts_S1x64_S256x64)) bitsLt_bf16_f32)
    (truncf .bf16 (shapeCast S64x128 (View.ld x2 (Rect.unit (s := S2x2048x128) ![j.val, 64 * k.val, 0] S1x64x128.size (inbW j k)) : FVec Ideal S1x64x128 .f32) shapeCasts_S1x64x128_S64x128) bitsLt_bf16_f32)
    (constant S256x128 .f32 0x00000000#32)
/-- The sum over a block's first half. -/
def firstK : FVec Ideal S256x128 .f32 :=
  addf (addf (addf (addf (addf (addf (addf (addf (addf (addf (addf (addf (addf (addf (addf (addf k0_pay3 (tK ch x1 x2 j 0 0)) (tK ch x1 x2 j 1 1)) (tK ch x1 x2 j 2 2)) (tK ch x1 x2 j 3 3)) (tK ch x1 x2 j 4 4)) (tK ch x1 x2 j 5 5)) (tK ch x1 x2 j 6 6)) (tK ch x1 x2 j 7 7)) (tK ch x1 x2 j 8 8)) (tK ch x1 x2 j 9 9)) (tK ch x1 x2 j 10 10)) (tK ch x1 x2 j 11 11)) (tK ch x1 x2 j 12 12)) (tK ch x1 x2 j 13 13)) (tK ch x1 x2 j 14 14)) (tK ch x1 x2 j 15 15)
/-- The sum over a block's second half, at the half's own row. -/
def secondK : FVec Ideal S256x128 .f32 :=
  addf (addf (addf (addf (addf (addf (addf (addf (addf (addf (addf (addf (addf (addf (addf (addf k0_pay3 (tK ch x1 x2 j 0 16)) (tK ch x1 x2 j 1 17)) (tK ch x1 x2 j 2 18)) (tK ch x1 x2 j 3 19)) (tK ch x1 x2 j 4 20)) (tK ch x1 x2 j 5 21)) (tK ch x1 x2 j 6 22)) (tK ch x1 x2 j 7 23)) (tK ch x1 x2 j 8 24)) (tK ch x1 x2 j 9 25)) (tK ch x1 x2 j 10 26)) (tK ch x1 x2 j 11 27)) (tK ch x1 x2 j 12 28)) (tK ch x1 x2 j 13 29)) (tK ch x1 x2 j 14 30)) (tK ch x1 x2 j 15 31)
/-- The hidden layer before its gate: both halves, and nothing in the last row. -/
def preK : FVec Ideal S256x128 .f32 :=
  select (cmpi .slt (iota .tc S256x128 32 [0] iota_S256x128_d0_w32) (broadcast S256x128 255#32))
    (addf (firstK ch x1 x2 j) (dynamicRotate 0 255#32 none (secondK ch x1 x2 j) rotates_S256x128_d0)) (broadcast S256x128 (Scalar.ofBits .f32 0x00000000#32))
/-- The hidden layer. -/
def hidK : FVec Ideal S256x128 .f32 :=
  mulf (preK ch x1 x2 j) (divf (broadcast S256x128 (Scalar.ofBits .f32 0x3F800000#32))
    (addf (broadcast S256x128 (Scalar.ofBits .f32 0x3F800000#32)) (exp (subf (broadcast S256x128 (Scalar.ofBits .f32 0x00000000#32)) (preK ch x1 x2 j)))))
/-- The compressed keys or values. -/
def oK : FVec Ideal S256x64 .f32 :=
  matmul dot_S256x128_S128x64_S256x64_1_0_0_1_n_n none (truncf .bf16 (hidK ch x1 x2 j) bitsLt_bf16_f32)
    (truncf .bf16 (shapeCast S128x64 (View.ld x3 (Rect.unit (s := S2x128x64) ![j.val, 0, 0] S1x128x64.size (inbV j)) : FVec Ideal S1x128x64 .f32) shapeCasts_S1x128x64_S128x64) bitsLt_bf16_f32)
    (constant S256x64 .f32 0x00000000#32)
end block

set_option maxHeartbeats 4000000 in
/-- What the kernel leaves for the keys. -/
theorem out4_eq (c : Dev nD) (i : grid0.Coords) (arg1 : Memref sig .tc .vmem S4096x128 .f32) (harg1 : arg1.IsWhole) (arg2 : Memref sig .tc .vmem S2x32x64 .f32) (harg2 : arg2.IsWhole) (arg3 : Memref sig .tc .vmem S2x2048x128 .f32) (harg3 : arg3.IsWhole) (arg4 : Memref sig .tc .vmem S2x128x64 .f32) (harg4 : arg4.IsWhole) (arg5 : Memref sig .tc .vmem S1x256x64 .bf16) (harg5 : arg5.IsWhole) (arg6 : Memref sig .tc .vmem S1x64x256 .bf16) (harg6 : arg6.IsWhole)
    (x0 : Vec Ideal S4096x128 .f32) (x1 : Vec Ideal S2x32x64 .f32) (x2 : Vec Ideal S2x2048x128 .f32) (x3 : Vec Ideal S2x128x64 .f32) :
    out0_A_4 (F := Ideal) c i arg1 harg1 arg2 harg2 arg3 harg3 arg4 harg4 arg5 harg5 arg6 harg6 x0 x1 x2 x3
      = k0_pay1 (k0_pay96 (oK (chX x0) x1 x2 x3 0)) := by
  have e : chX x0 = fun r => View.readAt (Elt Ideal) arg1.view (chR r) (harg1.unread x0) := by
    funext r y; exact (congrFun (harg1.read_unread x0) ((chR r).idx y)).symm
  rw [e]
  frame_out
  rfl

set_option maxHeartbeats 4000000 in
/-- What the kernel leaves for the values. -/
theorem out5_eq (c : Dev nD) (i : grid0.Coords) (arg1 : Memref sig .tc .vmem S4096x128 .f32) (harg1 : arg1.IsWhole) (arg2 : Memref sig .tc .vmem S2x32x64 .f32) (harg2 : arg2.IsWhole) (arg3 : Memref sig .tc .vmem S2x2048x128 .f32) (harg3 : arg3.IsWhole) (arg4 : Memref sig .tc .vmem S2x128x64 .f32) (harg4 : arg4.IsWhole) (arg5 : Memref sig .tc .vmem S1x256x64 .bf16) (harg5 : arg5.IsWhole) (arg6 : Memref sig .tc .vmem S1x64x256 .bf16) (harg6 : arg6.IsWhole)
    (x0 : Vec Ideal S4096x128 .f32) (x1 : Vec Ideal S2x32x64 .f32) (x2 : Vec Ideal S2x2048x128 .f32) (x3 : Vec Ideal S2x128x64 .f32) :
    out0_A_5 (F := Ideal) c i arg1 harg1 arg2 harg2 arg3 harg3 arg4 harg4 arg5 harg5 arg6 harg6 x0 x1 x2 x3
      = k0_pay2 (oK (chX x0) x1 x2 x3 0) (oK (chX x0) x1 x2 x3 1) := by
  have e : chX x0 = fun r => View.readAt (Elt Ideal) arg1.view (chR r) (harg1.unread x0) := by
    funext r y; exact (congrFun (harg1.read_unread x0) ((chR r).idx y)).symm
  rw [e]
  frame_out
  rfl
end Cert.Cmp
end
-- ==== Proof.Cmp.Spec.lean ====
module
public import proofs.«01_k».proof.Proof.Gla.Ends
@[expose] public section
set_option maxRecDepth 16384
noncomputable section
/-! The compression of one block of a sequence, over the extended reals. -/
namespace Cert.Cmp
open Idealize.ShloMosaic Idealize.ShloMosaic.TcCoe

/-- A hidden unit before its gate: the block's 32 rows with their positions, weighted. -/
def preE (Y : Fin 4096 → Fin 64 → EReal) (p w : Fin 32 → Fin 64 → EReal) (i : Fin 255) : EReal :=
  ∑ k : Fin 32, ∑ d : Fin 64, (Y ⟨16 * i.val + k.val, by omega⟩ d + p k d) * w k d
/-- The gate. -/
def siluE (x : EReal) : EReal := x * Ideal.div (Ideal.ofBits .f32 0x3F800000#32) (Ideal.ofBits .f32 0x3F800000#32 + Ideal.exp (-x))
/-- One entry of a block's compressed row. -/
def resE (Y : Fin 4096 → Fin 64 → EReal) (p : Fin 32 → Fin 64 → EReal) (w : Fin 128 → Fin 32 → Fin 64 → EReal) (v : Fin 128 → EReal) (i : Fin 255) : EReal :=
  ∑ h : Fin 128, siluE (preE Y p (w h) i) * v h

/-- One row with its position, weighted. -/
def tE (y p w : Fin 64 → EReal) : EReal := ∑ d : Fin 64, (y d + p d) * w d
/-- A sum over the rows of half a block. -/
def s16 (f : Fin 16 → EReal) : EReal := ∑ r, f r
/-- A sum of products over the hidden layer. -/
def dotE (a b : Fin 128 → EReal) : EReal := ∑ h, a h * b h

/-- Nothing stays nothing behind the gate. -/
theorem silu_zero : siluE 0 = 0 := by unfold siluE; rw [zero_mul]

/-- Sixteen terms added one after another are their sum. -/
theorem nest16 (f : Fin 16 → EReal) :
    (((((((((((((((0 + f 0) + f 1) + f 2) + f 3) + f 4) + f 5) + f 6) + f 7) + f 8) + f 9) + f 10) + f 11) + f 12) + f 13) + f 14) + f 15 = ∑ r, f r := by
  show _ = ∑ i : Fin (8 + 8), f i
  rw [Fin.sum_univ_add, Fin.sum_univ_eight, Fin.sum_univ_eight]
  simp only [add_assoc, zero_add]
  rfl

/-- The same with a running sum that starts at the first term. -/
theorem nest16' (f : Fin 16 → EReal) : ((((((((((((((f 0 + f 1) + f 2) + f 3) + f 4) + f 5) + f 6) + f 7) + f 8) + f 9) + f 10) + f 11) + f 12) + f 13) + f 14) + f 15 = s16 f := by
  refine Eq.trans ?_ (nest16 f)
  rw [zero_add]

/-- A sum over 32 rows is a sum over the first half and one over the second. -/
theorem sum32 (f : Fin 32 → EReal) : ∑ k, f k = ∑ r : Fin 16, f ⟨r.val, by omega⟩ + ∑ r : Fin 16, f ⟨16 + r.val, by omega⟩ :=
  Fin.sum_univ_add (a := 16) (b := 16) f

/-- A sum over the block's flattened entries goes row by row. -/
theorem sum2048 (f : Fin 2048 → EReal) : ∑ l, f l = ∑ k : Fin 32, ∑ d : Fin 64, f ⟨64 * k.val + d.val, by omega⟩ := by
  have e : ∑ l : Fin 2048, f l = ∑ p : Fin 32 × Fin 64, f ⟨64 * p.1.val + p.2.val, by omega⟩ := by
    refine (Fintype.sum_equiv (finProdFinEquiv (m := 32) (n := 64)) _ _ fun p => ?_).symm
    congr 1; apply Fin.ext; simp [finProdFinEquiv]; omega
  rw [e, Fintype.sum_prod_type]
end Cert.Cmp
end
-- ==== Proof.Cmp.Elem.lean ====
module
public import proofs.«01_k».proof.Proof.Cmp.Kern
public import proofs.«01_k».proof.Proof.Cmp.Spec
public import Idealize.ShloMosaic.Lib.KernelVsHost
@[expose] public section
set_option maxRecDepth 16384
noncomputable section
/-! The compression's kernel, element by element. -/
namespace Cert.Cmp
open Idealize.ShloMosaic Idealize.ShloMosaic.TcCoe Idealize.SL.Sem Cert.Kernel5Ideal Cert.Kernel5Ideal.Gen
variable (x0 : Vec Ideal S4096x128 .f32) (x1 : Vec Ideal S2x32x64 .f32) (x2 : Vec Ideal S2x2048x128 .f32) (x3 : Vec Ideal S2x128x64 .f32) (j : Fin 2)

/-- One row of every half block. -/
theorem chX_apply (r : Fin 16) (i : Fin 256) (q : Fin 128) : chX x0 r (ix2 i q) = x0 (ix2 (⟨16 * i.val + r.val, by omega⟩ : Fin 4096) q) := by
  have e : (chR r).idx (ix2 i q) = ix2 (⟨16 * i.val + r.val, by omega⟩ : Fin 4096) q := by
    funext a
    match a with
    | ⟨0, _⟩ => exact Fin.ext (by show r.val + 16 * i.val = 16 * i.val + r.val; omega)
    | ⟨1, _⟩ => exact Fin.ext (by show 0 + 1 * q.val = q.val; omega)
  exact congrArg x0 e

/-- A position's row. -/
theorem ld1 (k : Fin 32) (d : Fin 64) : View.ld x1 (Rect.unit (s := S2x32x64) ![j.val, k.val, 0] S1x1x64.size (inbP j k)) (ix3 (0 : Fin 1) (0 : Fin 1) d) = x1 (ix3 j k d) := by
  refine congrArg x1 (funext fun a => ?_)
  match a with
  | ⟨0, _⟩ => exact Fin.ext (by show j.val + 1 * 0 = j.val; omega)
  | ⟨1, _⟩ => exact Fin.ext (by show k.val + 1 * 0 = k.val; omega)
  | ⟨2, _⟩ => exact Fin.ext (by show 0 + 1 * d.val = d.val; omega)
/-- A position's weights. -/
theorem ld2 (k : Fin 32) (d : Fin 64) (h : Fin 128) : View.ld x2 (Rect.unit (s := S2x2048x128) ![j.val, 64 * k.val, 0] S1x64x128.size (inbW j k)) (ix3 (0 : Fin 1) d h)
    = x2 (ix3 j (⟨64 * k.val + d.val, by omega⟩ : Fin 2048) h) := by
  refine congrArg x2 (funext fun a => ?_)
  match a with
  | ⟨0, _⟩ => exact Fin.ext (by show j.val + 1 * 0 = j.val; omega)
  | ⟨1, _⟩ => exact Fin.ext (by show 64 * k.val + 1 * d.val = 64 * k.val + d.val; omega)
  | ⟨2, _⟩ => exact Fin.ext (by show 0 + 1 * h.val = h.val; omega)
/-- The second weights. -/
theorem ld3 (h : Fin 128) (d : Fin 64) : View.ld x3 (Rect.unit (s := S2x128x64) ![j.val, 0, 0] S1x128x64.size (inbV j)) (ix3 (0 : Fin 1) h d) = x3 (ix3 j h d) := by
  refine congrArg x3 (funext fun a => ?_)
  match a with
  | ⟨0, _⟩ => exact Fin.ext (by show j.val + 1 * 0 = j.val; omega)
  | ⟨1, _⟩ => exact Fin.ext (by show 0 + 1 * h.val = h.val; omega)
  | ⟨2, _⟩ => exact Fin.ext (by show 0 + 1 * d.val = d.val; omega)

/-- One row's product, over any row, position and weights. -/
theorem tG_apply (y : FVec Ideal S256x128 .f32) (p : FVec Ideal S1x1x64 .f32) (w : FVec Ideal S1x64x128 .f32) (i : Fin 256) (h : Fin 128) :
    matmul dot_S256x64_S64x128_S256x128_1_0_0_1_n_n none
      (truncf .bf16 (addf (extractStridedSlice S256x64 ![0, 64 * j.val] y (slJ j)) (broadcastTo S256x64 (shapeCast S1x64 p shapeCasts_S1x1x64_S1x64) broadcasts_S1x64_S256x64)) bitsLt_bf16_f32)
      (truncf .bf16 (shapeCast S64x128 w shapeCasts_S1x64x128_S64x128) bitsLt_bf16_f32) (constant S256x128 .f32 0x00000000#32) (ix2 i h)
      = tE (fun d => y (ix2 i (⟨64 * j.val + d.val, by omega⟩ : Fin 128))) (fun d => p (ix3 (0 : Fin 1) (0 : Fin 1) d)) (fun d => w (ix3 (0 : Fin 1) d h)) := by
  pointwise [tE]
/-- The second product, over any hidden layer and weights. -/
theorem oG_apply (A : FVec Ideal S256x128 .f32) (w : FVec Ideal S1x128x64 .f32) (i : Fin 256) (d : Fin 64) :
    matmul dot_S256x128_S128x64_S256x64_1_0_0_1_n_n none (truncf .bf16 A bitsLt_bf16_f32) (truncf .bf16 (shapeCast S128x64 w shapeCasts_S1x128x64_S128x64) bitsLt_bf16_f32)
      (constant S256x64 .f32 0x00000000#32) (ix2 i d) = dotE (fun h => A (ix2 i h)) (fun h => w (ix3 (0 : Fin 1) h d)) := by
  pointwise [dotE]

section chunks
variable (ch : Fin 16 → Vec Ideal S256x128 .f32)
/-- One row's product. -/
theorem tK_apply (r : Fin 16) (k : Fin 32) (i : Fin 256) (h : Fin 128) :
    tK ch x1 x2 j r k (ix2 i h)
      = tE (fun d => ch r (ix2 i (⟨64 * j.val + d.val, by omega⟩ : Fin 128))) (fun d => x1 (ix3 j k d)) (fun d => x2 (ix3 j (⟨64 * k.val + d.val, by omega⟩ : Fin 2048) h)) := by
  unfold tK
  refine (tG_apply j _ _ _ i h).trans ?_
  exact congrArg₂ (tE _) (funext fun d => ld1 x1 j k d) (funext fun d => ld2 x2 j k d h)

/-- The first half's sum. -/
theorem firstK_apply (i : Fin 256) (h : Fin 128) :
    firstK ch x1 x2 j (ix2 i h) = s16 (fun r => tK ch x1 x2 j r ⟨r.val, by omega⟩ (ix2 i h)) := by
  unfold firstK
  generalize tK ch x1 x2 j = T
  pointwise [k0_pay3]
  exact nest16' (fun r => T r ⟨r.val, by omega⟩ (ix2 i h))
/-- The second half's sum. -/
theorem secondK_apply (i : Fin 256) (h : Fin 128) :
    secondK ch x1 x2 j (ix2 i h) = s16 (fun r => tK ch x1 x2 j r ⟨16 + r.val, by omega⟩ (ix2 i h)) := by
  unfold secondK
  generalize tK ch x1 x2 j = T
  pointwise [k0_pay3]
  exact nest16' (fun r => T r ⟨16 + r.val, by omega⟩ (ix2 i h))
end chunks

/-- The second half's sum, moved up by one row. -/
theorem rot_apply (x : FVec Ideal S256x128 .f32) (i : Fin 255) (h : Fin 128) :
    dynamicRotate 0 255#32 none x rotates_S256x128_d0 (ix2 (⟨i.val, by omega⟩ : Fin 256) h) = x (ix2 (⟨i.val + 1, by omega⟩ : Fin 256) h) := by
  refine dynamicRotate_apply _ _ _ _ _ _ fun b => ?_
  match b with
  | ⟨0, _⟩ => show i.val + 1 = (i.val + 256 - 255 % 256) % 256; omega
  | ⟨1, _⟩ => rfl

/-- The hidden layer before its gate, in a row with a whole block. -/
theorem preK_apply (i : Fin 255) (h : Fin 128) :
    preK (chX x0) x1 x2 j (ix2 (⟨i.val, by omega⟩ : Fin 256) h)
      = preE (fun s d => x0 (ix2 s (⟨64 * j.val + d.val, by omega⟩ : Fin 128))) (fun k d => x1 (ix3 j k d)) (fun k d => x2 (ix3 j (⟨64 * k.val + d.val, by omega⟩ : Fin 2048) h)) i := by
  have hc : IntOp.cmpi .slt (BitVec.ofNat 32 i.val) 255#32 = 1#1 := by revert i; decide
  have e : preK (chX x0) x1 x2 j (ix2 (⟨i.val, by omega⟩ : Fin 256) h)
      = firstK (chX x0) x1 x2 j (ix2 (⟨i.val, by omega⟩ : Fin 256) h) + secondK (chX x0) x1 x2 j (ix2 (⟨i.val + 1, by omega⟩ : Fin 256) h) := by
    rw [← rot_apply (secondK (chX x0) x1 x2 j)]
    unfold preK
    generalize firstK (chX x0) x1 x2 j = A
    generalize dynamicRotate 0 255#32 none (secondK (chX x0) x1 x2 j) rotates_S256x128_d0 = B
    pointwise []
    rw [hc]
    rfl
  rw [e, firstK_apply, secondK_apply]
  unfold preE s16
  rw [sum32]
  simp only [tK_apply, tE, chX_apply]
  refine congrArg₂ (· + ·) rfl (Finset.sum_congr rfl fun r _ => Finset.sum_congr rfl fun d _ => ?_)
  have er : (⟨16 * (i.val + 1) + r.val, by omega⟩ : Fin 4096) = ⟨16 * i.val + (16 + r.val), by omega⟩ := Fin.ext (by show 16 * (i.val + 1) + r.val = 16 * i.val + (16 + r.val); omega)
  rw [er]

/-- The last row has none. -/
theorem preK_last (h : Fin 128) : preK (chX x0) x1 x2 j (ix2 (255 : Fin 256) h) = 0 := by
  unfold preK
  generalize firstK (chX x0) x1 x2 j = A
  generalize dynamicRotate 0 255#32 none (secondK (chX x0) x1 x2 j) rotates_S256x128_d0 = B
  pointwise []
  rw [show IntOp.cmpi .slt 255#32 255#32 = 0#1 from by decide]
  rfl

/-- The hidden layer. -/
theorem hidK_apply (i : Fin 256) (h : Fin 128) : hidK (chX x0) x1 x2 j (ix2 i h) = siluE (preK (chX x0) x1 x2 j (ix2 i h)) := by
  unfold hidK
  generalize preK (chX x0) x1 x2 j = A
  pointwise [siluE]
  rw [zero_sub]

/-- The compressed row. -/
theorem oK_apply (i : Fin 256) (d : Fin 64) : oK (chX x0) x1 x2 x3 j (ix2 i d) = dotE (fun h => siluE (preK (chX x0) x1 x2 j (ix2 i h))) (fun h => x3 (ix3 j h d)) := by
  simp only [← hidK_apply]
  unfold oK
  refine (oG_apply _ _ i d).trans ?_
  exact congrArg (dotE _) (funext fun h => ld3 x3 j h d)

/-- The compressed row of a whole block. -/
theorem oK_block (i : Fin 255) (d : Fin 64) : oK (chX x0) x1 x2 x3 j (ix2 (⟨i.val, by omega⟩ : Fin 256) d)
    = resE (fun s d => x0 (ix2 s (⟨64 * j.val + d.val, by omega⟩ : Fin 128))) (fun k d => x1 (ix3 j k d)) (fun h k d => x2 (ix3 j (⟨64 * k.val + d.val, by omega⟩ : Fin 2048) h)) (fun h => x3 (ix3 j h d)) i := by
  rw [oK_apply]
  simp only [preK_apply]
  rfl
/-- The last row is zero. -/
theorem oK_last (d : Fin 64) : oK (chX x0) x1 x2 x3 j (ix2 (255 : Fin 256) d) = 0 := by
  rw [oK_apply]
  simp only [preK_last, silu_zero, dotE, zero_mul, Finset.sum_const_zero]

/-- The keys' block. -/
theorem pay4_apply (o : FVec Ideal S256x64 .f32) (b : Fin 1) (i : Fin 256) (d : Fin 64) : k0_pay1 (k0_pay96 o) (ix3 b i d) = o (ix2 i d) := by
  pointwise [k0_pay1, k0_pay96]
/-- The values' block. -/
theorem pay5_apply (o o' : FVec Ideal S256x64 .f32) (b : Fin 1) (i : Fin 256) (d : Fin 64) : k0_pay2 o o' (ix3 b d i) = o' (ix2 i d) := by
  pointwise [k0_pay2]
end Cert.Cmp
end
-- ==== Proof.Cmp.Ref.lean ====
module
public import proofs.«01_k».proof.Proof.Gen.Reference5Ideal.Read
public import proofs.«01_k».proof.Proof.Cmp.Spec
public import Idealize.ShloMosaic.Lib.KernelVsHost
@[expose] public section
set_option maxRecDepth 16384
noncomputable section
/-! The compression's reference, element by element. -/
namespace Cert.Cmp
open Idealize.ShloMosaic Idealize.ShloMosaic.TcCoe Cert.Reference5Ideal Cert.Reference5Ideal.Gen Cert.Reference5Ideal.Read
variable (x0 : S32768x384.Idx → EReal) (x1 : S2x32x64.Idx → EReal) (x2 : S2x2048x128.Idx → EReal) (x3 : S2x128x64.Idx → EReal)

/-- The whole number zero as an extended real. -/
theorem sitofp_zero : (FloatOps.sitofp .f32 0#32 : Ideal .f32) = (0 : EReal) := by
  show (((0#32 : BitVec 32).toInt : ℝ) : EReal) = 0
  simp

/-- The rows of a block, over every column. -/
theorem r3_apply (b : Fin 8) (i : Fin 255) (k : Fin 32) (q : Fin 384) :
    val_main_v3 (F := Ideal) x0 (ix4 b i k q) = x0 (ix2 (⟨4096 * b.val + (16 * i.val + k.val), by omega⟩ : Fin 32768) q) := by
  pointwise [val_main_v3, val_main_v2, val_main_v1, val_main_v0]
  split
  · exact congrArg x0 (congrArg₂ ix2 (Fin.ext (by show b.val * 4096 + i.val * 16 + k.val = 4096 * b.val + (16 * i.val + k.val); omega)) rfl)
  · exact congrArg x0 (congrArg₂ ix2 (Fin.ext (by show b.val * 4096 + (1 + i.val) * 16 + (k.val - 16) = 4096 * b.val + (16 * i.val + k.val); omega)) rfl)

/-- The rows of a block, half 0. -/
theorem r4_apply (b : Fin 8) (i : Fin 255) (k : Fin 32) (d : Fin 64) :
    val_main_v4 (F := Ideal) x0 (ix4 b i k d) = x0 (ix2 (⟨4096 * b.val + (16 * i.val + k.val), by omega⟩ : Fin 32768) (⟨d.val, by omega⟩ : Fin 384)) := by
  refine Eq.trans ?_ (r3_apply x0 b i k ⟨d.val, by omega⟩)
  pointwise [val_main_v4]
/-- With their positions. -/
theorem r9_apply (b : Fin 8) (i : Fin 255) (k : Fin 32) (d : Fin 64) :
    val_main_v9 (F := Ideal) x0 x1 (ix4 b i k d) = (fun (s : Fin 4096) (d : Fin 64) => x0 (ix2 (⟨4096 * b.val + s.val, by omega⟩ : Fin 32768) (⟨d.val, by omega⟩ : Fin 384))) ⟨16 * i.val + k.val, by omega⟩ d + x1 (ix3 0 k d) := by
  pointwise [val_main_v9, val_main_v8, val_main_v7, val_main_v6, val_main_v5]
  rw [r4_apply]
/-- Flattened. -/
theorem r10_apply (b : Fin 8) (i : Fin 255) (k : Fin 32) (d : Fin 64) (l : Fin 2048) (e : l.val = 64 * k.val + d.val) :
    val_main_v10 (F := Ideal) x0 x1 (ix3 b i l) = val_main_v9 (F := Ideal) x0 x1 (ix4 b i k d) := by
  rw [val_main_v10_apply]
  refine congrArg _ ?_
  funext a
  match a with
  | ⟨0, _⟩ => exact Fin.ext (by show ((b.val * 255 + i.val) * 2048 + l.val) / 522240 = b.val; omega)
  | ⟨1, _⟩ => exact Fin.ext (by show ((b.val * 255 + i.val) * 2048 + l.val) / 2048 % 255 = i.val; omega)
  | ⟨2, _⟩ => exact Fin.ext (by show ((b.val * 255 + i.val) * 2048 + l.val) / 64 % 32 = k.val; omega)
  | ⟨3, _⟩ => exact Fin.ext (by show ((b.val * 255 + i.val) * 2048 + l.val) % 64 = d.val; omega)
/-- The hidden layer before its gate. -/
theorem r13_apply (b : Fin 8) (i : Fin 255) (h : Fin 128) :
    val_main_v13 (F := Ideal) x0 x1 x2 (ix3 b i h)
      = preE (fun (s : Fin 4096) (d : Fin 64) => x0 (ix2 (⟨4096 * b.val + s.val, by omega⟩ : Fin 32768) (⟨d.val, by omega⟩ : Fin 384))) (fun k d => x1 (ix3 0 k d)) (fun k d => x2 (ix3 0 (⟨64 * k.val + d.val, by omega⟩ : Fin 2048) h)) i := by
  pointwise [val_main_v13, val_main_v12, val_main_v11]
  rw [sum2048]
  refine Finset.sum_congr rfl fun k _ => Finset.sum_congr rfl fun d _ => ?_
  rw [r10_apply x0 x1 b i k d _ rfl, r9_apply]
/-- The compressed rows. -/
theorem r17_apply (b : Fin 8) (i : Fin 255) (d : Fin 64) :
    val_main_v17 (F := Ideal) x0 x1 x2 x3 (ix3 b i d)
      = resE (fun (s : Fin 4096) (d : Fin 64) => x0 (ix2 (⟨4096 * b.val + s.val, by omega⟩ : Fin 32768) (⟨d.val, by omega⟩ : Fin 384))) (fun k d => x1 (ix3 0 k d)) (fun h k d => x2 (ix3 0 (⟨64 * k.val + d.val, by omega⟩ : Fin 2048) h)) (fun h => x3 (ix3 0 h d)) i := by
  pointwise [val_main_v17, val_main_v14, val_main_call0_v5, val_main_call0_v4, val_main_call0_cst_0, val_main_call0_v3, val_main_call0_v2, val_main_call0_cst, val_main_call0_v1, val_main_call0_v0, val_main_v16, val_main_v15, resE, siluE]
  simp only [r13_apply]
/-- A row with a whole block. -/
theorem rblock0 (b : Fin 8) (i : Fin 255) (d : Fin 64) :
    val_main_v19 (F := Ideal) x0 x1 x2 x3 (ix3 b (⟨i.val, by omega⟩ : Fin 256) d)
      = resE (fun (s : Fin 4096) (d : Fin 64) => x0 (ix2 (⟨4096 * b.val + s.val, by omega⟩ : Fin 32768) (⟨d.val, by omega⟩ : Fin 384))) (fun k d => x1 (ix3 0 k d)) (fun h k d => x2 (ix3 0 (⟨64 * k.val + d.val, by omega⟩ : Fin 2048) h)) (fun h => x3 (ix3 0 h d)) i := by
  rw [← r17_apply]
  have e : val_main_v18 (F := Ideal) x0 x1 x2 x3 (ix3 b (⟨i.val, by omega⟩ : Fin 256) d) = val_main_v17 (F := Ideal) x0 x1 x2 x3 (ix3 b i d) := by
    unfold val_main_v18
    refine pad_apply_of_inside _ _ _ _ _ _ _ _ _ fun a => ?_
    match a with
    | ⟨0, _⟩ => show b.val = 0 + b.val * (0 + 1); omega
    | ⟨1, _⟩ => show i.val = 0 + i.val * (0 + 1); omega
    | ⟨2, _⟩ => show d.val = 0 + d.val * (0 + 1); omega
  rw [← e]
  pointwise [val_main_v19]
/-- The last row is zero. -/
theorem rlast0 (b : Fin 8) (d : Fin 64) :
    val_main_v19 (F := Ideal) x0 x1 x2 x3 (ix3 b (255 : Fin 256) d) = 0 := by
  have e : val_main_v18 (F := Ideal) x0 x1 x2 x3 (ix3 b (255 : Fin 256) d) = 0 := by
    unfold val_main_v18
    rw [pad_apply_of_not_inside _ _ _ _ _ _ _ _ 1 (by
      show ¬ (0 ≤ 255 ∧ (255 - 0) % (0 + 1) = 0 ∧ (255 - 0) / (0 + 1) < 255); omega)]
    pointwise [val_main_call1_v0, val_main_c]
    exact sitofp_zero
  rw [← e]
  pointwise [val_main_v19]

/-- The rows of a block, half 1. -/
theorem r20_apply (b : Fin 8) (i : Fin 255) (k : Fin 32) (d : Fin 64) :
    val_main_v20 (F := Ideal) x0 (ix4 b i k d) = x0 (ix2 (⟨4096 * b.val + (16 * i.val + k.val), by omega⟩ : Fin 32768) (⟨64 + d.val, by omega⟩ : Fin 384)) := by
  refine Eq.trans ?_ (r3_apply x0 b i k ⟨64 + d.val, by omega⟩)
  pointwise [val_main_v20]
/-- With their positions. -/
theorem r25_apply (b : Fin 8) (i : Fin 255) (k : Fin 32) (d : Fin 64) :
    val_main_v25 (F := Ideal) x0 x1 (ix4 b i k d) = (fun (s : Fin 4096) (d : Fin 64) => x0 (ix2 (⟨4096 * b.val + s.val, by omega⟩ : Fin 32768) (⟨64 + d.val, by omega⟩ : Fin 384))) ⟨16 * i.val + k.val, by omega⟩ d + x1 (ix3 1 k d) := by
  pointwise [val_main_v25, val_main_v24, val_main_v23, val_main_v22, val_main_v21]
  rw [r20_apply]
/-- Flattened. -/
theorem r26_apply (b : Fin 8) (i : Fin 255) (k : Fin 32) (d : Fin 64) (l : Fin 2048) (e : l.val = 64 * k.val + d.val) :
    val_main_v26 (F := Ideal) x0 x1 (ix3 b i l) = val_main_v25 (F := Ideal) x0 x1 (ix4 b i k d) := by
  rw [val_main_v26_apply]
  refine congrArg _ ?_
  funext a
  match a with
  | ⟨0, _⟩ => exact Fin.ext (by show ((b.val * 255 + i.val) * 2048 + l.val) / 522240 = b.val; omega)
  | ⟨1, _⟩ => exact Fin.ext (by show ((b.val * 255 + i.val) * 2048 + l.val) / 2048 % 255 = i.val; omega)
  | ⟨2, _⟩ => exact Fin.ext (by show ((b.val * 255 + i.val) * 2048 + l.val) / 64 % 32 = k.val; omega)
  | ⟨3, _⟩ => exact Fin.ext (by show ((b.val * 255 + i.val) * 2048 + l.val) % 64 = d.val; omega)
/-- The hidden layer before its gate. -/
theorem r29_apply (b : Fin 8) (i : Fin 255) (h : Fin 128) :
    val_main_v29 (F := Ideal) x0 x1 x2 (ix3 b i h)
      = preE (fun (s : Fin 4096) (d : Fin 64) => x0 (ix2 (⟨4096 * b.val + s.val, by omega⟩ : Fin 32768) (⟨64 + d.val, by omega⟩ : Fin 384))) (fun k d => x1 (ix3 1 k d)) (fun k d => x2 (ix3 1 (⟨64 * k.val + d.val, by omega⟩ : Fin 2048) h)) i := by
  pointwise [val_main_v29, val_main_v28, val_main_v27]
  rw [sum2048]
  refine Finset.sum_congr rfl fun k _ => Finset.sum_congr rfl fun d _ => ?_
  rw [r26_apply x0 x1 b i k d _ rfl, r25_apply]
/-- The compressed rows. -/
theorem r33_apply (b : Fin 8) (i : Fin 255) (d : Fin 64) :
    val_main_v33 (F := Ideal) x0 x1 x2 x3 (ix3 b i d)
      = resE (fun (s : Fin 4096) (d : Fin 64) => x0 (ix2 (⟨4096 * b.val + s.val, by omega⟩ : Fin 32768) (⟨64 + d.val, by omega⟩ : Fin 384))) (fun k d => x1 (ix3 1 k d)) (fun h k d => x2 (ix3 1 (⟨64 * k.val + d.val, by omega⟩ : Fin 2048) h)) (fun h => x3 (ix3 1 h d)) i := by
  pointwise [val_main_v33, val_main_v30, val_main_call2_v5, val_main_call2_v4, val_main_call2_cst_0, val_main_call2_v3, val_main_call2_v2, val_main_call2_cst, val_main_call2_v1, val_main_call2_v0, val_main_v32, val_main_v31, resE, siluE]
  simp only [r29_apply]
/-- A row with a whole block. -/
theorem rblock1 (b : Fin 8) (i : Fin 255) (d : Fin 64) :
    val_main_v36 (F := Ideal) x0 x1 x2 x3 (ix3 b d (⟨i.val, by omega⟩ : Fin 256))
      = resE (fun (s : Fin 4096) (d : Fin 64) => x0 (ix2 (⟨4096 * b.val + s.val, by omega⟩ : Fin 32768) (⟨64 + d.val, by omega⟩ : Fin 384))) (fun k d => x1 (ix3 1 k d)) (fun h k d => x2 (ix3 1 (⟨64 * k.val + d.val, by omega⟩ : Fin 2048) h)) (fun h => x3 (ix3 1 h d)) i := by
  rw [← r33_apply]
  have e : val_main_v34 (F := Ideal) x0 x1 x2 x3 (ix3 b (⟨i.val, by omega⟩ : Fin 256) d) = val_main_v33 (F := Ideal) x0 x1 x2 x3 (ix3 b i d) := by
    unfold val_main_v34
    refine pad_apply_of_inside _ _ _ _ _ _ _ _ _ fun a => ?_
    match a with
    | ⟨0, _⟩ => show b.val = 0 + b.val * (0 + 1); omega
    | ⟨1, _⟩ => show i.val = 0 + i.val * (0 + 1); omega
    | ⟨2, _⟩ => show d.val = 0 + d.val * (0 + 1); omega
  rw [← e]
  pointwise [val_main_v36, val_main_v35]
/-- The last row is zero. -/
theorem rlast1 (b : Fin 8) (d : Fin 64) :
    val_main_v36 (F := Ideal) x0 x1 x2 x3 (ix3 b d (255 : Fin 256)) = 0 := by
  have e : val_main_v34 (F := Ideal) x0 x1 x2 x3 (ix3 b (255 : Fin 256) d) = 0 := by
    unfold val_main_v34
    rw [pad_apply_of_not_inside _ _ _ _ _ _ _ _ 1 (by
      show ¬ (0 ≤ 255 ∧ (255 - 0) % (0 + 1) = 0 ∧ (255 - 0) / (0 + 1) < 255); omega)]
    pointwise [val_main_call3_v0, val_main_c_0]
    exact sitofp_zero
  rw [← e]
  pointwise [val_main_v36, val_main_v35]
end Cert.Cmp
end
-- ==== Proof.Cmp.Final.lean ====
module
public import proofs.«01_k».proof.Proof.Cmp.Elem
public import proofs.«01_k».proof.Proof.Cmp.Ref
public import Idealize.ShloMosaic.Lib.StableHlo.RunRead
@[expose] public section
set_option maxRecDepth 16384
noncomputable section
/-! The compression's two arrays are the reference's. -/
namespace Cert.Cmp
open Idealize.ShloMosaic Idealize.ShloMosaic.TcCoe Idealize.SL.Sem Cert.Kernel5Ideal Cert.Kernel5Ideal.Gen

variable (m : (ℓ : Loc nD τ sig) → Buf (Elt Ideal) ℓ) (c : Dev nD) (t : Fin cfg0.N)

/-- Where every window stands at a grid point. -/
theorem idx : ∀ t : Fin cfg0.N, win0_0.index t = ![t.val, 0] ∧ win0_1.index t = ![0, 0, 0] ∧ win0_2.index t = ![0, 0, 0] ∧ win0_3.index t = ![0, 0, 0]
    ∧ win0_4.index t = ![t.val, 0, 0] ∧ win0_5.index t = ![t.val, 0, 0] :=
  (by decide +kernel : ∀ t : Fin grid0.N, _)

/-- The sequence of a grid point. -/
def seqOf (t : Fin cfg0.N) : Fin 8 := ⟨t.val, t.isLt⟩

/-- The keys and values of every token. -/
abbrev a0 : S32768x384.Idx → EReal := m ((c : Thread nD τ).loc main_arg0)
/-- The positions. -/
abbrev a1 : S2x32x64.Idx → EReal := m ((c : Thread nD τ).loc main_arg1)
/-- The first weights. -/
abbrev a2 : S2x2048x128.Idx → EReal := m ((c : Thread nD τ).loc main_arg2)
/-- The second weights. -/
abbrev a3 : S2x128x64.Idx → EReal := m ((c : Thread nD τ).loc main_arg3)

/-- A sequence's block of tokens. -/
theorem blk0 (r : Fin 4096) (q : Fin 128) : (iblk m c 0 t : FVec Ideal S4096x128 .f32) (ix2 r q)
    = a0 m c (ix2 (⟨4096 * (seqOf t).val + r.val, by omega⟩ : Fin 32768) (⟨q.val, by omega⟩ : Fin 384)) := by
  have h : (seqOf t).val = t.val := rfl
  blk_ext! [iblk, V, idx t]
/-- The positions. -/
theorem blk1 (j : Fin 2) (k : Fin 32) (d : Fin 64) : (iblk m c 1 t : FVec Ideal S2x32x64 .f32) (ix3 j k d) = a1 m c (ix3 j k d) := by
  blk_ext! [iblk, V, idx t]
/-- The first weights. -/
theorem blk2 (j : Fin 2) (k : Fin 2048) (d : Fin 128) : (iblk m c 2 t : FVec Ideal S2x2048x128 .f32) (ix3 j k d) = a2 m c (ix3 j k d) := by
  blk_ext! [iblk, V, idx t]
/-- The second weights. -/
theorem blk3 (j : Fin 2) (k : Fin 128) (d : Fin 64) : (iblk m c 3 t : FVec Ideal S2x128x64 .f32) (ix3 j k d) = a3 m c (ix3 j k d) := by
  blk_ext! [iblk, V, idx t]

/-- A grid point's keys are the reference's. -/
theorem point0 (i : Fin 256) (d : Fin 64) :
    oK (chX (iblk m c 0 t)) (iblk m c 1 t) (iblk m c 2 t) (iblk m c 3 t) 0 (ix2 i d)
      = Cert.Reference5Ideal.Read.val_main_v19 (F := Ideal) (a0 m c) (a1 m c) (a2 m c) (a3 m c) (ix3 (seqOf t) i d) := by
  by_cases hi : i.val < 255
  · refine (oK_block (iblk m c 0 t) (iblk m c 1 t) (iblk m c 2 t) (iblk m c 3 t) 0 ⟨i.val, hi⟩ d).trans (Eq.trans ?_ (rblock0 (a0 m c) (a1 m c) (a2 m c) (a3 m c) (seqOf t) ⟨i.val, hi⟩ d).symm)
    simp only [blk0, blk1, blk2, blk3]
    refine congrFun (congrFun (congrFun (congrFun (congrArg resE ?_) _) _) _) _
    funext s d
    exact congrArg (a0 m c) (congrArg₂ ix2 rfl (Fin.ext (by show 64 * 0 + d.val = d.val; omega)))
  · obtain rfl : i = (255 : Fin 256) := Fin.ext (by show i.val = 255; omega)
    exact (oK_last _ _ _ _ 0 d).trans (rlast0 _ _ _ _ (seqOf t) d).symm

/-- A grid point's values are the reference's. -/
theorem point1 (i : Fin 256) (d : Fin 64) :
    oK (chX (iblk m c 0 t)) (iblk m c 1 t) (iblk m c 2 t) (iblk m c 3 t) 1 (ix2 i d)
      = Cert.Reference5Ideal.Read.val_main_v36 (F := Ideal) (a0 m c) (a1 m c) (a2 m c) (a3 m c) (ix3 (seqOf t) d i) := by
  by_cases hi : i.val < 255
  · refine (oK_block (iblk m c 0 t) (iblk m c 1 t) (iblk m c 2 t) (iblk m c 3 t) 1 ⟨i.val, hi⟩ d).trans (Eq.trans ?_ (rblock1 (a0 m c) (a1 m c) (a2 m c) (a3 m c) (seqOf t) ⟨i.val, hi⟩ d).symm)
    simp only [blk0, blk1, blk2, blk3]
    refine congrFun (congrFun (congrFun (congrFun (congrArg resE ?_) _) _) _) _
    funext s d
    exact congrArg (a0 m c) (congrArg₂ ix2 rfl (Fin.ext (by show 64 * 1 + d.val = 64 + d.val; omega)))
  · obtain rfl : i = (255 : Fin 256) := Fin.ext (by show i.val = 255; omega)
    exact (oK_last _ _ _ _ 1 d).trans (rlast1 _ _ _ _ (seqOf t) d).symm

/-- What a grid point leaves in its block of keys is the reference's there. -/
theorem left4 (b : Fin 1) (i : Fin 256) (d : Fin 64) :
    (outsAt0 m c t).1 (ix3 b i d) = Cert.Reference5Ideal.Read.val_main_v19 (F := Ideal) (a0 m c) (a1 m c) (a2 m c) (a3 m c) (ix3 (seqOf t) i d) := by
  have e := out4_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
  have e' : (outsAt0 m c t).1 = out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) := by simp only [outsAt0]
  rw [e', e]
  exact (pay4_apply _ b i d).trans (point0 m c t i d)

/-- The kernel's keys are the reference's over the same arguments. -/
theorem final4 : (dats m 0 c).arrAt 4 cfg0.N
    = (Cert.Reference5Ideal.Read.val_main_v19 (F := Ideal) (a0 m c) (a1 m c) (a2 m c) (a3 m c) : FVec Ideal S8x256x64 .bf16) := by
  refine (dats m 0 c).arrAt_eq_of_covers 4 _ (by decide +kernel) fun t _ y => ?_
  blk_simp
  rw [after0_4]
  obtain ⟨b, i, d, rfl⟩ : ∃ (b : Fin 1) (i : Fin 256) (d : Fin 64), y = ix3 b i d := ⟨y 0, y 1, y 2, eq_ix3 y⟩
  refine (left4 m c t b i d).trans ?_
  have h : (seqOf t).val = t.val := rfl
  generalize Cert.Reference5Ideal.Read.val_main_v19 (F := Ideal) _ _ _ _ = z
  blk_ext [idx t]

/-- What a grid point leaves in its block of values is the reference's there. -/
theorem left5 (b : Fin 1) (i : Fin 256) (d : Fin 64) :
    (outsAt0 m c t).2 (ix3 b d i) = Cert.Reference5Ideal.Read.val_main_v36 (F := Ideal) (a0 m c) (a1 m c) (a2 m c) (a3 m c) (ix3 (seqOf t) d i) := by
  have e := out5_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
  have e' : (outsAt0 m c t).2 = out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) := by simp only [outsAt0]
  rw [e', e]
  exact (pay5_apply _ _ b i d).trans (point1 m c t i d)

/-- The kernel's values are the reference's over the same arguments. -/
theorem final5 : (dats m 0 c).arrAt 5 cfg0.N
    = (Cert.Reference5Ideal.Read.val_main_v36 (F := Ideal) (a0 m c) (a1 m c) (a2 m c) (a3 m c) : FVec Ideal S8x64x256 .bf16) := by
  refine (dats m 0 c).arrAt_eq_of_covers 5 _ (by decide +kernel) fun t _ y => ?_
  blk_simp
  rw [after0_5]
  obtain ⟨b, d, i, rfl⟩ : ∃ (b : Fin 1) (d : Fin 64) (i : Fin 256), y = ix3 b d i := ⟨y 0, y 1, y 2, eq_ix3 y⟩
  refine (left5 m c t b i d).trans ?_
  have h : (seqOf t).val = t.val := rfl
  generalize Cert.Reference5Ideal.Read.val_main_v36 (F := Ideal) _ _ _ _ = z
  blk_ext [idx t]
end Cert.Cmp
end
-- ==== Proof.lean ====
/- The certificate's claims, assembled: each program's run and frame, and the values of the linear attention, the layer tail, the input projection and the gated MLP. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Tail.Final
public import proofs.«01_k».proof.Proof.InProj.Final
public import proofs.«01_k».proof.Proof.Gen.Pre_finite
public import proofs.«01_k».proof.Proof.Gla.Final
public import proofs.«01_k».proof.Proof.Gla.Pre
public import proofs.«01_k».proof.Proof.Gmlp.Final
public import proofs.«01_k».proof.Proof.Cmp.Final
public import Idealize.ShloMosaic.Lib.Claim
public import Idealize.ShloMosaic.Adequacy
public import Idealize.ShloMosaic.Init

@[expose] public section

noncomputable section

namespace Cert.Proof

open Idealize.ShloMosaic Idealize.SL.Sem

/-- The linear attention's reference runs its sixty-four chunks, leaves its arguments alone and its counters at zero. -/
theorem gla_reference_frame : Cert.quiescent_ReferenceIdeal := by
  intro m g _
  exact Idealize.ShloMosaic.θ_run_mono (Cert.ReferenceIdeal.Value.run m g) fun r hr =>
    ⟨fun c => (hr c).2, sem_eq_zero_of_no_sems (by decide) r.2⟩

section
open Cert.ReferenceIdeal

/-- The linear attention's reference ends with the norm and gate of its last chunk's array as its result and leaves its arguments alone. -/
theorem gla_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = Cert.Gla.Ref.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (Value.run m ρ) fun _ hr c =>
    ⟨(hr c).1.trans (Cert.Gla.Ref.out_eq m c), (hr c).2⟩

end

/-- The linear attention's kernel and its reference compute the same array from finite queries, keys, values and gate weights. -/
theorem gla_value : Cert.algebraic_KernelIdeal_ReferenceIdeal_pre_finite (hPre_finite := Cert.Pre_finite.Gen.facts) := by
  pair_intro
  · run_from Cert.KernelIdeal.Value.run_blocks m g
  · run_from gla_reference_run m' g'
    obtain ⟨n0, n1, n4⟩ := Cert.Gla.pre_all _ _ _ _ _ _ (congrFun (hpre c) ValueIdx.ix0)
    obtain ⟨e0, e1, e2, e3, e4, e5⟩ := hagree c
    exact (Cert.Gla.result_of m' c _ _ _ _ _ _ e0 e1 e2 e3 e4 e5).trans (Cert.Gla.final m c ⟨n0, n1, n4⟩).symm

/-- The tail's reference runs, leaves its arguments alone and its counters at zero. -/
theorem tail_reference_frame : Cert.quiescent_Reference2Ideal := by
  intro m g _
  exact Idealize.ShloMosaic.θ_run_mono (Cert.Reference2Ideal.Value.run m g) fun r hr =>
    ⟨fun c => (hr c).2, sem_eq_zero_of_no_sems (by decide) r.2⟩

section
open Cert.Reference2Ideal

/-- The tail's reference ends with its last stage as its result, over its own arguments, which it leaves alone. -/
theorem tail_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v138) = Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  θ_run_mono (Value.run m ρ) fun _ hr c =>
    ⟨(hr c).1.trans (Read.val_main_v138_eq (F := Ideal) (StableHlo.launchContents m c)), (hr c).2⟩

end

/-- The tail kernel and its reference compute the same array. -/
theorem tail_value : Cert.algebraic_Kernel2Ideal_Reference2Ideal := by
  pair_intro
  · run_from Cert.Kernel2Ideal.Value.run_blocks m g
  · run_from tail_reference_run m' g'
    exact (Cert.Tail.final m c).symm

section
open Cert.Reference3Ideal

/-- The input projection's reference ends with its eight parts as its results and leaves its arguments alone. -/
theorem inproj_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = Read.val_main_v43 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v45) = Read.val_main_v45 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v46) = Read.val_main_v46 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v48) = Read.val_main_v48 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v50) = Read.val_main_v50 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v52) = Read.val_main_v52 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v54) = Read.val_main_v54 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v56) = Read.val_main_v56 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m ρ) fun _ hr c => by
    obtain ⟨h43, h45, h46, h48, h50, h52, h54, h56, rest⟩ := hr c
    exact ⟨h43.trans (Read.val_main_v43_eq (F := Ideal) (m ((c.tc : Thread nD τ).loc main_arg0)) (m ((c.tc : Thread nD τ).loc main_arg1)) (m ((c.tc : Thread nD τ).loc main_arg2)) (m ((c.tc : Thread nD τ).loc main_arg3))), h45.trans (Read.val_main_v45_eq (F := Ideal) (m ((c.tc : Thread nD τ).loc main_arg0)) (m ((c.tc : Thread nD τ).loc main_arg1)) (m ((c.tc : Thread nD τ).loc main_arg2)) (m ((c.tc : Thread nD τ).loc main_arg3))), h46.trans (Read.val_main_v46_eq (F := Ideal) (m ((c.tc : Thread nD τ).loc main_arg0)) (m ((c.tc : Thread nD τ).loc main_arg1)) (m ((c.tc : Thread nD τ).loc main_arg2)) (m ((c.tc : Thread nD τ).loc main_arg3))), h48.trans (Read.val_main_v48_eq (F := Ideal) m c), h50.trans (Read.val_main_v50_eq (F := Ideal) (m ((c.tc : Thread nD τ).loc main_arg0)) (m ((c.tc : Thread nD τ).loc main_arg1)) (m ((c.tc : Thread nD τ).loc main_arg2)) (m ((c.tc : Thread nD τ).loc main_arg3))), h52.trans (Read.val_main_v52_eq (F := Ideal) (m ((c.tc : Thread nD τ).loc main_arg0)) (m ((c.tc : Thread nD τ).loc main_arg1)) (m ((c.tc : Thread nD τ).loc main_arg2)) (m ((c.tc : Thread nD τ).loc main_arg3))), h54.trans (Read.val_main_v54_eq (F := Ideal) (m ((c.tc : Thread nD τ).loc main_arg0)) (m ((c.tc : Thread nD τ).loc main_arg1)) (m ((c.tc : Thread nD τ).loc main_arg2)) (m ((c.tc : Thread nD τ).loc main_arg3))), h56.trans (Read.val_main_v56_eq (F := Ideal) (m ((c.tc : Thread nD τ).loc main_arg0)) (m ((c.tc : Thread nD τ).loc main_arg1)) (m ((c.tc : Thread nD τ).loc main_arg2)) (m ((c.tc : Thread nD τ).loc main_arg3))), rest⟩

end

/-- The input projection's reference runs, leaves its arguments alone and its counters at zero. -/
theorem inproj_reference_frame : Cert.quiescent_Reference3Ideal := by
  intro m g _
  exact Idealize.ShloMosaic.θ_run_mono (inproj_reference_run m g) fun r hr =>
    ⟨fun c => by obtain ⟨-, -, -, -, -, -, -, -, rest⟩ := hr c; exact rest, sem_eq_zero_of_no_sems (by decide) r.2⟩

/-- The input projection and its reference compute the same eight arrays. -/
theorem inproj_value : Cert.algebraic_Kernel3Ideal_Reference3Ideal := by
  pair_intro
  · run_from Cert.Kernel3Ideal.Value.run_blocks m g
  · run_from inproj_reference_run m' g'
    exacts [(Cert.InProj.final4 m c).symm, (Cert.InProj.final5 m c).symm, (Cert.InProj.final6 m c).symm, (Cert.InProj.final7 m c).symm,
      (Cert.InProj.final8 m c).symm, (Cert.InProj.final9 m c).symm, (Cert.InProj.final10 m c).symm, (Cert.InProj.final11 m c).symm]

/-- The gated MLP's reference runs, leaves its arguments alone and its counters at zero. -/
theorem gmlp_reference_frame : Cert.quiescent_Reference4Ideal := by
  intro m g _
  exact Idealize.ShloMosaic.θ_run_mono (Cert.Reference4Ideal.Value.run m g) fun r hr =>
    ⟨fun c => (hr c).2, sem_eq_zero_of_no_sems (by decide) r.2⟩

section
open Cert.Reference4Ideal

/-- The gated MLP's reference ends with its last stage as its result, over arguments given by name, and leaves its arguments alone. -/
theorem gmlp_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38) = Read.val_main_v38 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m ρ) fun _ hr c =>
    ⟨(hr c).1.trans (Read.val_main_v38_eq (F := Ideal) m c), (hr c).2⟩

end

/-- The gated MLP and its reference compute the same array from finite values under the norm. -/
theorem gmlp_value : Cert.algebraic_Kernel4Ideal_Reference4Ideal_pre_finite4 (hPre_finite4 := Cert.Pre_finite4.Gen.facts) := by
  pair_intro
  · run_from Cert.Kernel4Ideal.Value.run_blocks m g
  · run_from gmlp_reference_run m' g'
    exact (Cert.Gmlp.final m c (Cert.Gmlp.pre_num _ _ _ (congrFun (hpre c) ValueIdx.ix0))).symm

/-- The compression's reference runs, leaves its arguments alone and its counters at zero. -/
theorem cmp_reference_frame : Cert.quiescent_Reference5Ideal := by
  intro m g _
  exact Idealize.ShloMosaic.θ_run_mono (Cert.Reference5Ideal.Value.run m g) fun r hr =>
    ⟨fun c => (hr c).2.2, sem_eq_zero_of_no_sems (by decide) r.2⟩

section
open Cert.Reference5Ideal

/-- The compression's reference ends with its last stages as its results, over arguments given by name, and leaves its arguments alone. -/
theorem cmp_reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = Read.val_main_v19 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36) = Read.val_main_v36 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m ρ) fun _ hr c =>
    ⟨(hr c).1.trans (Read.val_main_v19_eq (F := Ideal) _ _ _ _), (hr c).2.1.trans (Read.val_main_v36_eq (F := Ideal) _ _ _ _), (hr c).2.2⟩

end

/-- The compression and its reference compute the same two arrays. -/
theorem cmp_value : Cert.algebraic_Kernel5Ideal_Reference5Ideal := by
  pair_intro
  · run_from Cert.Kernel5Ideal.Value.run_blocks m g
  · run_from cmp_reference_run m' g'
    exacts [(Cert.Cmp.final4 m c).symm, (Cert.Cmp.final5 m c).symm]

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite4.Gen.facts,
  fun m g _ => Cert.Kernel.Gen.frame m g, fun m g _ => Cert.KernelIdeal.Gen.frame m g, fun m g _ => Cert.KernelIdeal.Gen.frame m g,
  gla_reference_frame, fun m g _ => gla_reference_frame m g trivial,
  fun m g _ => Cert.Kernel2.Gen.frame m g, fun m g _ => Cert.Kernel2Ideal.Gen.frame m g, tail_reference_frame,
  fun m g _ => Cert.Kernel3.Gen.frame m g, fun m g _ => Cert.Kernel3Ideal.Gen.frame m g, inproj_reference_frame,
  fun m g _ => Cert.Kernel4.Gen.frame m g, fun m g _ => Cert.Kernel4Ideal.Gen.frame m g, fun m g _ => Cert.Kernel4Ideal.Gen.frame m g,
  gmlp_reference_frame, fun m g _ => gmlp_reference_frame m g trivial,
  fun m g _ => Cert.Kernel5.Gen.frame m g, fun m g _ => Cert.Kernel5Ideal.Gen.frame m g, cmp_reference_frame,
  trivial, gla_value, trivial, tail_value, trivial, inproj_value, trivial, gmlp_value, trivial, cmp_value⟩

end Cert.Proof

end
